-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  IdealRules.named_const.Statement Cert.KernelIdeal.κ "score_scale_log2e" .f32 0x3DE995B3#32 (((Real.sqrt 160)⁻¹ * (Real.log 2)⁻¹ : ℝ) : EReal)

def preserves_Reference_ReferenceIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v10)) (v5 : (c : Dev Cert.KernelIdeal.nD) → Buf (Elt Ideal) ((c.tc : Thread Cert.KernelIdeal.nD Cert.KernelIdeal.τ).loc Cert.KernelIdeal.main_v11)) (v6 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_v11) = v5 c
          ∧ r.2.mem ((c.tc : Thread Cert.KernelIdeal.nD Cert.KernelIdeal.τ).loc Cert.KernelIdeal.main_v12) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v133) = v3 c
          ∧ r.2.mem ((c.tc : Thread Cert.ReferenceIdeal.nD Cert.ReferenceIdeal.τ).loc Cert.ReferenceIdeal.main_v51) = v4 c
          ∧ r.2.mem ((c.tc : Thread Cert.ReferenceIdeal.nD Cert.ReferenceIdeal.τ).loc Cert.ReferenceIdeal.main_v134) = v5 c
          ∧ r.2.mem ((c.tc : Thread Cert.ReferenceIdeal.nD Cert.ReferenceIdeal.τ).loc Cert.ReferenceIdeal.main_v77) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference)
    ∧ preserves_Kernel_KernelIdeal
    ∧ preserves_Reference_ReferenceIdeal
    ∧ algebraic_KernelIdeal_ReferenceIdeal_pre_in_range (hKernelIdeal := hKernelIdeal) (hReferenceIdeal := hReferenceIdeal) (hPre_in_range := hPre_in_range)
-- ==== Pre_in_range.lean ====
abbrev S4x512x2880 : Shape := ⟨3, ![4, 512, 2880]⟩
abbrev S4x512x960 : Shape := ⟨3, ![4, 512, 960]⟩
abbrev S4 : Shape := ⟨1, ![4]⟩
abbrev S_ : Shape := ⟨0, ![]⟩

class Facts : Prop where
  bitsLt_bf16_f32 : FTy.bits .bf16 < FTy.bits .f32
  bcast_S_S4x512x2880 : S_.BroadcastsInDim S4x512x2880 (![] : Fin 0 → Fin S4x512x2880.rank)
  reducesTo_S4x512x2880_S_d0_1_2 : S4x512x2880.ReducesTo [0, 1, 2] S_
  h_S_ : 0 < S_.numel
  bcast_S_S4x512x960 : S_.BroadcastsInDim S4x512x960 (![] : Fin 0 → Fin S4x512x960.rank)
  reducesTo_S4x512x960_S_d0_1_2 : S4x512x960.ReducesTo [0, 1, 2] S_
  bcast_S_S4 : S_.BroadcastsInDim S4 (![] : Fin 0 → Fin S4.rank)
  reducesTo_S4_S_d0 : S4.ReducesTo [0] S_

variable [Facts]

def fn_part1 {F : FTy → Type} [FloatOps F] (main_arg3 : IVec S4 32) (main_v16 : IVec S_ 1) (main_c_4 : IVec S_ 32) : IVec S_ 1 :=
  let main_v17 : IVec S4 32 := broadcastInDim S4 ![] bcast_S_S4 main_c_4
  let main_v18 : IVec S4 1 := cmpi .sle main_arg3 main_v17
  let main_c_5 : IVec S_ 1 := constantI S_ 1 1#1
  let main_v19 : IVec S_ 1 := (fun x v => Host.reduce IntOp.andi x v reducesTo_S4_S_d0 h_S_) main_v18 main_c_5
  let main_v20 : IVec S_ 1 := andi main_v16 main_v19
  main_v20

def fn {F : FTy → Type} [FloatOps F] (main_arg0 : FVec F S4x512x2880 .bf16) (main_arg1 : FVec F S4x512x960 .bf16) (main_arg2 : FVec F S4x512x960 .bf16) (main_arg3 : IVec S4 32) : IVec S_ 1 :=
  let main_v0 : FVec F S4x512x2880 .f32 := (extf .f32 · bitsLt_bf16_f32) main_arg0
  let main_v1 : FVec F S4x512x2880 .f32 := Host.absf main_v0
  let main_cst : FVec F S_ .f32 := constant S_ .f32 0x7F7F0000#32
  let main_v2 : FVec F S4x512x2880 .f32 := broadcastInDim S4x512x2880 ![] bcast_S_S4x512x2880 main_cst
  let main_v3 : IVec S4x512x2880 1 := cmpf .ole main_v1 main_v2
  let main_c : IVec S_ 1 := constantI S_ 1 1#1
  let main_v4 : IVec S_ 1 := (fun x v => Host.reduce IntOp.andi x v reducesTo_S4x512x2880_S_d0_1_2 h_S_) main_v3 main_c
  let main_v5 : FVec F S4x512x960 .f32 := (extf .f32 · bitsLt_bf16_f32) main_arg1
  let main_v6 : FVec F S4x512x960 .f32 := Host.absf main_v5
  let main_cst_0 : FVec F S_ .f32 := constant S_ .f32 0x7F7F0000#32
  let main_v7 : FVec F S4x512x960 .f32 := broadcastInDim S4x512x960 ![] bcast_S_S4x512x960 main_cst_0
  let main_v8 : IVec S4x512x960 1 := cmpf .ole main_v6 main_v7
  let main_c_1 : IVec S_ 1 := constantI S_ 1 1#1
  let main_v9 : IVec S_ 1 := (fun x v => Host.reduce IntOp.andi x v reducesTo_S4x512x960_S_d0_1_2 h_S_) main_v8 main_c_1
  let main_v10 : IVec S_ 1 := andi main_v4 main_v9
  let main_v11 : FVec F S4x512x960 .f32 := (extf .f32 · bitsLt_bf16_f32) main_arg2
  let main_v12 : FVec F S4x512x960 .f32 := Host.absf main_v11
  let main_cst_2 : FVec F S_ .f32 := constant S_ .f32 0x7F7F0000#32
  let main_v13 : FVec F S4x512x960 .f32 := broadcastInDim S4x512x960 ![] bcast_S_S4x512x960 main_cst_2
  let main_v14 : IVec S4x512x960 1 := cmpf .ole main_v12 main_v13
  let main_c_3 : IVec S_ 1 := constantI S_ 1 1#1
  let main_v15 : IVec S_ 1 := (fun x v => Host.reduce IntOp.andi x v reducesTo_S4x512x960_S_d0_1_2 h_S_) main_v14 main_c_3
  let main_v16 : IVec S_ 1 := andi main_v10 main_v15
  let main_c_4 : IVec S_ 32 := constantI S_ 32 2147483520#32
  fn_part1 (F := F) main_arg3 main_v16 main_c_4
-- ==== Kernel.lean ====
abbrev S4x512x2880 : Shape := ⟨3, ![4, 512, 2880]⟩
abbrev S4x512x960 : Shape := ⟨3, ![4, 512, 960]⟩
abbrev S4 : Shape := ⟨1, ![4]⟩
abbrev S4x2880x512 : Shape := ⟨3, ![4, 2880, 512]⟩
abbrev S4x960x512 : Shape := ⟨3, ![4, 960, 512]⟩
abbrev S4x18x160x512 : Shape := ⟨4, ![4, 18, 160, 512]⟩
abbrev S4x18x1x512 : Shape := ⟨4, ![4, 18, 1, 512]⟩
abbrev S4x6x160x512 : Shape := ⟨4, ![4, 6, 160, 512]⟩
abbrev S4x6x1x512 : Shape := ⟨4, ![4, 6, 1, 512]⟩
abbrev S4x6x160x1 : Shape := ⟨4, ![4, 6, 160, 1]⟩
abbrev S1x480x512 : Shape := ⟨3, ![1, 480, 512]⟩
abbrev S1x160x512 : Shape := ⟨3, ![1, 160, 512]⟩
abbrev S1x3x160x512 : Shape := ⟨4, ![1, 3, 160, 512]⟩
abbrev S1x3x1x512 : Shape := ⟨4, ![1, 3, 1, 512]⟩
abbrev S1x1x160x512 : Shape := ⟨4, ![1, 1, 160, 512]⟩
abbrev S1x1x1x512 : Shape := ⟨4, ![1, 1, 1, 512]⟩
abbrev S1x1x160x1 : Shape := ⟨4, ![1, 1, 160, 1]⟩
abbrev S512x160 : Shape := ⟨2, ![512, 160]⟩
abbrev S512x128 : Shape := ⟨2, ![512, 128]⟩
abbrev S1 : Shape := ⟨1, ![1]⟩
abbrev S160x512 : Shape := ⟨2, ![160, 512]⟩
abbrev S512 : Shape := ⟨1, ![512]⟩
abbrev S1x512 : Shape := ⟨2, ![1, 512]⟩
abbrev S1x128 : Shape := ⟨2, ![1, 128]⟩
abbrev S128x128 : Shape := ⟨2, ![128, 128]⟩
abbrev S160 : Shape := ⟨1, ![160]⟩
abbrev S160x1 : Shape := ⟨2, ![160, 1]⟩
abbrev S1x1x160x128 : Shape := ⟨4, ![1, 1, 160, 128]⟩
abbrev S160x128 : Shape := ⟨2, ![160, 128]⟩
abbrev S160x384 : Shape := ⟨2, ![160, 384]⟩
abbrev S128x160 : Shape := ⟨2, ![128, 160]⟩
abbrev S128x384 : Shape := ⟨2, ![128, 384]⟩
abbrev S128 : Shape := ⟨1, ![128]⟩
abbrev S1x160x128 : Shape := ⟨3, ![1, 160, 128]⟩
abbrev S256x160 : Shape := ⟨2, ![256, 160]⟩
abbrev S256x384 : Shape := ⟨2, ![256, 384]⟩
abbrev S256x128 : Shape := ⟨2, ![256, 128]⟩
abbrev S1x1x160x256 : Shape := ⟨4, ![1, 1, 160, 256]⟩
abbrev S160x256 : Shape := ⟨2, ![160, 256]⟩
abbrev S384x160 : Shape := ⟨2, ![384, 160]⟩
abbrev S384x384 : Shape := ⟨2, ![384, 384]⟩
abbrev S384x128 : Shape := ⟨2, ![384, 128]⟩
abbrev S1x1x160x384 : Shape := ⟨4, ![1, 1, 160, 384]⟩
abbrev S512x384 : Shape := ⟨2, ![512, 384]⟩
abbrev S4x512x18x160 : Shape := ⟨4, ![4, 512, 18, 160]⟩
abbrev S4x18x512 : Shape := ⟨3, ![4, 18, 512]⟩
abbrev S4x512x18 : Shape := ⟨3, ![4, 512, 18]⟩
abbrev S4x512x6x160 : Shape := ⟨4, ![4, 512, 6, 160]⟩
abbrev S4x6x512 : Shape := ⟨3, ![4, 6, 512]⟩
abbrev S4x512x6 : Shape := ⟨3, ![4, 512, 6]⟩
abbrev S4x6x160 : Shape := ⟨3, ![4, 6, 160]⟩

abbrev nBuf : Space → Nat
  | .hbm => 22
  | .vmem => 22
  | .smem => 1
  | _ => 0

abbrev bufTy : (tb : Table) → Fin (tcTables nBuf tb) → BufTy
  | .hbm, ⟨0, _⟩ => ⟨S4x512x2880, .bf16⟩
  | .hbm, ⟨1, _⟩ => ⟨S4x512x960, .bf16⟩
  | .hbm, ⟨2, _⟩ => ⟨S4x512x960, .bf16⟩
  | .hbm, ⟨3, _⟩ => ⟨S4x2880x512, .bf16⟩
  | .hbm, ⟨4, _⟩ => ⟨S4x960x512, .bf16⟩
  | .hbm, ⟨5, _⟩ => ⟨S4x960x512, .bf16⟩
  | .hbm, ⟨6, _⟩ => ⟨S4x2880x512, .bf16⟩
  | .hbm, ⟨7, _⟩ => ⟨S4x18x160x512, .fp8e4m3⟩
  | .hbm, ⟨8, _⟩ => ⟨S4x18x1x512, .f32⟩
  | .hbm, ⟨9, _⟩ => ⟨S4x6x160x512, .fp8e4m3⟩
  | .hbm, ⟨10, _⟩ => ⟨S4x6x1x512, .f32⟩
  | .hbm, ⟨11, _⟩ => ⟨S4x6x160x512, .fp8e4m3⟩
  | .hbm, ⟨12, _⟩ => ⟨S4x6x160x1, .f32⟩
  | .hbm, ⟨13, _⟩ => ⟨S4x512x2880, .bf16⟩
  | .hbm, ⟨14, _⟩ => ⟨S4x512x18x160, .fp8e4m3⟩
  | .hbm, ⟨15, _⟩ => ⟨S4x18x512, .f32⟩
  | .hbm, ⟨16, _⟩ => ⟨S4x512x18, .f32⟩
  | .hbm, ⟨17, _⟩ => ⟨S4x512x6x160, .fp8e4m3⟩
  | .hbm, ⟨18, _⟩ => ⟨S4x6x512, .f32⟩
  | .hbm, ⟨19, _⟩ => ⟨S4x512x6, .f32⟩
  | .hbm, ⟨20, _⟩ => ⟨S4x512x6x160, .fp8e4m3⟩
  | .hbm, ⟨21, _⟩ => ⟨S4x6x160, .f32⟩
  | .local _ .vmem, ⟨0, _⟩ => ⟨S1x480x512, .bf16⟩
  | .local _ .vmem, ⟨1, _⟩ => ⟨S1x480x512, .bf16⟩
  | .local _ .vmem, ⟨2, _⟩ => ⟨S1x160x512, .bf16⟩
  | .local _ .vmem, ⟨3, _⟩ => ⟨S1x160x512, .bf16⟩
  | .local _ .vmem, ⟨4, _⟩ => ⟨S1x160x512, .bf16⟩
  | .local _ .vmem, ⟨5, _⟩ => ⟨S1x160x512, .bf16⟩
  | .local _ .vmem, ⟨6, _⟩ => ⟨S1x480x512, .bf16⟩
  | .local _ .vmem, ⟨7, _⟩ => ⟨S1x480x512, .bf16⟩
  | .local _ .vmem, ⟨8, _⟩ => ⟨S1x3x160x512, .fp8e4m3⟩
  | .local _ .vmem, ⟨9, _⟩ => ⟨S1x3x160x512, .fp8e4m3⟩
  | .local _ .vmem, ⟨10, _⟩ => ⟨S1x3x1x512, .f32⟩
  | .local _ .vmem, ⟨11, _⟩ => ⟨S1x3x1x512, .f32⟩
  | .local _ .vmem, ⟨12, _⟩ => ⟨S1x1x160x512, .fp8e4m3⟩
  | .local _ .vmem, ⟨13, _⟩ => ⟨S1x1x160x512, .fp8e4m3⟩
  | .local _ .vmem, ⟨14, _⟩ => ⟨S1x1x1x512, .f32⟩
  | .local _ .vmem, ⟨15, _⟩ => ⟨S1x1x1x512, .f32⟩
  | .local _ .vmem, ⟨16, _⟩ => ⟨S1x1x160x512, .fp8e4m3⟩
  | .local _ .vmem, ⟨17, _⟩ => ⟨S1x1x160x512, .fp8e4m3⟩
  | .local _ .vmem, ⟨18, _⟩ => ⟨S1x1x160x1, .f32⟩
  | .local _ .vmem, ⟨19, _⟩ => ⟨S1x1x160x1, .f32⟩
  | .local _ .vmem, ⟨20, _⟩ => ⟨S512x160, .fp8e4m3⟩
  | .local _ .vmem, ⟨21, _⟩ => ⟨S512x128, .f32⟩
  | .local _ .smem, ⟨0, _⟩ => ⟨S4, .i32⟩
  | _, _ => ⟨S4x512x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 6], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c4_i32_232 : BitVec 32 := 4#32
  let c1_i32_231 : BitVec 32 := 1#32
  let c128_i32_222 : BitVec 32 := 128#32
  let v587 : BitVec 32 := Scalar.addi v1 c128_i32_222
  let c1_i32_223 : BitVec 32 := 1#32
  let v588 : BitVec 32 := Scalar.subi v587 c1_i32_223
  let c0_i32_225 : BitVec 32 := 0#32
  let v590 : BitVec 1 := Scalar.cmpi .sgt v588 c0_i32_225
  let v591 : BitVec 32 := Scalar.extui v590
  let c0_i32_226 : BitVec 32 := 0#32
  let v592 : BitVec 1 := Scalar.cmpi .slt v588 c0_i32_226
  let v593 : BitVec 32 := Scalar.extui v592
  let v594 : BitVec 32 := Scalar.subi v591 v593
  let c128_i32_224 : BitVec 32 := 128#32
  let c0_i32_227 : BitVec 32 := 0#32
  let v595 : BitVec 1 := Scalar.cmpi .sgt c128_i32_224 c0_i32_227
  let v596 : BitVec 32 := Scalar.extui v595
  let c0_i32_228 : BitVec 32 := 0#32
  let v597 : BitVec 1 := Scalar.cmpi .slt c128_i32_224 c0_i32_228
  let v598 : BitVec 32 := Scalar.extui v597
  let v599 : BitVec 32 := Scalar.subi v596 v598
  let v600 : BitVec 1 := Scalar.cmpi .ne v594 v599
  let v601 : BitVec 32 := Scalar.remsi v588 c128_i32_224
  let c0_i32_229 : BitVec 32 := 0#32
  let v602 : BitVec 1 := Scalar.cmpi .ne v601 c0_i32_229
  let v603 : BitVec 1 := Scalar.andi v600 v602
  let v589 : BitVec 32 := Scalar.divsi v588 c128_i32_224
  let c1_i32_230 : BitVec 32 := 1#32
  let v604 : BitVec 32 := Scalar.subi v589 c1_i32_230
  let v605 : BitVec 32 := Scalar.select v603 v604 v589
  let v606 : BitVec 32 := Scalar.maxsi c1_i32_231 v605
  let v607 : BitVec 32 := Scalar.minsi c4_i32_232 v606
  let c1_i32_233 : BitVec 32 := 1#32
  let v608 : BitVec 1 := Scalar.cmpi .eq v607 c1_i32_233
  let v609 : BitVec 32 := Scalar.extui v608
  let c0_i32_234 : BitVec 32 := 0#32
  let v610 : BitVec 1 := Scalar.cmpi .ne v609 c0_i32_234
  v610

def k0_cond2 (v1 : BitVec 32) : BitVec 1 :=
  let c4_i32_232 : BitVec 32 := 4#32
  let c1_i32_231 : BitVec 32 := 1#32
  let c128_i32_222 : BitVec 32 := 128#32
  let v587 : BitVec 32 := Scalar.addi v1 c128_i32_222
  let c1_i32_223 : BitVec 32 := 1#32
  let v588 : BitVec 32 := Scalar.subi v587 c1_i32_223
  let c0_i32_225 : BitVec 32 := 0#32
  let v590 : BitVec 1 := Scalar.cmpi .sgt v588 c0_i32_225
  let v591 : BitVec 32 := Scalar.extui v590
  let c0_i32_226 : BitVec 32 := 0#32
  let v592 : BitVec 1 := Scalar.cmpi .slt v588 c0_i32_226
  let v593 : BitVec 32 := Scalar.extui v592
  let v594 : BitVec 32 := Scalar.subi v591 v593
  let c128_i32_224 : BitVec 32 := 128#32
  let c0_i32_227 : BitVec 32 := 0#32
  let v595 : BitVec 1 := Scalar.cmpi .sgt c128_i32_224 c0_i32_227
  let v596 : BitVec 32 := Scalar.extui v595
  let c0_i32_228 : BitVec 32 := 0#32
  let v597 : BitVec 1 := Scalar.cmpi .slt c128_i32_224 c0_i32_228
  let v598 : BitVec 32 := Scalar.extui v597
  let v599 : BitVec 32 := Scalar.subi v596 v598
  let v600 : BitVec 1 := Scalar.cmpi .ne v594 v599
  let v601 : BitVec 32 := Scalar.remsi v588 c128_i32_224
  let c0_i32_229 : BitVec 32 := 0#32
  let v602 : BitVec 1 := Scalar.cmpi .ne v601 c0_i32_229
  let v603 : BitVec 1 := Scalar.andi v600 v602
  let v589 : BitVec 32 := Scalar.divsi v588 c128_i32_224
  let c1_i32_230 : BitVec 32 := 1#32
  let v604 : BitVec 32 := Scalar.subi v589 c1_i32_230
  let v605 : BitVec 32 := Scalar.select v603 v604 v589
  let v606 : BitVec 32 := Scalar.maxsi c1_i32_231 v605
  let v607 : BitVec 32 := Scalar.minsi c4_i32_232 v606
  let c2_i32_235 : BitVec 32 := 2#32
  let v611 : BitVec 1 := Scalar.cmpi .eq v607 c2_i32_235
  let v612 : BitVec 32 := Scalar.extui v611
  let c0_i32_236 : BitVec 32 := 0#32
  let v613 : BitVec 1 := Scalar.cmpi .ne v612 c0_i32_236
  v613

def k0_cond3 (v1 : BitVec 32) : BitVec 1 :=
  let c4_i32_232 : BitVec 32 := 4#32
  let c1_i32_231 : BitVec 32 := 1#32
  let c128_i32_222 : BitVec 32 := 128#32
  let v587 : BitVec 32 := Scalar.addi v1 c128_i32_222
  let c1_i32_223 : BitVec 32 := 1#32
  let v588 : BitVec 32 := Scalar.subi v587 c1_i32_223
  let c0_i32_225 : BitVec 32 := 0#32
  let v590 : BitVec 1 := Scalar.cmpi .sgt v588 c0_i32_225
  let v591 : BitVec 32 := Scalar.extui v590
  let c0_i32_226 : BitVec 32 := 0#32
  let v592 : BitVec 1 := Scalar.cmpi .slt v588 c0_i32_226
  let v593 : BitVec 32 := Scalar.extui v592
  let v594 : BitVec 32 := Scalar.subi v591 v593
  let c128_i32_224 : BitVec 32 := 128#32
  let c0_i32_227 : BitVec 32 := 0#32
  let v595 : BitVec 1 := Scalar.cmpi .sgt c128_i32_224 c0_i32_227
  let v596 : BitVec 32 := Scalar.extui v595
  let c0_i32_228 : BitVec 32 := 0#32
  let v597 : BitVec 1 := Scalar.cmpi .slt c128_i32_224 c0_i32_228
  let v598 : BitVec 32 := Scalar.extui v597
  let v599 : BitVec 32 := Scalar.subi v596 v598
  let v600 : BitVec 1 := Scalar.cmpi .ne v594 v599
  let v601 : BitVec 32 := Scalar.remsi v588 c128_i32_224
  let c0_i32_229 : BitVec 32 := 0#32
  let v602 : BitVec 1 := Scalar.cmpi .ne v601 c0_i32_229
  let v603 : BitVec 1 := Scalar.andi v600 v602
  let v589 : BitVec 32 := Scalar.divsi v588 c128_i32_224
  let c1_i32_230 : BitVec 32 := 1#32
  let v604 : BitVec 32 := Scalar.subi v589 c1_i32_230
  let v605 : BitVec 32 := Scalar.select v603 v604 v589
  let v606 : BitVec 32 := Scalar.maxsi c1_i32_231 v605
  let v607 : BitVec 32 := Scalar.minsi c4_i32_232 v606
  let c3_i32 : BitVec 32 := 3#32
  let v614 : BitVec 1 := Scalar.cmpi .eq v607 c3_i32
  let v615 : BitVec 32 := Scalar.extui v614
  let c0_i32_237 : BitVec 32 := 0#32
  let v616 : BitVec 1 := Scalar.cmpi .ne v615 c0_i32_237
  v616

def k0_cond4 (v1 : BitVec 32) : BitVec 1 :=
  let c4_i32_232 : BitVec 32 := 4#32
  let c1_i32_231 : BitVec 32 := 1#32
  let c128_i32_222 : BitVec 32 := 128#32
  let v587 : BitVec 32 := Scalar.addi v1 c128_i32_222
  let c1_i32_223 : BitVec 32 := 1#32
  let v588 : BitVec 32 := Scalar.subi v587 c1_i32_223
  let c0_i32_225 : BitVec 32 := 0#32
  let v590 : BitVec 1 := Scalar.cmpi .sgt v588 c0_i32_225
  let v591 : BitVec 32 := Scalar.extui v590
  let c0_i32_226 : BitVec 32 := 0#32
  let v592 : BitVec 1 := Scalar.cmpi .slt v588 c0_i32_226
  let v593 : BitVec 32 := Scalar.extui v592
  let v594 : BitVec 32 := Scalar.subi v591 v593
  let c128_i32_224 : BitVec 32 := 128#32
  let c0_i32_227 : BitVec 32 := 0#32
  let v595 : BitVec 1 := Scalar.cmpi .sgt c128_i32_224 c0_i32_227
  let v596 : BitVec 32 := Scalar.extui v595
  let c0_i32_228 : BitVec 32 := 0#32
  let v597 : BitVec 1 := Scalar.cmpi .slt c128_i32_224 c0_i32_228
  let v598 : BitVec 32 := Scalar.extui v597
  let v599 : BitVec 32 := Scalar.subi v596 v598
  let v600 : BitVec 1 := Scalar.cmpi .ne v594 v599
  let v601 : BitVec 32 := Scalar.remsi v588 c128_i32_224
  let c0_i32_229 : BitVec 32 := 0#32
  let v602 : BitVec 1 := Scalar.cmpi .ne v601 c0_i32_229
  let v603 : BitVec 1 := Scalar.andi v600 v602
  let v589 : BitVec 32 := Scalar.divsi v588 c128_i32_224
  let c1_i32_230 : BitVec 32 := 1#32
  let v604 : BitVec 32 := Scalar.subi v589 c1_i32_230
  let v605 : BitVec 32 := Scalar.select v603 v604 v589
  let v606 : BitVec 32 := Scalar.maxsi c1_i32_231 v605
  let v607 : BitVec 32 := Scalar.minsi c4_i32_232 v606
  let c4_i32_238 : BitVec 32 := 4#32
  let v617 : BitVec 1 := Scalar.cmpi .eq v607 c4_i32_238
  let v618 : BitVec 32 := Scalar.extui v617
  let c0_i32_239 : BitVec 32 := 0#32
  let v619 : BitVec 1 := Scalar.cmpi .ne v618 c0_i32_239
  v619

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x480x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x160x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x160x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x480x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x160x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x160x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x160x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x160x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "score_scale_log2e" => some (((Real.sqrt 160)⁻¹ * (Real.log 2)⁻¹ : ℝ) : EReal)
  | _ => none
-- ==== Reference.lean ====
abbrev S4x512x2880 : Shape := ⟨3, ![4, 512, 2880]⟩
abbrev S4x512x960 : Shape := ⟨3, ![4, 512, 960]⟩
abbrev S4 : Shape := ⟨1, ![4]⟩
abbrev S4x512x18x160 : Shape := ⟨4, ![4, 512, 18, 160]⟩
abbrev S_ : Shape := ⟨0, ![]⟩
abbrev S4x512x18 : Shape := ⟨3, ![4, 512, 18]⟩
abbrev S4x512x18x1 : Shape := ⟨4, ![4, 512, 18, 1]⟩
abbrev S4x512x6x160 : Shape := ⟨4, ![4, 512, 6, 160]⟩
abbrev S4x512x6 : Shape := ⟨3, ![4, 512, 6]⟩
abbrev S4x512x6x1 : Shape := ⟨4, ![4, 512, 6, 1]⟩
abbrev S4x6x160 : Shape := ⟨3, ![4, 6, 160]⟩
abbrev S4x1x6x160 : Shape := ⟨4, ![4, 1, 6, 160]⟩
abbrev S4x512x6x3x160 : Shape := ⟨5, ![4, 512, 6, 3, 160]⟩
abbrev S4x512x6x3 : Shape := ⟨4, ![4, 512, 6, 3]⟩
abbrev S4x6x3x512 : Shape := ⟨4, ![4, 6, 3, 512]⟩
abbrev S4x6x512 : Shape := ⟨3, ![4, 6, 512]⟩
abbrev S4x6x512x512x3 : Shape := ⟨5, ![4, 6, 512, 512, 3]⟩
abbrev S4x6x3x512x512 : Shape := ⟨5, ![4, 6, 3, 512, 512]⟩
abbrev S4x6x3x512x1 : Shape := ⟨5, ![4, 6, 3, 512, 1]⟩
abbrev S4x6x1x1x512 : Shape := ⟨5, ![4, 6, 1, 1, 512]⟩
abbrev S512 : Shape := ⟨1, ![512]⟩
abbrev S1x1x512 : Shape := ⟨3, ![1, 1, 512]⟩
abbrev S4x1x1 : Shape := ⟨3, ![4, 1, 1]⟩
abbrev S4x1x512 : Shape := ⟨3, ![4, 1, 512]⟩
abbrev S1x512x1 : Shape := ⟨3, ![1, 512, 1]⟩
abbrev S1x512x512 : Shape := ⟨3, ![1, 512, 512]⟩
abbrev S4x512x512 : Shape := ⟨3, ![4, 512, 512]⟩
abbrev S4x1x1x512x512 : Shape := ⟨5, ![4, 1, 1, 512, 512]⟩
abbrev S4x6x160x3x512 : Shape := ⟨5, ![4, 6, 160, 3, 512]⟩
abbrev S4x1x6x1x160 : Shape := ⟨5, ![4, 1, 6, 1, 160]⟩
abbrev S4x512x6x3x1 : Shape := ⟨5, ![4, 512, 6, 3, 1]⟩

abbrev nBuf : Space → Nat
  | .hbm => 200
  | .vmem => 0
  | .smem => 0
  | _ => 0

abbrev hbmTy0_0 (i : Nat) : BufTy := match i % 128 with
  | 0 => ⟨S4x512x2880, .bf16⟩
  | 1 => ⟨S4x512x960, .bf16⟩
  | 2 => ⟨S4x512x960, .bf16⟩
  | 3 => ⟨S4, .i32⟩
  | 4 => ⟨S4x512x18x160, .bf16⟩
  | 5 => ⟨S4x512x18x160, .f32⟩
  | 6 => ⟨S4x512x18x160, .f32⟩
  | 7 => ⟨S_, .f32⟩
  | 8 => ⟨S4x512x18, .f32⟩
  | 9 => ⟨S4x512x18x1, .f32⟩
  | 10 => ⟨S_, .f32⟩
  | 11 => ⟨S4x512x18x1, .f32⟩
  | 12 => ⟨S4x512x18x1, .f32⟩
  | 13 => ⟨S4x512x18x1, .f32⟩
  | 14 => ⟨S_, .f32⟩
  | 15 => ⟨S_, .f32⟩
  | 16 => ⟨S4x512x18x1, .f32⟩
  | 17 => ⟨S4x512x18x1, .f32⟩
  | 18 => ⟨S4x512x18x1, .f32⟩
  | 19 => ⟨S_, .f32⟩
  | 20 => ⟨S4x512x18x1, .f32⟩
  | 21 => ⟨S4x512x18x1, .f32⟩
  | 22 => ⟨S_, .f32⟩
  | 23 => ⟨S4x512x18x1, .f32⟩
  | 24 => ⟨S4x512x18x1, .i1⟩
  | 25 => ⟨S_, .f32⟩
  | 26 => ⟨S_, .f32⟩
  | 27 => ⟨S4x512x18x1, .f32⟩
  | 28 => ⟨S4x512x18x1, .f32⟩
  | 29 => ⟨S4x512x18x1, .f32⟩
  | 30 => ⟨S_, .f32⟩
  | 31 => ⟨S4x512x18x1, .f32⟩
  | 32 => ⟨S4x512x18x1, .f32⟩
  | 33 => ⟨S4x512x18x160, .f32⟩
  | 34 => ⟨S4x512x18x160, .f32⟩
  | 35 => ⟨S_, .f32⟩
  | 36 => ⟨S_, .f32⟩
  | 37 => ⟨S_, .f32⟩
  | 38 => ⟨S4x512x18x160, .f32⟩
  | 39 => ⟨S4x512x18x160, .f32⟩
  | 40 => ⟨S_, .f32⟩
  | 41 => ⟨S4x512x18x160, .f32⟩
  | 42 => ⟨S4x512x18x160, .f32⟩
  | 43 => ⟨S_, .f32⟩
  | 44 => ⟨S4x512x18x1, .f32⟩
  | 45 => ⟨S4x512x18x1, .f32⟩
  | 46 => ⟨S4x512x18, .f32⟩
  | 47 => ⟨S4x512x6x160, .bf16⟩
  | 48 => ⟨S4x512x6x160, .f32⟩
  | 49 => ⟨S4x512x6x160, .f32⟩
  | 50 => ⟨S_, .f32⟩
  | 51 => ⟨S4x512x6, .f32⟩
  | 52 => ⟨S4x512x6x1, .f32⟩
  | 53 => ⟨S_, .f32⟩
  | 54 => ⟨S4x512x6x1, .f32⟩
  | 55 => ⟨S4x512x6x1, .f32⟩
  | 56 => ⟨S4x512x6x1, .f32⟩
  | 57 => ⟨S_, .f32⟩
  | 58 => ⟨S_, .f32⟩
  | 59 => ⟨S4x512x6x1, .f32⟩
  | 60 => ⟨S4x512x6x1, .f32⟩
  | 61 => ⟨S4x512x6x1, .f32⟩
  | 62 => ⟨S_, .f32⟩
  | 63 => ⟨S4x512x6x1, .f32⟩
  | 64 => ⟨S4x512x6x1, .f32⟩
  | 65 => ⟨S_, .f32⟩
  | 66 => ⟨S4x512x6x1, .f32⟩
  | 67 => ⟨S4x512x6x1, .i1⟩
  | 68 => ⟨S_, .f32⟩
  | 69 => ⟨S_, .f32⟩
  | 70 => ⟨S4x512x6x1, .f32⟩
  | 71 => ⟨S4x512x6x1, .f32⟩
  | 72 => ⟨S4x512x6x1, .f32⟩
  | 73 => ⟨S_, .f32⟩
  | 74 => ⟨S4x512x6x1, .f32⟩
  | 75 => ⟨S4x512x6x1, .f32⟩
  | 76 => ⟨S4x512x6x160, .f32⟩
  | 77 => ⟨S4x512x6x160, .f32⟩
  | 78 => ⟨S_, .f32⟩
  | 79 => ⟨S_, .f32⟩
  | 80 => ⟨S_, .f32⟩
  | 81 => ⟨S4x512x6x160, .f32⟩
  | 82 => ⟨S4x512x6x160, .f32⟩
  | 83 => ⟨S_, .f32⟩
  | 84 => ⟨S4x512x6x160, .f32⟩
  | 85 => ⟨S4x512x6x160, .f32⟩
  | 86 => ⟨S_, .f32⟩
  | 87 => ⟨S4x512x6x1, .f32⟩
  | 88 => ⟨S4x512x6x1, .f32⟩
  | 89 => ⟨S4x512x6, .f32⟩
  | 90 => ⟨S4x512x6x160, .bf16⟩
  | 91 => ⟨S4x512x6x160, .f32⟩
  | 92 => ⟨S4x512x6x160, .f32⟩
  | 93 => ⟨S_, .f32⟩
  | 94 => ⟨S4x6x160, .f32⟩
  | 95 => ⟨S4x1x6x160, .f32⟩
  | 96 => ⟨S_, .f32⟩
  | 97 => ⟨S4x1x6x160, .f32⟩
  | 98 => ⟨S4x1x6x160, .f32⟩
  | 99 => ⟨S4x1x6x160, .f32⟩
  | 100 => ⟨S_, .f32⟩
  | 101 => ⟨S_, .f32⟩
  | 102 => ⟨S4x1x6x160, .f32⟩
  | 103 => ⟨S4x1x6x160, .f32⟩
  | 104 => ⟨S4x1x6x160, .f32⟩
  | 105 => ⟨S_, .f32⟩
  | 106 => ⟨S4x1x6x160, .f32⟩
  | 107 => ⟨S4x1x6x160, .f32⟩
  | 108 => ⟨S_, .f32⟩
  | 109 => ⟨S4x1x6x160, .f32⟩
  | 110 => ⟨S4x1x6x160, .i1⟩
  | 111 => ⟨S_, .f32⟩
  | 112 => ⟨S_, .f32⟩
  | 113 => ⟨S4x1x6x160, .f32⟩
  | 114 => ⟨S4x1x6x160, .f32⟩
  | 115 => ⟨S4x1x6x160, .f32⟩
  | 116 => ⟨S_, .f32⟩
  | 117 => ⟨S4x1x6x160, .f32⟩
  | 118 => ⟨S4x1x6x160, .f32⟩
  | 119 => ⟨S4x512x6x160, .f32⟩
  | 120 => ⟨S4x512x6x160, .f32⟩
  | 121 => ⟨S_, .f32⟩
  | 122 => ⟨S_, .f32⟩
  | 123 => ⟨S_, .f32⟩
  | 124 => ⟨S4x512x6x160, .f32⟩
  | 125 => ⟨S4x512x6x160, .f32⟩
  | 126 => ⟨S_, .f32⟩
  | 127 => ⟨S4x512x6x160, .f32⟩
  | _ => ⟨S4x512x2880, .bf16⟩

abbrev hbmTy0_1 (i : Nat) : BufTy := match i % 128 with
  | 0 => ⟨S4x512x6x160, .f32⟩
  | 1 => ⟨S_, .f32⟩
  | 2 => ⟨S4x1x6x160, .f32⟩
  | 3 => ⟨S4x1x6x160, .f32⟩
  | 4 => ⟨S4x6x160, .f32⟩
  | 5 => ⟨S4x512x6x3x160, .f32⟩
  | 6 => ⟨S4x512x6x3, .f32⟩
  | 7 => ⟨S4x6x3x512, .f32⟩
  | 8 => ⟨S4x6x512, .f32⟩
  | 9 => ⟨S4x6x512x512x3, .f32⟩
  | 10 => ⟨S4x6x3x512x512, .f32⟩
  | 11 => ⟨S4x6x3x512x1, .f32⟩
  | 12 => ⟨S4x6x3x512x512, .f32⟩
  | 13 => ⟨S4x6x3x512x512, .f32⟩
  | 14 => ⟨S4x6x1x1x512, .f32⟩
  | 15 => ⟨S4x6x3x512x512, .f32⟩
  | 16 => ⟨S4x6x3x512x512, .f32⟩
  | 17 => ⟨S_, .f32⟩
  | 18 => ⟨S_, .f32⟩
  | 19 => ⟨S4x6x3x512x512, .f32⟩
  | 20 => ⟨S4x6x3x512x512, .f32⟩
  | 21 => ⟨S512, .i32⟩
  | 22 => ⟨S1x1x512, .i32⟩
  | 23 => ⟨S4x1x1, .i32⟩
  | 24 => ⟨S4x1x512, .i32⟩
  | 25 => ⟨S4x1x512, .i32⟩
  | 26 => ⟨S4x1x512, .i1⟩
  | 27 => ⟨S1x1x512, .i32⟩
  | 28 => ⟨S1x512x1, .i32⟩
  | 29 => ⟨S1x512x512, .i32⟩
  | 30 => ⟨S1x512x512, .i32⟩
  | 31 => ⟨S1x512x512, .i1⟩
  | 32 => ⟨S4x512x512, .i1⟩
  | 33 => ⟨S4x512x512, .i1⟩
  | 34 => ⟨S4x512x512, .i1⟩
  | 35 => ⟨S4x1x1x512x512, .i1⟩
  | 36 => ⟨S_, .f32⟩
  | 37 => ⟨S_, .f32⟩
  | 38 => ⟨S4x6x3x512x512, .i1⟩
  | 39 => ⟨S4x6x3x512x512, .f32⟩
  | 40 => ⟨S4x6x3x512x512, .f32⟩
  | 41 => ⟨S_, .f32⟩
  | 42 => ⟨S4x6x3x512, .f32⟩
  | 43 => ⟨S4x6x3x512x1, .f32⟩
  | 44 => ⟨S4x6x3x512x512, .f32⟩
  | 45 => ⟨S4x6x3x512x512, .f32⟩
  | 46 => ⟨S4x6x3x512x512, .f32⟩
  | 47 => ⟨S_, .f32⟩
  | 48 => ⟨S4x6x3x512, .f32⟩
  | 49 => ⟨S_, .f32⟩
  | 50 => ⟨S4x6x3x512x512, .f32⟩
  | 51 => ⟨S4x6x3x512x512, .f32⟩
  | 52 => ⟨S_, .f32⟩
  | 53 => ⟨S4x6x3x512x512, .f32⟩
  | 54 => ⟨S4x6x3x512x512, .f32⟩
  | 55 => ⟨S4x6x160x3x512, .f32⟩
  | 56 => ⟨S4x512x6x3x160, .f32⟩
  | 57 => ⟨S4x1x6x1x160, .f32⟩
  | 58 => ⟨S_, .f32⟩
  | 59 => ⟨S4x1x6x1x160, .f32⟩
  | 60 => ⟨S4x1x6x1x160, .f32⟩
  | 61 => ⟨S4x512x6x3x160, .f32⟩
  | 62 => ⟨S4x512x6x3x160, .f32⟩
  | 63 => ⟨S4x512x6x3, .f32⟩
  | 64 => ⟨S4x512x6x3x1, .f32⟩
  | 65 => ⟨S4x512x6x3x160, .f32⟩
  | 66 => ⟨S4x512x6x3x160, .f32⟩
  | 67 => ⟨S4x512x2880, .f32⟩
  | 68 => ⟨S4x512x2880, .bf16⟩
  | 69 => ⟨S4x512x18x160, .fp8e4m3⟩
  | 70 => ⟨S4x512x6x160, .fp8e4m3⟩
  | 71 => ⟨S4x512x6x160, .fp8e4m3⟩
  | _ => ⟨S4x512x2880, .bf16⟩

abbrev hbmTy (i : Nat) : BufTy := match i / 128 with
  | 0 => hbmTy0_0 i
  | 1 => hbmTy0_1 i
  | _ => ⟨S4x512x2880, .bf16⟩

abbrev bufTy : (tb : Table) → Fin (tcTables nBuf tb) → BufTy
  | .hbm, ⟨i, _⟩ => hbmTy i
  | _, _ => ⟨S4x512x2880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v22 : Ref sig .tc := ⟨.hbm, 42, rfl⟩
abbrev main_cst_8 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_v30 : Ref sig .tc := ⟨.hbm, 52, rfl⟩
abbrev main_cst_10 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_11 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_12 : Ref sig .tc := ⟨.hbm, 62, rfl⟩
abbrev main_v38 : Ref sig .tc := ⟨.hbm, 63, rfl⟩
abbrev main_v39 : Ref sig .tc := ⟨.hbm, 64, rfl⟩
abbrev main_cst_13 : Ref sig .tc := ⟨.hbm, 65, rfl⟩
abbrev main_v40 : Ref sig .tc := ⟨.hbm, 66, rfl⟩
abbrev main_v41 : Ref sig .tc := ⟨.hbm, 67, rfl⟩
abbrev main_cst_14 : Ref sig .tc := ⟨.hbm, 68, rfl⟩
abbrev main_call2_v0 : Ref sig .tc := ⟨.hbm, 69, rfl⟩
abbrev main_call2_v1 : Ref sig .tc := ⟨.hbm, 70, rfl⟩
abbrev main_v42 : Ref sig .tc := ⟨.hbm, 71, rfl⟩
abbrev main_v43 : Ref sig .tc := ⟨.hbm, 72, rfl⟩
abbrev main_cst_15 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_16 : Ref sig .tc := ⟨.hbm, 78, rfl⟩
abbrev main_cst_17 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v48 : Ref sig .tc := ⟨.hbm, 85, rfl⟩
abbrev main_cst_18 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_19 : Ref sig .tc := ⟨.hbm, 93, rfl⟩
abbrev main_v55 : Ref sig .tc := ⟨.hbm, 94, rfl⟩
abbrev main_v56 : Ref sig .tc := ⟨.hbm, 95, rfl⟩
abbrev main_cst_20 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_21 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_22 : Ref sig .tc := ⟨.hbm, 105, rfl⟩
abbrev main_v64 : Ref sig .tc := ⟨.hbm, 106, rfl⟩
abbrev main_v65 : Ref sig .tc := ⟨.hbm, 107, rfl⟩
abbrev main_cst_23 : Ref sig .tc := ⟨.hbm, 108, rfl⟩
abbrev main_v66 : Ref sig .tc := ⟨.hbm, 109, rfl⟩
abbrev main_v67 : Ref sig .tc := ⟨.hbm, 110, rfl⟩
abbrev main_cst_24 : Ref sig .tc := ⟨.hbm, 111, rfl⟩
abbrev main_call4_v0 : Ref sig .tc := ⟨.hbm, 112, rfl⟩
abbrev main_call4_v1 : Ref sig .tc := ⟨.hbm, 113, rfl⟩
abbrev main_v68 : Ref sig .tc := ⟨.hbm, 114, rfl⟩
abbrev main_v69 : Ref sig .tc := ⟨.hbm, 115, rfl⟩
abbrev main_cst_25 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_26 : Ref sig .tc := ⟨.hbm, 121, rfl⟩
abbrev main_cst_27 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_call5_v3 : Ref sig .tc := ⟨.hbm, 126, rfl⟩
abbrev main_call5_v4 : Ref sig .tc := ⟨.hbm, 127, rfl⟩
abbrev main_v74 : Ref sig .tc := ⟨.hbm, 128, rfl⟩
abbrev main_cst_28 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_29 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_cst_30 : Ref sig .tc := ⟨.hbm, 164, rfl⟩
abbrev main_call6_v0 : Ref sig .tc := ⟨.hbm, 165, rfl⟩
abbrev main_call6_v1 : Ref sig .tc := ⟨.hbm, 166, rfl⟩
abbrev main_call6_v2 : Ref sig .tc := ⟨.hbm, 167, rfl⟩
abbrev main_v108 : Ref sig .tc := ⟨.hbm, 168, rfl⟩
abbrev main_cst_31 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_cst_32 : Ref sig .tc := ⟨.hbm, 175, rfl⟩
abbrev main_v114 : Ref sig .tc := ⟨.hbm, 176, rfl⟩
abbrev main_cst_33 : Ref sig .tc := ⟨.hbm, 177, rfl⟩
abbrev main_v115 : Ref sig .tc := ⟨.hbm, 178, rfl⟩
abbrev main_v116 : Ref sig .tc := ⟨.hbm, 179, rfl⟩
abbrev main_cst_34 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_cst_35 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩

abbrev nD : Nat := 1
abbrev τ : Topo := Topo.v7x

variable {F : FTy → Type} [FloatOps F]
-- ==== Proof.Bits.Points.lean ====
/- The schedule of the kernel's grid: the points, their order, and where each window is fetched and flushed. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 1 (fun _ => rfl) (by decide)) (P := 1) (by decide) t).mpr (Nat.mod_one _) : ∀ t : Fin grid0.N, Pipeline.Window.fetchOf grid0 false cc0_transform_1 t = true)
/-- Window 2 (operand 3 (%2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
/-- Window 3 (result 0 (%3#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 1 (fun _ => rfl) (by decide)) (P := 1) (m := 0) (by decide) rfl t).mpr (Nat.mod_one _) : ∀ t : Fin grid0.N, Pipeline.Window.flushOf grid0 true cc0_transform_3 t = true)
/-- Window 4 (result 1 (%3#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 1 (by decide) (by decide) (Pipeline.Window.sep_of_coord cc0_transform_4 1 1 (fun _ => rfl) (by decide)) (P := 1) (m := 0) (by decide) rfl t).mpr (Nat.mod_one _) : ∀ t : Fin grid0.N, Pipeline.Window.flushOf grid0 true cc0_transform_4 t = true)
/-- Window 5 (result 2 (%3#2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)
/-- Window 6 (result 3 (%3#3)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 1 (fun _ => rfl) (by decide)) (P := 1) (m := 0) (by decide) rfl t).mpr (Nat.mod_one _) : ∀ t : Fin grid0.N, Pipeline.Window.flushOf grid0 true cc0_transform_6 t = true)
/-- Window 7 (result 4 (%3#4)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)
/-- Window 8 (result 5 (%3#5)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 1 (fun _ => rfl) (by decide)) (P := 1) (m := 0) (by decide) rfl t).mpr (Nat.mod_one _) : ∀ t : Fin grid0.N, Pipeline.Window.flushOf grid0 true cc0_transform_8 t = true)
/-- Window 9 (result 6 (%3#6)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 1 (fun _ => rfl) (by decide)) (P := 1) (m := 0) (by decide) rfl t).mpr (Nat.mod_one _) : ∀ t : Fin grid0.N, Pipeline.Window.flushOf grid0 true cc0_transform_9 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_prefix_attention (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) (Memref.whole cc0_scratch1) (Memref.isWhole_whole _)

end Cert.Kernel.Gen

end
-- ==== Proof.Bits.Runs.lean ====
/- What the run of the kernel body and the frame of the launch share: the staging and scratch buffers, the
   contents each window holds at a point, and where a window is idle. -/
module

public import proofs.«01_k».proof.Proof.Gen.Kernel.Launch
public import proofs.«01_k».proof.Proof.Gen.Kernel.Skeleton
public import proofs.«01_k».proof.Proof.Bits.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v10, main_v11, main_v12, main_v4, main_v5, main_v6, main_v7, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4 .i32 := Memref.whole main_arg3
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0 \ T0)).trans (V_main_arg0 m c),
      ((h c).2 main_arg1 (by decide : main_arg1 ∈ Pipeline.restRefs sig spec0 \ T0)).trans (V_main_arg1 m c),
      ((h c).2 main_arg2 (by decide : main_arg2 ∈ Pipeline.restRefs sig spec0 \ T0)).trans (V_main_arg2 m c),
      ((h c).2 main_arg3 (by decide : main_arg3 ∈ Pipeline.restRefs sig spec0 \ T0)).trans (V_main_arg3 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x480x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x160x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x160x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x480x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x3x160x512 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x3x1x512 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x160x512 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x1x512 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x160x512 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1x160x1 .f32 := spec0_9.stage ((cfgM m hO).slots t 9)
abbrev hs0_9 (hO : Ok m) (t : Fin (cfgM m hO).N) : (ms0_9 m hO t).IsWhole := hstage0_9 (((cfgM m hO).slots t 9).cast nbuf0_9)
/-- The scratch operands: whole scoped buffers of the kernel's own, passed beside the windows. -/
abbrev scM0_0 : Memref sig .tc .vmem S512x160 .fp8e4m3 := Memref.whole cc0_scratch0
abbrev scM0_1 : Memref sig .tc .vmem S512x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.Bits.RunA.lean ====
/- The run of the whole kernel body from owned buffers, over every branch of its four conditionals. -/
module

public import proofs.«01_k».proof.Proof.Bits.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0) -∗ K ⟨⟩))
          ⊢ wp frame (wpE (defs₀ (F := F)) Variants.none c none) E (cc0_prefix_attention i tbM0_0 htbM0_0 arg3 harg3 arg4 harg4 arg5 harg5 arg6 harg6 arg7 harg7 arg8 harg8 arg9 harg9 arg10 harg10 arg11 harg11 arg12 harg12 arg13 harg13 arg14 harg14) K := by
    intro E K
    simp only [cc0_prefix_attention_eq_skeleton]; unfold cc0_prefix_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, HT0, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    iexact HT0

end Cert.Kernel.Gen

end
-- ==== Proof.Bits.Frame.lean ====
/- The frame of the launch: every run terminates without fault and leaves the argument arrays unchanged. -/
module

public import proofs.«01_k».proof.Proof.Bits.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5, 6, 7, 8, 9): nothing reads what the kernel leaves in them, so nothing
    of it is named (Lib/Pipeline/Dat.lean `Dat.toRForget`). -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
    | ⟨4, h⟩ => Pipeline.Dat.unnamed (cfg := (cfgM m hO)) ⟨4, h⟩ t
    | ⟨5, h⟩ => Pipeline.Dat.unnamed (cfg := (cfgM m hO)) ⟨5, h⟩ t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq, PhiA0_eq]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ (iblk m hO c 0 t) (iblk m hO c 1 t) (iblk m hO c 2 t) (tbl m 0)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HT0]; · iexact HT0
  iintro ⟨H0, H1, H2, H3, H4, H5, H6, H7, H8, H9, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.RDat.FramePostR ((Pipeline.pin pcfgs fun _ => adm m hO) 0) (fun c => (dats m hO 0 c).toRForget forgets0) T0 (V m)) r ∧ r.2.sem = fun _ => 0) :=
  Pipeline.θ_run_frameP_around_T_forget (Q' := _) pcfgs (fun _ => adm m hO) (dats m hO) (0 : Fin 1) launch0 defs₀ Variants.none forgets0 T0 m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7, 8, 9) (Lib/Pipeline/Frame.lean `RDat.FramePostR` over the proof data with those windows
    forgotten, Dat.lean `Dat.toRForget`), and every other unscoped buffer outside `T0` at its region-entry contents. -/
theorem run_main (hO : Ok m) : θ_run defs (onTc (τ := τ) (main (F := F))) (s₀ m ρ) (Pipeline.RDat.FramePostR ((Pipeline.pin pcfgs fun _ => adm m hO) 0) (fun c => (dats m hO 0 c).toRForget forgets0) T0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.Kernel.Gen

end
-- ==== Proof.Named.Points.lean ====
/- The schedule of the kernel's grid: the points, their order, and where each window is fetched and flushed. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 1 (fun _ => rfl) (by decide)) (P := 1) (by decide) t).mpr (Nat.mod_one _) : ∀ t : Fin grid0.N, Pipeline.Window.fetchOf grid0 false cc0_transform_1 t = true)
/-- Window 2 (operand 3 (%2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
/-- Window 3 (result 0 (%3#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 1 (fun _ => rfl) (by decide)) (P := 1) (m := 0) (by decide) rfl t).mpr (Nat.mod_one _) : ∀ t : Fin grid0.N, Pipeline.Window.flushOf grid0 true cc0_transform_3 t = true)
/-- Window 4 (result 1 (%3#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 1 (by decide) (by decide) (Pipeline.Window.sep_of_coord cc0_transform_4 1 1 (fun _ => rfl) (by decide)) (P := 1) (m := 0) (by decide) rfl t).mpr (Nat.mod_one _) : ∀ t : Fin grid0.N, Pipeline.Window.flushOf grid0 true cc0_transform_4 t = true)
/-- Window 5 (result 2 (%3#2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)
/-- Window 6 (result 3 (%3#3)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 1 (fun _ => rfl) (by decide)) (P := 1) (m := 0) (by decide) rfl t).mpr (Nat.mod_one _) : ∀ t : Fin grid0.N, Pipeline.Window.flushOf grid0 true cc0_transform_6 t = true)
/-- Window 7 (result 4 (%3#4)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)
/-- Window 8 (result 5 (%3#5)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 1 (fun _ => rfl) (by decide)) (P := 1) (m := 0) (by decide) rfl t).mpr (Nat.mod_one _) : ∀ t : Fin grid0.N, Pipeline.Window.flushOf grid0 true cc0_transform_8 t = true)
/-- Window 9 (result 6 (%3#6)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 1 (fun _ => rfl) (by decide)) (P := 1) (m := 0) (by decide) rfl t).mpr (Nat.mod_one _) : ∀ t : Fin grid0.N, Pipeline.Window.flushOf grid0 true cc0_transform_9 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_prefix_attention (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) (Memref.whole cc0_scratch1) (Memref.isWhole_whole _)

end Cert.KernelIdeal.Gen

end
-- ==== Proof.Named.Runs.lean ====
/- What the runs of the kernel body and the frame of the launch share: the staging and scratch buffers, the
   contents each window holds at a point, and where a window is idle. -/
module

public import proofs.«01_k».proof.Proof.Gen.KernelIdeal.Launch
public import proofs.«01_k».proof.Proof.Gen.KernelIdeal.Skeleton
public import proofs.«01_k».proof.Proof.Named.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4 .i32 := Memref.whole main_arg3
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c)),
      (((h c).2 main_arg3 (by decide : main_arg3 ∈ Pipeline.restRefs sig spec0)).trans (W_main_arg3 m hO dats c))⟩) h

/-! ## The kernel body on any staging memrefs: a subtype the run finds -/

/-- One staging buffer of output window 3, through which its contents are stated (`View.read_writes_of_cover`: the
    choice does not matter). -/
abbrev VO0_3 : View sig .tc .vmem S1x480x512 .bf16 := (Memref.whole cc0_stg3_0 : Memref sig .tc .vmem S1x480x512 .bf16).view
/-- One staging buffer of output window 4, through which its contents are stated (`View.read_writes_of_cover`: the
    choice does not matter). -/
abbrev VO0_4 : View sig .tc .vmem S1x3x160x512 .fp8e4m3 := (Memref.whole cc0_stg4_0 : Memref sig .tc .vmem S1x3x160x512 .fp8e4m3).view
/-- One staging buffer of output window 5, through which its contents are stated (`View.read_writes_of_cover`: the
    choice does not matter). -/
abbrev VO0_5 : View sig .tc .vmem S1x3x1x512 .f32 := (Memref.whole cc0_stg5_0 : Memref sig .tc .vmem S1x3x1x512 .f32).view
/-- One staging buffer of output window 6, through which its contents are stated (`View.read_writes_of_cover`: the
    choice does not matter). -/
abbrev VO0_6 : View sig .tc .vmem S1x1x160x512 .fp8e4m3 := (Memref.whole cc0_stg6_0 : Memref sig .tc .vmem S1x1x160x512 .fp8e4m3).view
/-- One staging buffer of output window 7, through which its contents are stated (`View.read_writes_of_cover`: the
    choice does not matter). -/
abbrev VO0_7 : View sig .tc .vmem S1x1x1x512 .f32 := (Memref.whole cc0_stg7_0 : Memref sig .tc .vmem S1x1x1x512 .f32).view
/-- One staging buffer of output window 8, through which its contents are stated (`View.read_writes_of_cover`: the
    choice does not matter). -/
abbrev VO0_8 : View sig .tc .vmem S1x1x160x512 .fp8e4m3 := (Memref.whole cc0_stg8_0 : Memref sig .tc .vmem S1x1x160x512 .fp8e4m3).view
/-- One staging buffer of output window 9, through which its contents are stated (`View.read_writes_of_cover`: the
    choice does not matter). -/
abbrev VO0_9 : View sig .tc .vmem S1x1x160x1 .f32 := (Memref.whole cc0_stg9_0 : Memref sig .tc .vmem S1x1x160x1 .f32).view
/-- Each window's current staging memref at point `t`, spelled as the pipeline passes it (`bodyAt0`), and its wholeness. -/
abbrev ms0_0 (hO : Ok m) (t : Fin (cfgM m hO).N) : Memref sig .tc .vmem S1x480x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x160x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x160x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x480x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x3x160x512 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x3x1x512 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x160x512 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x1x512 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x160x512 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1x160x1 .f32 := spec0_9.stage ((cfgM m hO).slots t 9)
abbrev hs0_9 (hO : Ok m) (t : Fin (cfgM m hO).N) : (ms0_9 m hO t).IsWhole := hstage0_9 (((cfgM m hO).slots t 9).cast nbuf0_9)
/-- The scratch operands: whole scoped buffers of the kernel's own, passed beside the windows. -/
abbrev scM0_0 : Memref sig .tc .vmem S512x160 .fp8e4m3 := Memref.whole cc0_scratch0
abbrev scM0_1 : Memref sig .tc .vmem S512x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.Value.Word.lean ====
/- The four conditions of the kernel body: exactly one of them holds, and what each says of the prefix length. -/
module

public import proofs.«01_k».proof.Proof.Gen.KernelIdeal
public import Idealize.ShloMosaic.Lib.WordCmp

@[expose] public section

namespace Cert.KernelIdeal.Gen

open Idealize.ShloMosaic

/-- The number of key blocks that the prefix reaches, before it is clipped to 1 … 4, as the kernel computes it. -/
def rawReach (v1 : BitVec 32) : BitVec 32 :=
  let v588 : BitVec 32 := Scalar.subi (Scalar.addi v1 128#32) 1#32
  let v594 : BitVec 32 := Scalar.subi (Scalar.extui (Scalar.cmpi .sgt v588 0#32)) (Scalar.extui (Scalar.cmpi .slt v588 0#32))
  let v599 : BitVec 32 := Scalar.subi (Scalar.extui (Scalar.cmpi .sgt 128#32 0#32)) (Scalar.extui (Scalar.cmpi .slt 128#32 0#32))
  let v603 : BitVec 1 := Scalar.andi (Scalar.cmpi .ne v594 v599) (Scalar.cmpi .ne (Scalar.remsi v588 128#32) 0#32)
  let v589 : BitVec 32 := Scalar.divsi v588 128#32
  Scalar.select v603 (Scalar.subi v589 1#32) v589

/-- The clipped number of key blocks. -/
def reach (v1 : BitVec 32) : BitVec 32 := Scalar.minsi 4#32 (Scalar.maxsi 1#32 (rawReach v1))

/-- A test "the word is `k`", widened and compared with zero, is the test. -/
theorem eq_test (r k : BitVec 32) : Scalar.cmpi .ne (Scalar.extui (Scalar.cmpi .eq r k) : BitVec 32) 0#32 = 1#1 ↔ r = k := by
  by_cases h : r = k
  · subst h; simp [Scalar.cmpi, IntOp.cmpi, Scalar.extui]
  · have hb : (r == k) = false := beq_eq_false_iff_ne.mpr h
    simp only [Scalar.cmpi, IntOp.cmpi, Scalar.extui, hb, h, iff_false]
    decide

theorem cond1_iff (v1 : BitVec 32) : k0_cond1 v1 = 1#1 ↔ reach v1 = 1#32 := eq_test (reach v1) 1#32
theorem cond2_iff (v1 : BitVec 32) : k0_cond2 v1 = 1#1 ↔ reach v1 = 2#32 := eq_test (reach v1) 2#32
theorem cond3_iff (v1 : BitVec 32) : k0_cond3 v1 = 1#1 ↔ reach v1 = 3#32 := eq_test (reach v1) 3#32
theorem cond4_iff (v1 : BitVec 32) : k0_cond4 v1 = 1#1 ↔ reach v1 = 4#32 := eq_test (reach v1) 4#32

/-- The clipped word as an integer. -/
theorem reach_toInt (v1 : BitVec 32) : (reach v1).toInt = min 4 (max 1 (rawReach v1).toInt) := by
  unfold reach
  generalize rawReach v1 = w
  simp only [Scalar.minsi, Scalar.maxsi, IntOp.minsi, IntOp.maxsi, BitVec.slt, decide_eq_true_eq]
  have h4 : (4#32).toInt = 4 := by decide
  have h1 : (1#32).toInt = 1 := by decide
  split_ifs <;> omega

/-- Exactly one of the four conditions holds. -/
theorem cond_cases (v1 : BitVec 32) :
    (k0_cond1 v1 = 1#1 ∧ ¬ k0_cond2 v1 = 1#1 ∧ ¬ k0_cond3 v1 = 1#1 ∧ ¬ k0_cond4 v1 = 1#1)
    ∨ (¬ k0_cond1 v1 = 1#1 ∧ k0_cond2 v1 = 1#1 ∧ ¬ k0_cond3 v1 = 1#1 ∧ ¬ k0_cond4 v1 = 1#1)
    ∨ (¬ k0_cond1 v1 = 1#1 ∧ ¬ k0_cond2 v1 = 1#1 ∧ k0_cond3 v1 = 1#1 ∧ ¬ k0_cond4 v1 = 1#1)
    ∨ (¬ k0_cond1 v1 = 1#1 ∧ ¬ k0_cond2 v1 = 1#1 ∧ ¬ k0_cond3 v1 = 1#1 ∧ k0_cond4 v1 = 1#1) := by
  simp only [cond1_iff, cond2_iff, cond3_iff, cond4_iff]
  simp only [← BitVec.toInt_inj]
  rw [reach_toInt]
  have h1 : (1#32).toInt = 1 := by decide
  have h2 : (2#32).toInt = 2 := by decide
  have h3 : (3#32).toInt = 3 := by decide
  have h4 : (4#32).toInt = 4 := by decide
  rw [h1, h2, h3, h4]
  omega

end Cert.KernelIdeal.Gen

end
-- ==== Proof.Named.Whole.lean ====
/- A whole buffer written all over, and the four branches of the kernel exclude each other. -/
module

public import proofs.«01_k».proof.Proof.Named.Runs
public import proofs.«01_k».proof.Proof.Value.Word

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A whole buffer after writes that cover it holds their canonical contents. -/
theorem writes_eq_unread {s : Shape} {e : EltTy} {a : Memref sig .tc .vmem s e} (h : a.IsWhole) (f : a.view.ty.Contents (Elt F))
    (L : List (View.Piece (Elt F) s e)) (hc : ∀ y, ∃ p ∈ L, y ∈ p.1.set) : a.view.writes (Elt F) f L = h.unread (View.canon L) :=
  h.eq_unread (View.read_writes_eq_canon _ f L hc)

/-! The branches exclude each other. -/
theorem at1 {v1 : BitVec 32} (h : k0_cond1 v1 = 1#1) : k0_cond1 v1 = 1#1 ∧ ¬ k0_cond2 v1 = 1#1 ∧ ¬ k0_cond3 v1 = 1#1 ∧ ¬ k0_cond4 v1 = 1#1 := by
  rcases cond_cases v1 with H | H | H | H
  · exact H
  · exact absurd h H.1
  · exact absurd h H.1
  · exact absurd h H.1
theorem at2 {v1 : BitVec 32} (h : k0_cond2 v1 = 1#1) : ¬ k0_cond1 v1 = 1#1 ∧ k0_cond2 v1 = 1#1 ∧ ¬ k0_cond3 v1 = 1#1 ∧ ¬ k0_cond4 v1 = 1#1 := by
  rcases cond_cases v1 with H | H | H | H
  · exact absurd h H.2.1
  · exact H
  · exact absurd h H.2.1
  · exact absurd h H.2.1
theorem at3 {v1 : BitVec 32} (h : k0_cond3 v1 = 1#1) : ¬ k0_cond1 v1 = 1#1 ∧ ¬ k0_cond2 v1 = 1#1 ∧ k0_cond3 v1 = 1#1 ∧ ¬ k0_cond4 v1 = 1#1 := by
  rcases cond_cases v1 with H | H | H | H
  · exact absurd h H.2.2.1
  · exact absurd h H.2.2.1
  · exact H
  · exact absurd h H.2.2.1
theorem at4 {v1 : BitVec 32} (h : k0_cond4 v1 = 1#1) : ¬ k0_cond1 v1 = 1#1 ∧ ¬ k0_cond2 v1 = 1#1 ∧ ¬ k0_cond3 v1 = 1#1 ∧ k0_cond4 v1 = 1#1 := by
  rcases cond_cases v1 with H | H | H | H
  · exact absurd h H.2.2.2
  · exact absurd h H.2.2.2
  · exact absurd h H.2.2.2
  · exact H

end Cert.KernelIdeal.Gen

end
-- ==== Proof.Named.Run1.lean ====
/- What the kernel leaves behind when the prefix reaches 1 of the 4 key blocks. -/
module

public import proofs.«01_k».proof.Proof.Named.Runs
public import proofs.«01_k».proof.Proof.Named.Whole
public import proofs.«01_k».proof.Proof.Value.Word

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body leaves in each output's staging buffer, WITH the proof that on whole staging buffers — the inputs' at their
    contents, the others at anything — the body runs to the continuation holding the inputs' as they were and each output's
    at that value. This is the run in which the prefix reaches 1 of the 4 key blocks. -/
noncomputable def kernelRun0_1 (c : Dev nD) (i : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) :
    Σ' (W : BitVec 32), Σ' (L3 : List (View.Piece (Elt F) S1x480x512 .bf16)), Σ' (O4 : Vec F S1x3x160x512 .fp8e4m3), Σ' (O5 : Vec F S1x3x1x512 .f32), Σ' (O6 : Vec F S1x1x160x512 .fp8e4m3), Σ' (O7 : Vec F S1x1x1x512 .f32), Σ' (O8 : Vec F S1x1x160x512 .fp8e4m3), Σ' (O9 : Vec F S1x1x160x1 .f32),
      k0_cond1 W = 1#1 → ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (arg7.view.loc (c : Thread nD τ) ↦[arg7.view.set]{fullShare} harg7.unread O4) ∗ (arg8.view.loc (c : Thread nD τ) ↦[arg8.view.set]{fullShare} harg8.unread O5) ∗ (arg9.view.loc (c : Thread nD τ) ↦[arg9.view.set]{fullShare} harg9.unread O6) ∗ (arg10.view.loc (c : Thread nD τ) ↦[arg10.view.set]{fullShare} harg10.unread O7) ∗ (arg11.view.loc (c : Thread nD τ) ↦[arg11.view.set]{fullShare} harg11.unread O8) ∗ (arg12.view.loc (c : Thread nD τ) ↦[arg12.view.set]{fullShare} harg12.unread O9) ∗ (∃ d, owns (c : Thread nD τ) arg13 fullShare d) ∗ (∃ d, owns (c : Thread nD τ) arg14 fullShare d) ∗ tbPt0 c tbM0_0 xt0) -∗ K ⟨⟩))
          ⊢ wp frame (wpE (defs₀ (F := F)) Variants.none c none) E (cc0_prefix_attention i tbM0_0 htbM0_0 arg3 harg3 arg4 harg4 arg5 harg5 arg6 harg6 arg7 harg7 arg8 harg8 arg9 harg9 arg10 harg10 arg11 harg11 arg12 harg12 arg13 harg13 arg14 harg14) K := by
  refine ⟨?W, ?L3, ?O4, ?O5, ?O6, ?O7, ?O8, ?O9, fun hJ E K => ?run⟩
  case' run =>
    simp only [cc0_prefix_attention_eq_skeleton]; unfold cc0_prefix_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, HT0, Hk⟩
    obtain rfl := harg3.eq_unread hf0; obtain rfl := harg4.eq_unread hf1; obtain rfl := harg5.eq_unread hf2
    set_option sl_exec.stopBefore "k0_cond1" in sl_exec
    rw [writes_eq_unread harg7 f4 _ (View.cover_of_tiledL _ S1x1x160x512.size (by sl_kernel_rfl)),
      writes_eq_unread harg8 f5 _ (View.cover_of_tiledL _ S1x1x1x512.size (by sl_kernel_rfl)),
      writes_eq_unread harg9 f6 _ (View.cover_of_tiledL _ S1x1x160x512.size (by sl_kernel_rfl)),
      writes_eq_unread harg10 f7 _ (View.cover_of_tiledL _ S1x1x1x512.size (by sl_kernel_rfl)),
      writes_eq_unread harg11 f8 _ (View.cover_of_tiledL _ S1x1x160x512.size (by sl_kernel_rfl)),
      writes_eq_unread harg12 f9 _ (View.cover_of_tiledL _ S1x1x160x1.size (by sl_kernel_rfl)),
      writes_eq_unread harg13 fs0 _ (View.cover_of_tiledL _ S512x160.size (by sl_kernel_rfl)),
      writes_eq_unread harg14 fs1 _ (View.cover_of_tiledL _ S128x128.size (by sl_kernel_rfl))]
  case W => exact (kernelRun0_1.sl.r c i xt0)
  obtain ⟨C1, C2, C3, C4⟩ := at1 hJ
  sl_exec
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; iexact H3
  isplitl [H4]; · iexact H4
  isplitl [H5]; · iexact H5
  isplitl [H6]; · iexact H6
  isplitl [H7]; · iexact H7
  isplitl [H8]; · iexact H8
  isplitl [H9]; · iexact H9
  isplitl [HS0]
  · iexists _, _; isplitr; swap; · iexact HS0
    ipureintro; rfl
  isplitl [HS1]
  · iexists _, _; isplitr; swap; · iexact HS1
    ipureintro; rfl
  iexact HT0

end Cert.KernelIdeal.Gen

end
-- ==== Proof.Named.Run2.lean ====
/- What the kernel leaves behind when the prefix reaches 2 of the 4 key blocks. -/
module

public import proofs.«01_k».proof.Proof.Named.Runs
public import proofs.«01_k».proof.Proof.Named.Whole
public import proofs.«01_k».proof.Proof.Value.Word

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body leaves in each output's staging buffer, WITH the proof that on whole staging buffers — the inputs' at their
    contents, the others at anything — the body runs to the continuation holding the inputs' as they were and each output's
    at that value. This is the run in which the prefix reaches 2 of the 4 key blocks. -/
noncomputable def kernelRun0_2 (c : Dev nD) (i : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) :
    Σ' (W : BitVec 32), Σ' (L3 : List (View.Piece (Elt F) S1x480x512 .bf16)), Σ' (O4 : Vec F S1x3x160x512 .fp8e4m3), Σ' (O5 : Vec F S1x3x1x512 .f32), Σ' (O6 : Vec F S1x1x160x512 .fp8e4m3), Σ' (O7 : Vec F S1x1x1x512 .f32), Σ' (O8 : Vec F S1x1x160x512 .fp8e4m3), Σ' (O9 : Vec F S1x1x160x1 .f32),
      k0_cond2 W = 1#1 → ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (arg7.view.loc (c : Thread nD τ) ↦[arg7.view.set]{fullShare} harg7.unread O4) ∗ (arg8.view.loc (c : Thread nD τ) ↦[arg8.view.set]{fullShare} harg8.unread O5) ∗ (arg9.view.loc (c : Thread nD τ) ↦[arg9.view.set]{fullShare} harg9.unread O6) ∗ (arg10.view.loc (c : Thread nD τ) ↦[arg10.view.set]{fullShare} harg10.unread O7) ∗ (arg11.view.loc (c : Thread nD τ) ↦[arg11.view.set]{fullShare} harg11.unread O8) ∗ (arg12.view.loc (c : Thread nD τ) ↦[arg12.view.set]{fullShare} harg12.unread O9) ∗ (∃ d, owns (c : Thread nD τ) arg13 fullShare d) ∗ (∃ d, owns (c : Thread nD τ) arg14 fullShare d) ∗ tbPt0 c tbM0_0 xt0) -∗ K ⟨⟩))
          ⊢ wp frame (wpE (defs₀ (F := F)) Variants.none c none) E (cc0_prefix_attention i tbM0_0 htbM0_0 arg3 harg3 arg4 harg4 arg5 harg5 arg6 harg6 arg7 harg7 arg8 harg8 arg9 harg9 arg10 harg10 arg11 harg11 arg12 harg12 arg13 harg13 arg14 harg14) K := by
  refine ⟨?W, ?L3, ?O4, ?O5, ?O6, ?O7, ?O8, ?O9, fun hJ E K => ?run⟩
  case' run =>
    simp only [cc0_prefix_attention_eq_skeleton]; unfold cc0_prefix_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, HT0, Hk⟩
    obtain rfl := harg3.eq_unread hf0; obtain rfl := harg4.eq_unread hf1; obtain rfl := harg5.eq_unread hf2
    set_option sl_exec.stopBefore "k0_cond1" in sl_exec
    rw [writes_eq_unread harg7 f4 _ (View.cover_of_tiledL _ S1x1x160x512.size (by sl_kernel_rfl)),
      writes_eq_unread harg8 f5 _ (View.cover_of_tiledL _ S1x1x1x512.size (by sl_kernel_rfl)),
      writes_eq_unread harg9 f6 _ (View.cover_of_tiledL _ S1x1x160x512.size (by sl_kernel_rfl)),
      writes_eq_unread harg10 f7 _ (View.cover_of_tiledL _ S1x1x1x512.size (by sl_kernel_rfl)),
      writes_eq_unread harg11 f8 _ (View.cover_of_tiledL _ S1x1x160x512.size (by sl_kernel_rfl)),
      writes_eq_unread harg12 f9 _ (View.cover_of_tiledL _ S1x1x160x1.size (by sl_kernel_rfl)),
      writes_eq_unread harg13 fs0 _ (View.cover_of_tiledL _ S512x160.size (by sl_kernel_rfl)),
      writes_eq_unread harg14 fs1 _ (View.cover_of_tiledL _ S128x128.size (by sl_kernel_rfl))]
  case W => exact (kernelRun0_2.sl.r c i xt0)
  obtain ⟨C1, C2, C3, C4⟩ := at2 hJ
  sl_exec
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; iexact H3
  isplitl [H4]; · iexact H4
  isplitl [H5]; · iexact H5
  isplitl [H6]; · iexact H6
  isplitl [H7]; · iexact H7
  isplitl [H8]; · iexact H8
  isplitl [H9]; · iexact H9
  isplitl [HS0]
  · iexists _, _; isplitr; swap; · iexact HS0
    ipureintro; rfl
  isplitl [HS1]
  · iexists _, _; isplitr; swap; · iexact HS1
    ipureintro; rfl
  iexact HT0

end Cert.KernelIdeal.Gen

end
-- ==== Proof.Named.Run3.lean ====
/- What the kernel leaves behind when the prefix reaches 3 of the 4 key blocks. -/
module

public import proofs.«01_k».proof.Proof.Named.Runs
public import proofs.«01_k».proof.Proof.Named.Whole
public import proofs.«01_k».proof.Proof.Value.Word

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body leaves in each output's staging buffer, WITH the proof that on whole staging buffers — the inputs' at their
    contents, the others at anything — the body runs to the continuation holding the inputs' as they were and each output's
    at that value. This is the run in which the prefix reaches 3 of the 4 key blocks. -/
noncomputable def kernelRun0_3 (c : Dev nD) (i : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) :
    Σ' (W : BitVec 32), Σ' (L3 : List (View.Piece (Elt F) S1x480x512 .bf16)), Σ' (O4 : Vec F S1x3x160x512 .fp8e4m3), Σ' (O5 : Vec F S1x3x1x512 .f32), Σ' (O6 : Vec F S1x1x160x512 .fp8e4m3), Σ' (O7 : Vec F S1x1x1x512 .f32), Σ' (O8 : Vec F S1x1x160x512 .fp8e4m3), Σ' (O9 : Vec F S1x1x160x1 .f32),
      k0_cond3 W = 1#1 → ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (arg7.view.loc (c : Thread nD τ) ↦[arg7.view.set]{fullShare} harg7.unread O4) ∗ (arg8.view.loc (c : Thread nD τ) ↦[arg8.view.set]{fullShare} harg8.unread O5) ∗ (arg9.view.loc (c : Thread nD τ) ↦[arg9.view.set]{fullShare} harg9.unread O6) ∗ (arg10.view.loc (c : Thread nD τ) ↦[arg10.view.set]{fullShare} harg10.unread O7) ∗ (arg11.view.loc (c : Thread nD τ) ↦[arg11.view.set]{fullShare} harg11.unread O8) ∗ (arg12.view.loc (c : Thread nD τ) ↦[arg12.view.set]{fullShare} harg12.unread O9) ∗ (∃ d, owns (c : Thread nD τ) arg13 fullShare d) ∗ (∃ d, owns (c : Thread nD τ) arg14 fullShare d) ∗ tbPt0 c tbM0_0 xt0) -∗ K ⟨⟩))
          ⊢ wp frame (wpE (defs₀ (F := F)) Variants.none c none) E (cc0_prefix_attention i tbM0_0 htbM0_0 arg3 harg3 arg4 harg4 arg5 harg5 arg6 harg6 arg7 harg7 arg8 harg8 arg9 harg9 arg10 harg10 arg11 harg11 arg12 harg12 arg13 harg13 arg14 harg14) K := by
  refine ⟨?W, ?L3, ?O4, ?O5, ?O6, ?O7, ?O8, ?O9, fun hJ E K => ?run⟩
  case' run =>
    simp only [cc0_prefix_attention_eq_skeleton]; unfold cc0_prefix_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, HT0, Hk⟩
    obtain rfl := harg3.eq_unread hf0; obtain rfl := harg4.eq_unread hf1; obtain rfl := harg5.eq_unread hf2
    set_option sl_exec.stopBefore "k0_cond1" in sl_exec
    rw [writes_eq_unread harg7 f4 _ (View.cover_of_tiledL _ S1x1x160x512.size (by sl_kernel_rfl)),
      writes_eq_unread harg8 f5 _ (View.cover_of_tiledL _ S1x1x1x512.size (by sl_kernel_rfl)),
      writes_eq_unread harg9 f6 _ (View.cover_of_tiledL _ S1x1x160x512.size (by sl_kernel_rfl)),
      writes_eq_unread harg10 f7 _ (View.cover_of_tiledL _ S1x1x1x512.size (by sl_kernel_rfl)),
      writes_eq_unread harg11 f8 _ (View.cover_of_tiledL _ S1x1x160x512.size (by sl_kernel_rfl)),
      writes_eq_unread harg12 f9 _ (View.cover_of_tiledL _ S1x1x160x1.size (by sl_kernel_rfl)),
      writes_eq_unread harg13 fs0 _ (View.cover_of_tiledL _ S512x160.size (by sl_kernel_rfl)),
      writes_eq_unread harg14 fs1 _ (View.cover_of_tiledL _ S128x128.size (by sl_kernel_rfl))]
  case W => exact (kernelRun0_3.sl.r c i xt0)
  obtain ⟨C1, C2, C3, C4⟩ := at3 hJ
  sl_exec
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; iexact H3
  isplitl [H4]; · iexact H4
  isplitl [H5]; · iexact H5
  isplitl [H6]; · iexact H6
  isplitl [H7]; · iexact H7
  isplitl [H8]; · iexact H8
  isplitl [H9]; · iexact H9
  isplitl [HS0]
  · iexists _, _; isplitr; swap; · iexact HS0
    ipureintro; rfl
  isplitl [HS1]
  · iexists _, _; isplitr; swap; · iexact HS1
    ipureintro; rfl
  iexact HT0

end Cert.KernelIdeal.Gen

end
-- ==== Proof.Named.Run4.lean ====
/- What the kernel leaves behind when the prefix reaches 4 of the 4 key blocks. -/
module

public import proofs.«01_k».proof.Proof.Named.Runs
public import proofs.«01_k».proof.Proof.Named.Whole
public import proofs.«01_k».proof.Proof.Value.Word

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body leaves in each output's staging buffer, WITH the proof that on whole staging buffers — the inputs' at their
    contents, the others at anything — the body runs to the continuation holding the inputs' as they were and each output's
    at that value. This is the run in which the prefix reaches 4 of the 4 key blocks. -/
noncomputable def kernelRun0_4 (c : Dev nD) (i : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) :
    Σ' (W : BitVec 32), Σ' (L3 : List (View.Piece (Elt F) S1x480x512 .bf16)), Σ' (O4 : Vec F S1x3x160x512 .fp8e4m3), Σ' (O5 : Vec F S1x3x1x512 .f32), Σ' (O6 : Vec F S1x1x160x512 .fp8e4m3), Σ' (O7 : Vec F S1x1x1x512 .f32), Σ' (O8 : Vec F S1x1x160x512 .fp8e4m3), Σ' (O9 : Vec F S1x1x160x1 .f32),
      k0_cond4 W = 1#1 → ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (arg7.view.loc (c : Thread nD τ) ↦[arg7.view.set]{fullShare} harg7.unread O4) ∗ (arg8.view.loc (c : Thread nD τ) ↦[arg8.view.set]{fullShare} harg8.unread O5) ∗ (arg9.view.loc (c : Thread nD τ) ↦[arg9.view.set]{fullShare} harg9.unread O6) ∗ (arg10.view.loc (c : Thread nD τ) ↦[arg10.view.set]{fullShare} harg10.unread O7) ∗ (arg11.view.loc (c : Thread nD τ) ↦[arg11.view.set]{fullShare} harg11.unread O8) ∗ (arg12.view.loc (c : Thread nD τ) ↦[arg12.view.set]{fullShare} harg12.unread O9) ∗ (∃ d, owns (c : Thread nD τ) arg13 fullShare d) ∗ (∃ d, owns (c : Thread nD τ) arg14 fullShare d) ∗ tbPt0 c tbM0_0 xt0) -∗ K ⟨⟩))
          ⊢ wp frame (wpE (defs₀ (F := F)) Variants.none c none) E (cc0_prefix_attention i tbM0_0 htbM0_0 arg3 harg3 arg4 harg4 arg5 harg5 arg6 harg6 arg7 harg7 arg8 harg8 arg9 harg9 arg10 harg10 arg11 harg11 arg12 harg12 arg13 harg13 arg14 harg14) K := by
  refine ⟨?W, ?L3, ?O4, ?O5, ?O6, ?O7, ?O8, ?O9, fun hJ E K => ?run⟩
  case' run =>
    simp only [cc0_prefix_attention_eq_skeleton]; unfold cc0_prefix_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, HT0, Hk⟩
    obtain rfl := harg3.eq_unread hf0; obtain rfl := harg4.eq_unread hf1; obtain rfl := harg5.eq_unread hf2
    set_option sl_exec.stopBefore "k0_cond1" in sl_exec
    rw [writes_eq_unread harg7 f4 _ (View.cover_of_tiledL _ S1x1x160x512.size (by sl_kernel_rfl)),
      writes_eq_unread harg8 f5 _ (View.cover_of_tiledL _ S1x1x1x512.size (by sl_kernel_rfl)),
      writes_eq_unread harg9 f6 _ (View.cover_of_tiledL _ S1x1x160x512.size (by sl_kernel_rfl)),
      writes_eq_unread harg10 f7 _ (View.cover_of_tiledL _ S1x1x1x512.size (by sl_kernel_rfl)),
      writes_eq_unread harg11 f8 _ (View.cover_of_tiledL _ S1x1x160x512.size (by sl_kernel_rfl)),
      writes_eq_unread harg12 f9 _ (View.cover_of_tiledL _ S1x1x160x1.size (by sl_kernel_rfl)),
      writes_eq_unread harg13 fs0 _ (View.cover_of_tiledL _ S512x160.size (by sl_kernel_rfl)),
      writes_eq_unread harg14 fs1 _ (View.cover_of_tiledL _ S128x128.size (by sl_kernel_rfl))]
  case W => exact (kernelRun0_4.sl.r c i xt0)
  obtain ⟨C1, C2, C3, C4⟩ := at4 hJ
  sl_exec
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; iexact H3
  isplitl [H4]; · iexact H4
  isplitl [H5]; · iexact H5
  isplitl [H6]; · iexact H6
  isplitl [H7]; · iexact H7
  isplitl [H8]; · iexact H8
  isplitl [H9]; · iexact H9
  isplitl [HS0]
  · iexists _, _; isplitr; swap; · iexact HS0
    ipureintro; rfl
  isplitl [HS1]
  · iexists _, _; isplitr; swap; · iexact HS1
    ipureintro; rfl
  iexact HT0

end Cert.KernelIdeal.Gen

end
-- ==== Proof.Named.Body.lean ====
/- What the kernel leaves in its outputs at each grid point. -/
module

public import proofs.«01_k».proof.Proof.Named.Run1
public import proofs.«01_k».proof.Proof.Named.Run2
public import proofs.«01_k».proof.Proof.Named.Run3
public import proofs.«01_k».proof.Proof.Named.Run4
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The prefix length that the run reads. -/
def word0 (c : Dev nD) (i : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) : BitVec 32 :=
  (kernelRun0_1 c i arg3 harg3 arg4 harg4 arg5 harg5 arg6 harg6 arg7 harg7 arg8 harg8 arg9 harg9 arg10 harg10 arg11 harg11 arg12 harg12 arg13 harg13 arg14 harg14 x0 x1 x2 xt0).1

/-- What the run leaves in the seven outputs' staging buffers, in window order, when the prefix reaches 1 of the 4 key blocks. -/
def res0_1 (c : Dev nD) (i : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) :
    Vec F S1x480x512 .bf16 × Vec F S1x3x160x512 .fp8e4m3 × Vec F S1x3x1x512 .f32 × Vec F S1x1x160x512 .fp8e4m3 × Vec F S1x1x1x512 .f32 × Vec F S1x1x160x512 .fp8e4m3 × Vec F S1x1x160x1 .f32 :=
  let R := kernelRun0_1 c i arg3 harg3 arg4 harg4 arg5 harg5 arg6 harg6 arg7 harg7 arg8 harg8 arg9 harg9 arg10 harg10 arg11 harg11 arg12 harg12 arg13 harg13 arg14 harg14 x0 x1 x2 xt0
  (View.canon R.2.1, R.2.2.1, R.2.2.2.1, R.2.2.2.2.1, R.2.2.2.2.2.1, R.2.2.2.2.2.2.1, R.2.2.2.2.2.2.2.1)

/-- Then the twelve stores into the output block tile it, so they cover it. -/
theorem cover0_1 (c : Dev nD) (i : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) (y : S1x480x512.Idx) :
    ∃ p ∈ (kernelRun0_1 c i arg3 harg3 arg4 harg4 arg5 harg5 arg6 harg6 arg7 harg7 arg8 harg8 arg9 harg9 arg10 harg10 arg11 harg11 arg12 harg12 arg13 harg13 arg14 harg14 x0 x1 x2 xt0).2.1, y ∈ p.1.set :=
  View.cover_of_tiledL (kernelRun0_1 c i arg3 harg3 arg4 harg4 arg5 harg5 arg6 harg6 arg7 harg7 arg8 harg8 arg9 harg9 arg10 harg10 arg11 harg11 arg12 harg12 arg13 harg13 arg14 harg14 x0 x1 x2 xt0).2.1 S1x160x128.size (by sl_kernel_rfl) y

/-- What the run leaves in the seven outputs' staging buffers, in window order, when the prefix reaches 2 of the 4 key blocks. -/
def res0_2 (c : Dev nD) (i : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) :
    Vec F S1x480x512 .bf16 × Vec F S1x3x160x512 .fp8e4m3 × Vec F S1x3x1x512 .f32 × Vec F S1x1x160x512 .fp8e4m3 × Vec F S1x1x1x512 .f32 × Vec F S1x1x160x512 .fp8e4m3 × Vec F S1x1x160x1 .f32 :=
  let R := kernelRun0_2 c i arg3 harg3 arg4 harg4 arg5 harg5 arg6 harg6 arg7 harg7 arg8 harg8 arg9 harg9 arg10 harg10 arg11 harg11 arg12 harg12 arg13 harg13 arg14 harg14 x0 x1 x2 xt0
  (View.canon R.2.1, R.2.2.1, R.2.2.2.1, R.2.2.2.2.1, R.2.2.2.2.2.1, R.2.2.2.2.2.2.1, R.2.2.2.2.2.2.2.1)

/-- Then the twelve stores into the output block tile it, so they cover it. -/
theorem cover0_2 (c : Dev nD) (i : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) (y : S1x480x512.Idx) :
    ∃ p ∈ (kernelRun0_2 c i arg3 harg3 arg4 harg4 arg5 harg5 arg6 harg6 arg7 harg7 arg8 harg8 arg9 harg9 arg10 harg10 arg11 harg11 arg12 harg12 arg13 harg13 arg14 harg14 x0 x1 x2 xt0).2.1, y ∈ p.1.set :=
  View.cover_of_tiledL (kernelRun0_2 c i arg3 harg3 arg4 harg4 arg5 harg5 arg6 harg6 arg7 harg7 arg8 harg8 arg9 harg9 arg10 harg10 arg11 harg11 arg12 harg12 arg13 harg13 arg14 harg14 x0 x1 x2 xt0).2.1 S1x160x128.size (by sl_kernel_rfl) y

/-- What the run leaves in the seven outputs' staging buffers, in window order, when the prefix reaches 3 of the 4 key blocks. -/
def res0_3 (c : Dev nD) (i : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) :
    Vec F S1x480x512 .bf16 × Vec F S1x3x160x512 .fp8e4m3 × Vec F S1x3x1x512 .f32 × Vec F S1x1x160x512 .fp8e4m3 × Vec F S1x1x1x512 .f32 × Vec F S1x1x160x512 .fp8e4m3 × Vec F S1x1x160x1 .f32 :=
  let R := kernelRun0_3 c i arg3 harg3 arg4 harg4 arg5 harg5 arg6 harg6 arg7 harg7 arg8 harg8 arg9 harg9 arg10 harg10 arg11 harg11 arg12 harg12 arg13 harg13 arg14 harg14 x0 x1 x2 xt0
  (View.canon R.2.1, R.2.2.1, R.2.2.2.1, R.2.2.2.2.1, R.2.2.2.2.2.1, R.2.2.2.2.2.2.1, R.2.2.2.2.2.2.2.1)

/-- Then the twelve stores into the output block tile it, so they cover it. -/
theorem cover0_3 (c : Dev nD) (i : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) (y : S1x480x512.Idx) :
    ∃ p ∈ (kernelRun0_3 c i arg3 harg3 arg4 harg4 arg5 harg5 arg6 harg6 arg7 harg7 arg8 harg8 arg9 harg9 arg10 harg10 arg11 harg11 arg12 harg12 arg13 harg13 arg14 harg14 x0 x1 x2 xt0).2.1, y ∈ p.1.set :=
  View.cover_of_tiledL (kernelRun0_3 c i arg3 harg3 arg4 harg4 arg5 harg5 arg6 harg6 arg7 harg7 arg8 harg8 arg9 harg9 arg10 harg10 arg11 harg11 arg12 harg12 arg13 harg13 arg14 harg14 x0 x1 x2 xt0).2.1 S1x160x128.size (by sl_kernel_rfl) y

/-- What the run leaves in the seven outputs' staging buffers, in window order, when the prefix reaches 4 of the 4 key blocks. -/
def res0_4 (c : Dev nD) (i : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) :
    Vec F S1x480x512 .bf16 × Vec F S1x3x160x512 .fp8e4m3 × Vec F S1x3x1x512 .f32 × Vec F S1x1x160x512 .fp8e4m3 × Vec F S1x1x1x512 .f32 × Vec F S1x1x160x512 .fp8e4m3 × Vec F S1x1x160x1 .f32 :=
  let R := kernelRun0_4 c i arg3 harg3 arg4 harg4 arg5 harg5 arg6 harg6 arg7 harg7 arg8 harg8 arg9 harg9 arg10 harg10 arg11 harg11 arg12 harg12 arg13 harg13 arg14 harg14 x0 x1 x2 xt0
  (View.canon R.2.1, R.2.2.1, R.2.2.2.1, R.2.2.2.2.1, R.2.2.2.2.2.1, R.2.2.2.2.2.2.1, R.2.2.2.2.2.2.2.1)

/-- Then the twelve stores into the output block tile it, so they cover it. -/
theorem cover0_4 (c : Dev nD) (i : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) (y : S1x480x512.Idx) :
    ∃ p ∈ (kernelRun0_4 c i arg3 harg3 arg4 harg4 arg5 harg5 arg6 harg6 arg7 harg7 arg8 harg8 arg9 harg9 arg10 harg10 arg11 harg11 arg12 harg12 arg13 harg13 arg14 harg14 x0 x1 x2 xt0).2.1, y ∈ p.1.set :=
  View.cover_of_tiledL (kernelRun0_4 c i arg3 harg3 arg4 harg4 arg5 harg5 arg6 harg6 arg7 harg7 arg8 harg8 arg9 harg9 arg10 harg10 arg11 harg11 arg12 harg12 arg13 harg13 arg14 harg14 x0 x1 x2 xt0).2.1 S1x160x128.size (by sl_kernel_rfl) y

/-! ## What the outputs hold after each point -/

/-- What the outputs' staging buffers hold after the body at point `t` (as a tuple, in window order): the run's contents at
    the point's memrefs and input blocks. -/
@[irreducible] def outsAt0 (hO : Ok m) (c : Dev nD) (t : Fin (cfgM m hO).N) : Vec F S1x480x512 .bf16 × Vec F S1x3x160x512 .fp8e4m3 × Vec F S1x3x1x512 .f32 × Vec F S1x1x160x512 .fp8e4m3 × Vec F S1x1x1x512 .f32 × Vec F S1x1x160x512 .fp8e4m3 × Vec F S1x1x160x1 .f32 :=
  if k0_cond1 (word0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) (iblk m hO c 0 t) (iblk m hO c 1 t) (iblk m hO c 2 t) (tbl m 0)) = 1#1 then res0_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) (iblk m hO c 0 t) (iblk m hO c 1 t) (iblk m hO c 2 t) (tbl m 0)
  else if k0_cond2 (word0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) (iblk m hO c 0 t) (iblk m hO c 1 t) (iblk m hO c 2 t) (tbl m 0)) = 1#1 then res0_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) (iblk m hO c 0 t) (iblk m hO c 1 t) (iblk m hO c 2 t) (tbl m 0)
  else if k0_cond3 (word0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) (iblk m hO c 0 t) (iblk m hO c 1 t) (iblk m hO c 2 t) (tbl m 0)) = 1#1 then res0_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) (iblk m hO c 0 t) (iblk m hO c 1 t) (iblk m hO c 2 t) (tbl m 0)
  else res0_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) (iblk m hO c 0 t) (iblk m hO c 1 t) (iblk m hO c 2 t) (tbl m 0)

/-- The prefix length of point `t`. -/
def wordAt (hO : Ok m) (c : Dev nD) (t : Fin (cfgM m hO).N) : BitVec 32 := word0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) (iblk m hO c 0 t) (iblk m hO c 1 t) (iblk m hO c 2 t) (tbl m 0)

theorem outsAt0_1 (hO : Ok m) (c : Dev nD) (t : Fin (cfgM m hO).N) (h : k0_cond1 (wordAt m hO c t) = 1#1) :
    outsAt0 m hO c t = res0_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) (iblk m hO c 0 t) (iblk m hO c 1 t) (iblk m hO c 2 t) (tbl m 0) := by
  unfold outsAt0; exact if_pos h
theorem outsAt0_2 (hO : Ok m) (c : Dev nD) (t : Fin (cfgM m hO).N) (h : k0_cond2 (wordAt m hO c t) = 1#1) :
    outsAt0 m hO c t = res0_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) (iblk m hO c 0 t) (iblk m hO c 1 t) (iblk m hO c 2 t) (tbl m 0) := by
  unfold outsAt0; exact (if_neg (at2 h).1).trans (if_pos h)
theorem outsAt0_3 (hO : Ok m) (c : Dev nD) (t : Fin (cfgM m hO).N) (h : k0_cond3 (wordAt m hO c t) = 1#1) :
    outsAt0 m hO c t = res0_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) (iblk m hO c 0 t) (iblk m hO c 1 t) (iblk m hO c 2 t) (tbl m 0) := by
  unfold outsAt0; exact (if_neg (at3 h).1).trans ((if_neg (at3 h).2.1).trans (if_pos h))
theorem outsAt0_4 (hO : Ok m) (c : Dev nD) (t : Fin (cfgM m hO).N) (h : k0_cond4 (wordAt m hO c t) = 1#1) :
    outsAt0 m hO c t = res0_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) (iblk m hO c 0 t) (iblk m hO c 1 t) (iblk m hO c 2 t) (tbl m 0) := by
  unfold outsAt0; exact (if_neg (at4 h).1).trans ((if_neg (at4 h).2.1).trans (if_neg (at4 h).2.2.1))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t).1
    | ⟨4, _⟩ => (outsAt0 m hO c t).2.1
    | ⟨5, _⟩ => (outsAt0 m hO c t).2.2.1
    | ⟨6, _⟩ => (outsAt0 m hO c t).2.2.2.1
    | ⟨7, _⟩ => (outsAt0 m hO c t).2.2.2.2.1
    | ⟨8, _⟩ => (outsAt0 m hO c t).2.2.2.2.2.1
    | ⟨9, _⟩ => (outsAt0 m hO c t).2.2.2.2.2.2
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = (outsAt0 m hO c t).1 := by dsimp only [dats]; try rfl
theorem after0_4 (hO : Ok m) (c : Dev nD) (t : Fin (cfgM m hO).N) : (dats m hO 0 c).after 4 t = (outsAt0 m hO c t).2.1 := by dsimp only [dats]; try rfl
theorem after0_5 (hO : Ok m) (c : Dev nD) (t : Fin (cfgM m hO).N) : (dats m hO 0 c).after 5 t = (outsAt0 m hO c t).2.2.1 := by dsimp only [dats]; try rfl
theorem after0_6 (hO : Ok m) (c : Dev nD) (t : Fin (cfgM m hO).N) : (dats m hO 0 c).after 6 t = (outsAt0 m hO c t).2.2.2.1 := by dsimp only [dats]; try rfl
theorem after0_7 (hO : Ok m) (c : Dev nD) (t : Fin (cfgM m hO).N) : (dats m hO 0 c).after 7 t = (outsAt0 m hO c t).2.2.2.2.1 := by dsimp only [dats]; try rfl
theorem after0_8 (hO : Ok m) (c : Dev nD) (t : Fin (cfgM m hO).N) : (dats m hO 0 c).after 8 t = (outsAt0 m hO c t).2.2.2.2.2.1 := by dsimp only [dats]; try rfl
theorem after0_9 (hO : Ok m) (c : Dev nD) (t : Fin (cfgM m hO).N) : (dats m hO 0 c).after 9 t = (outsAt0 m hO c t).2.2.2.2.2.2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t))

set_option maxHeartbeats 1200000 in
/-- The body at a point whose prefix reaches 1 of the 4 key blocks: the inputs' memrefs hold their blocks (`before0_W`); so the
    run applies; the invariant hands the body its scratch buffers at some contents (and the generator register) and takes them back at some contents (`PhiA_eq`); the core owes nothing throughout. -/
theorem sound_body_1 (hO : Ok m) (c : Dev nD) (t : Fin (cfgM m hO).N) (hJ : k0_cond1 (wordAt m hO c t) = 1#1) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9]
  rw [show (dats m hO 0 c).Φ t.castSucc = iprop(Pipeline.ΦA spec0 c ∗ Pipeline.ΦT pre0 (tbl m) c) from rfl, PhiT0_eq, PhiA0_eq]
  rw [outsAt0_1 m hO c t hJ]
  unfold res0_1; (try dsimp only)
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_1 c (grid0.coords t) _ _ _ _ _ _ _ _ _ _ _ _ _ _ _ _ _ _ _ _ _ _ _ _ (iblk m hO c 0 t) (iblk m hO c 1 t) (iblk m hO c 2 t) (tbl m 0)).2.2.2.2.2.2.2.2 hJ Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HT0]; · iexact HT0
  iintro ⟨H0, H1, H2, ⟨%e3, H3⟩, H4, H5, H6, H7, H8, H9, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]
  · unfold owns; iexists _; isplitr; swap; iexact H3; ipureintro
    exact View.read_writes_eq_canon _ _ _ (cover0_1 c (grid0.coords t) _ _ _ _ _ _ _ _ _ _ _ _ _ _ _ _ _ _ _ _ _ _ _ _ _ _ _ _)
  isplitl [H4]
  · unfold owns; iexists _; isplitr; swap; iexact H4; ipureintro; exact Memref.IsWhole.read_unread _ _
  isplitl [H5]
  · unfold owns; iexists _; isplitr; swap; iexact H5; ipureintro; exact Memref.IsWhole.read_unread _ _
  isplitl [H6]
  · unfold owns; iexists _; isplitr; swap; iexact H6; ipureintro; exact Memref.IsWhole.read_unread _ _
  isplitl [H7]
  · unfold owns; iexists _; isplitr; swap; iexact H7; ipureintro; exact Memref.IsWhole.read_unread _ _
  isplitl [H8]
  · unfold owns; iexists _; isplitr; swap; iexact H8; ipureintro; exact Memref.IsWhole.read_unread _ _
  unfold owns; iexists _; isplitr; swap; iexact H9; ipureintro; exact Memref.IsWhole.read_unread _ _

set_option maxHeartbeats 1200000 in
/-- The body at a point whose prefix reaches 2 of the 4 key blocks: the inputs' memrefs hold their blocks (`before0_W`); so the
    run applies; the invariant hands the body its scratch buffers at some contents (and the generator register) and takes them back at some contents (`PhiA_eq`); the core owes nothing throughout. -/
theorem sound_body_2 (hO : Ok m) (c : Dev nD) (t : Fin (cfgM m hO).N) (hJ : k0_cond2 (wordAt m hO c t) = 1#1) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9]
  rw [show (dats m hO 0 c).Φ t.castSucc = iprop(Pipeline.ΦA spec0 c ∗ Pipeline.ΦT pre0 (tbl m) c) from rfl, PhiT0_eq, PhiA0_eq]
  rw [outsAt0_2 m hO c t hJ]
  unfold res0_2; (try dsimp only)
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_2 c (grid0.coords t) _ _ _ _ _ _ _ _ _ _ _ _ _ _ _ _ _ _ _ _ _ _ _ _ (iblk m hO c 0 t) (iblk m hO c 1 t) (iblk m hO c 2 t) (tbl m 0)).2.2.2.2.2.2.2.2 hJ Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HT0]; · iexact HT0
  iintro ⟨H0, H1, H2, ⟨%e3, H3⟩, H4, H5, H6, H7, H8, H9, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]
  · unfold owns; iexists _; isplitr; swap; iexact H3; ipureintro
    exact View.read_writes_eq_canon _ _ _ (cover0_2 c (grid0.coords t) _ _ _ _ _ _ _ _ _ _ _ _ _ _ _ _ _ _ _ _ _ _ _ _ _ _ _ _)
  isplitl [H4]
  · unfold owns; iexists _; isplitr; swap; iexact H4; ipureintro; exact Memref.IsWhole.read_unread _ _
  isplitl [H5]
  · unfold owns; iexists _; isplitr; swap; iexact H5; ipureintro; exact Memref.IsWhole.read_unread _ _
  isplitl [H6]
  · unfold owns; iexists _; isplitr; swap; iexact H6; ipureintro; exact Memref.IsWhole.read_unread _ _
  isplitl [H7]
  · unfold owns; iexists _; isplitr; swap; iexact H7; ipureintro; exact Memref.IsWhole.read_unread _ _
  isplitl [H8]
  · unfold owns; iexists _; isplitr; swap; iexact H8; ipureintro; exact Memref.IsWhole.read_unread _ _
  unfold owns; iexists _; isplitr; swap; iexact H9; ipureintro; exact Memref.IsWhole.read_unread _ _

set_option maxHeartbeats 1200000 in
/-- The body at a point whose prefix reaches 3 of the 4 key blocks: the inputs' memrefs hold their blocks (`before0_W`); so the
    run applies; the invariant hands the body its scratch buffers at some contents (and the generator register) and takes them back at some contents (`PhiA_eq`); the core owes nothing throughout. -/
theorem sound_body_3 (hO : Ok m) (c : Dev nD) (t : Fin (cfgM m hO).N) (hJ : k0_cond3 (wordAt m hO c t) = 1#1) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9]
  rw [show (dats m hO 0 c).Φ t.castSucc = iprop(Pipeline.ΦA spec0 c ∗ Pipeline.ΦT pre0 (tbl m) c) from rfl, PhiT0_eq, PhiA0_eq]
  rw [outsAt0_3 m hO c t hJ]
  unfold res0_3; (try dsimp only)
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_3 c (grid0.coords t) _ _ _ _ _ _ _ _ _ _ _ _ _ _ _ _ _ _ _ _ _ _ _ _ (iblk m hO c 0 t) (iblk m hO c 1 t) (iblk m hO c 2 t) (tbl m 0)).2.2.2.2.2.2.2.2 hJ Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HT0]; · iexact HT0
  iintro ⟨H0, H1, H2, ⟨%e3, H3⟩, H4, H5, H6, H7, H8, H9, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]
  · unfold owns; iexists _; isplitr; swap; iexact H3; ipureintro
    exact View.read_writes_eq_canon _ _ _ (cover0_3 c (grid0.coords t) _ _ _ _ _ _ _ _ _ _ _ _ _ _ _ _ _ _ _ _ _ _ _ _ _ _ _ _)
  isplitl [H4]
  · unfold owns; iexists _; isplitr; swap; iexact H4; ipureintro; exact Memref.IsWhole.read_unread _ _
  isplitl [H5]
  · unfold owns; iexists _; isplitr; swap; iexact H5; ipureintro; exact Memref.IsWhole.read_unread _ _
  isplitl [H6]
  · unfold owns; iexists _; isplitr; swap; iexact H6; ipureintro; exact Memref.IsWhole.read_unread _ _
  isplitl [H7]
  · unfold owns; iexists _; isplitr; swap; iexact H7; ipureintro; exact Memref.IsWhole.read_unread _ _
  isplitl [H8]
  · unfold owns; iexists _; isplitr; swap; iexact H8; ipureintro; exact Memref.IsWhole.read_unread _ _
  unfold owns; iexists _; isplitr; swap; iexact H9; ipureintro; exact Memref.IsWhole.read_unread _ _

set_option maxHeartbeats 1200000 in
/-- The body at a point whose prefix reaches 4 of the 4 key blocks: the inputs' memrefs hold their blocks (`before0_W`); so the
    run applies; the invariant hands the body its scratch buffers at some contents (and the generator register) and takes them back at some contents (`PhiA_eq`); the core owes nothing throughout. -/
theorem sound_body_4 (hO : Ok m) (c : Dev nD) (t : Fin (cfgM m hO).N) (hJ : k0_cond4 (wordAt m hO c t) = 1#1) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9]
  rw [show (dats m hO 0 c).Φ t.castSucc = iprop(Pipeline.ΦA spec0 c ∗ Pipeline.ΦT pre0 (tbl m) c) from rfl, PhiT0_eq, PhiA0_eq]
  rw [outsAt0_4 m hO c t hJ]
  unfold res0_4; (try dsimp only)
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_4 c (grid0.coords t) _ _ _ _ _ _ _ _ _ _ _ _ _ _ _ _ _ _ _ _ _ _ _ _ (iblk m hO c 0 t) (iblk m hO c 1 t) (iblk m hO c 2 t) (tbl m 0)).2.2.2.2.2.2.2.2 hJ Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HT0]; · iexact HT0
  iintro ⟨H0, H1, H2, ⟨%e3, H3⟩, H4, H5, H6, H7, H8, H9, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]
  · unfold owns; iexists _; isplitr; swap; iexact H3; ipureintro
    exact View.read_writes_eq_canon _ _ _ (cover0_4 c (grid0.coords t) _ _ _ _ _ _ _ _ _ _ _ _ _ _ _ _ _ _ _ _ _ _ _ _ _ _ _ _)
  isplitl [H4]
  · unfold owns; iexists _; isplitr; swap; iexact H4; ipureintro; exact Memref.IsWhole.read_unread _ _
  isplitl [H5]
  · unfold owns; iexists _; isplitr; swap; iexact H5; ipureintro; exact Memref.IsWhole.read_unread _ _
  isplitl [H6]
  · unfold owns; iexists _; isplitr; swap; iexact H6; ipureintro; exact Memref.IsWhole.read_unread _ _
  isplitl [H7]
  · unfold owns; iexists _; isplitr; swap; iexact H7; ipureintro; exact Memref.IsWhole.read_unread _ _
  isplitl [H8]
  · unfold owns; iexists _; isplitr; swap; iexact H8; ipureintro; exact Memref.IsWhole.read_unread _ _
  unfold owns; iexists _; isplitr; swap; iexact H9; ipureintro; exact Memref.IsWhole.read_unread _ _

/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  rcases cond_cases (wordAt m hO c t) with H | H | H | H
  · exact sound_body_1 m hO c t H.1
  · exact sound_body_2 m hO c t H.2.1
  · exact sound_body_3 m hO c t H.2.2.1
  · exact sound_body_4 m hO c t H.2.2.2

end Cert.KernelIdeal.Gen

end
-- ==== Proof.Named.Frame.lean ====
/- The frame of the kernel with what its outputs hold named: point by point, and after the run. -/
module

public import proofs.«01_k».proof.Proof.Named.Body
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- Every staging buffer ends a point at what the proof data say: an input is never idle, an output is written back at every point. -/
theorem leaves_all (hO : Ok m) (c : Dev nD) (t : Fin (cfgM m hO).N) (w : Fin (cfgM m hO).W) :
    (dats (F := F) m hO 0 c).leavesExact w t = owns (c : Thread nD τ) (((cfgM m hO).win w).stage ((cfgM m hO).slots t w)) fullShare ((dats (F := F) m hO 0 c).after w t) := by
  have live : ∀ h : (cfgM m hO).idle w ((cfgM m hO).grid.coords t) = false ∨ ((cfgM m hO).win w).flush t = true, (dats (F := F) m hO 0 c).leavesExact w t = owns (c : Thread nD τ) (((cfgM m hO).win w).stage ((cfgM m hO).slots t w)) fullShare ((dats (F := F) m hO 0 c).after w t) := by
    intro h
    unfold Dat.leavesExact
    generalize (cfgM m hO).idle w ((cfgM m hO).grid.coords t) = x at h ⊢
    generalize ((cfgM m hO).win w).flush t = y at h ⊢
    cases x
    · rfl
    · cases y
      · exact absurd h (by decide)
      · rfl
  refine live ?_
  clear live
  revert w
  show ∀ w : Fin 10, _
  intro w
  match w with
  | 0 => exact .inl rfl
  | 1 => exact .inl rfl
  | 2 => exact .inl rfl
  | 3 => exact .inr (flush0_3 (adm m hO) t)
  | 4 => exact .inr (flush0_4 (adm m hO) t)
  | 5 => exact .inr (flush0_5 (adm m hO) t)
  | 6 => exact .inr (flush0_6 (adm m hO) t)
  | 7 => exact .inr (flush0_7 (adm m hO) t)
  | 8 => exact .inr (flush0_8 (adm m hO) t)
  | 9 => exact .inr (flush0_9 (adm m hO) t)

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  have hE : (bigSep Finset.univ fun w : Fin (cfgM m hO).W => (dats (F := F) m hO 0 c).leavesExact w t)
      = bigSep Finset.univ fun w : Fin (cfgM m hO).W => owns (c : Thread nD τ) (((cfgM m hO).win w).stage ((cfgM m hO).slots t w)) fullShare ((dats (F := F) m hO 0 c).after w t) :=
    congrArg _ (funext fun w => leaves_all m hO c t w)
  have hP : bodyPost m hO c t ⊢ iprop((dats m hO 0 c).Φ t.succ ∗ (dats m hO 0 c).owesAt () t.succ ∗ bigSep Finset.univ fun w : Fin (cfgM m hO).W => (dats (F := F) m hO 0 c).leavesExact w t) := by
    rw [hE, bigSep_W0]
    exact .rfl
  rw [defs₀_row m hO]
  refine triple_restated (sound_body m hO c t) rfl ?_ fun _ => ?_
  · rw [bigSep_W0]; exact .rfl
  · exact hP

/-! ## The run and the frame -/

-- `θ_run_frameP_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

/-- The run ends with the argument arrays unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.KernelIdeal.Gen

end
-- ==== Proof.RefFrames.lean ====
/- The two reference programs run and leave their arguments unchanged, and the named constant of the kernel has the real
   value its name states. -/
module

public import proofs.«01_k».proof.Defs
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import Idealize.ShloMosaic.Lib.Quiescent

@[expose] public section

noncomputable section

namespace Cert.RefFrames

open Idealize.ShloMosaic Idealize.SL.Sem

/-- The reference over the reals terminates and leaves its arguments unchanged. -/
theorem frame_ri : Cert.quiescent_ReferenceIdeal := fun m ρ _ =>
  (θ_run Cert.ReferenceIdeal.defs _ _).mono (fun r h => ⟨fun c => (h c).2.2.2.2.2.2.2,
    Idealize.ShloMosaic.sem_eq_zero_of_no_sems (by decide) r.2⟩) (Cert.ReferenceIdeal.Value.run (F := Ideal) m ρ)

/-- The reference over bit patterns terminates and leaves its arguments unchanged. -/
theorem frame_r : Cert.quiescent_Reference := fun m ρ _ =>
  (θ_run Cert.Reference.defs _ _).mono (fun r h => ⟨fun c => (h c).2.2.2.2.2.2.2,
    Idealize.ShloMosaic.sem_eq_zero_of_no_sems (by decide) r.2⟩) (Cert.Reference.Value.run (F := Bits) m ρ)

/-- The named constant stands for `1 / (√160 · log 2)`, which the bit pattern it replaces rounds. -/
theorem preserves : Cert.preserves_Kernel_KernelIdeal :=
  IdealRules.named_const.statement Cert.KernelIdeal.κ "score_scale_log2e" .f32 0x3DE995B3#32
    (((Real.sqrt 160)⁻¹ * (Real.log 2)⁻¹ : ℝ) : EReal) rfl

end Cert.RefFrames

end
-- ==== Proof.Value.Quant.lean ====
/- The quantiser's scales: the binary search for an exponent that the kernel makes, as one definition, and the power of
   two it finds. -/
module

public import proofs.«01_k».proof.Proof.Gen.KernelIdeal
public import Idealize.ShloMosaic.Lib.Pointwise
public import Idealize.ShloMosaic.Lib.ValueLayout

@[expose] public section

noncomputable section

namespace Cert.KernelIdeal.Gen

open Idealize.ShloMosaic Idealize.ShloMosaic.TcCoe Idealize.ShloMosaic.Tactic

variable {F : FTy → Type} [FloatOps F] [Named F]

/-- One round of the search: add `bit` to the exponent found so far if the power of two is still not above `t`. -/
def qStep {s : Shape} (t : FVec F s .f32) (bit : BitVec 32) (e : IVec s 32) : IVec s 32 :=
  select (cmpf .oge t (bitcastToFloat .f32 (shli (addi e (broadcast s bit)) (broadcast s 23#32)))) (addi e (broadcast s bit)) e

/-- The biased exponent of `t`. -/
def qExp {s : Shape} (t : FVec F s .f32) : IVec s 32 :=
  qStep t 1#32 (qStep t 2#32 (qStep t 4#32 (qStep t 8#32 (qStep t 16#32 (qStep t 32#32 (qStep t 64#32 (qStep t 128#32 (broadcast s 0#32))))))))

/-- The biased exponent of the scale. -/
def qBias {s : Shape} (t : FVec F s .f32) : IVec s 32 :=
  select (cmpi .eq (qExp t) (broadcast s 0#32)) (broadcast s 127#32) (addi (qExp t) (broadcast s 1#32))

/-- The scale. -/
def qScale {s : Shape} (t : FVec F s .f32) : FVec F s .f32 := bitcastToFloat .f32 (shli (qBias t) (broadcast s 23#32))

/-- One over the scale. -/
def qInv {s : Shape} (t : FVec F s .f32) : FVec F s .f32 :=
  bitcastToFloat .f32 (shli (subi (broadcast s 254#32) (qBias t)) (broadcast s 23#32))

/-- One round of the search on one number. -/
def sStep (t : EReal) (bit e : BitVec 32) : BitVec 32 :=
  if Ideal.ofBits .f32 ((e + bit) <<< (23 : ℕ)) ≤ t then e + bit else e

/-- The search on one number. -/
def sExp (t : EReal) : BitVec 32 :=
  sStep t 1#32 (sStep t 2#32 (sStep t 4#32 (sStep t 8#32 (sStep t 16#32 (sStep t 32#32 (sStep t 64#32 (sStep t 128#32 0#32)))))))

/-- The biased exponent of the scale, for one number. -/
def sBias (t : EReal) : BitVec 32 := if sExp t = 0#32 then 127#32 else sExp t + 1#32

/-- A selection by a decided fact. -/
theorem select_ofBool {α : Type} (p : Prop) [Decidable p] (a b : α) : Scalar.select (BitVec.ofBool (decide p)) a b = if p then a else b := by
  unfold Scalar.select
  by_cases h : p <;> simp [h]

/-- A round at an index. -/
theorem qStep_apply {s : Shape} (t : FVec Ideal s .f32) (bit : BitVec 32) (e : IVec s 32) (x : s.Idx) :
    qStep t bit e x = sStep (t x) bit (e x) := by
  have h : IntOp.shli ArithUnit.vector (e x + bit) 23#32 = (e x + bit) <<< (23 : ℕ) := by
    rfl
  unfold qStep sStep
  simp only [select, cmpf, bitcastToFloat, shli, addi, broadcast]
  show Scalar.select (Ideal.cmp .oge (t x) (Ideal.ofBits .f32 (IntOp.shli ArithUnit.vector (e x + bit) 23#32))) (e x + bit) (e x) = _
  rw [h]
  exact select_ofBool _ _ _

/-- The search at an index. -/
theorem qExp_apply {s : Shape} (t : FVec Ideal s .f32) (x : s.Idx) : qExp t x = sExp (t x) := by
  unfold qExp sExp
  simp only [qStep_apply]; rfl

/-- The scale's exponent at an index. -/
theorem qBias_apply {s : Shape} (t : FVec Ideal s .f32) (x : s.Idx) : qBias t x = sBias (t x) := by
  unfold qBias sBias
  simp only [select, cmpi, addi, broadcast, qExp_apply]
  show Scalar.select (BitVec.ofBool (decide (sExp (t x) = 0#32))) _ _ = _
  exact select_ofBool _ _ _

/-- The scale at an index. -/
theorem qScale_apply {s : Shape} (t : FVec Ideal s .f32) (x : s.Idx) :
    qScale t x = Ideal.ofBits .f32 (sBias (t x) <<< (23 : ℕ)) := by
  unfold qScale
  simp only [bitcastToFloat, shli, broadcast, qBias_apply]
  rfl

/-- One over the scale at an index. -/
theorem qInv_apply {s : Shape} (t : FVec Ideal s .f32) (x : s.Idx) :
    qInv t x = Ideal.ofBits .f32 ((254#32 - sBias (t x)) <<< (23 : ℕ)) := by
  unfold qInv
  simp only [bitcastToFloat, shli, subi, broadcast, qBias_apply]
  rfl

/-- The parts of the pattern with biased exponent `n` and nothing else. -/
theorem pow_bits (n : ℕ) (h2 : n ≤ 255) :
    (((BitVec.ofNat 32 n) <<< (23 : ℕ)).extractLsb' (8 + 23) 1 == 1#1) = false
      ∧ (((BitVec.ofNat 32 n) <<< (23 : ℕ)).extractLsb' 23 8).toNat = n
      ∧ (((BitVec.ofNat 32 n) <<< (23 : ℕ)).extractLsb' 0 23).toNat = 0 := by
  have hb : ((BitVec.ofNat 32 n) <<< (23 : ℕ)).toNat = n * 8388608 := by
    rw [BitVec.toNat_shiftLeft, BitVec.toNat_ofNat, Nat.shiftLeft_eq]; omega
  refine ⟨?_, ?_, ?_⟩
  · rw [beq_eq_false_iff_ne, ne_eq, ← BitVec.toNat_inj, BitVec.extractLsb'_toNat, hb, Nat.shiftRight_eq_div_pow]
    show ¬ _ = 1
    omega
  · rw [BitVec.extractLsb'_toNat, hb, Nat.shiftRight_eq_div_pow]; omega
  · rw [BitVec.extractLsb'_toNat, hb, Nat.shiftRight_eq_div_pow]; omega

/-- The pattern with biased exponent `n` and nothing else is the power `n - 127` of two. -/
theorem ofBits_pow (n : ℕ) (h1 : 1 ≤ n) (h2 : n ≤ 254) : Ideal.ofBits .f32 ((BitVec.ofNat 32 n) <<< (23 : ℕ)) = (((2 : ℝ) ^ ((n : ℤ) - 127) : ℝ) : EReal) := by
  obtain ⟨ha, hb, hc⟩ := pow_bits n (by omega)
  unfold Ideal.ofBits Ideal.ieee
  simp only [ha, hb, hc]
  rw [if_neg (by omega), if_neg (by omega)]
  refine congrArg (fun r : ℝ => (r : EReal)) ?_
  simp only [Bool.false_eq_true, if_false, one_mul, Nat.add_zero]
  rw [Nat.cast_pow, Nat.cast_ofNat, ← zpow_natCast, ← zpow_add₀ (by norm_num)]
  refine congrArg (fun z : ℤ => (2 : ℝ) ^ z) ?_
  push_cast; norm_num

/-- The pattern with the largest biased exponent and nothing else is infinity. -/
theorem ofBits_pow_top (n : ℕ) (hn : n = 255) : Ideal.ofBits .f32 ((BitVec.ofNat 32 n) <<< (23 : ℕ)) = ⊤ := by
  obtain ⟨ha, hb, hc⟩ := pow_bits n (by omega)
  unfold Ideal.ofBits Ideal.ieee
  simp only [ha, hb, hc]
  rw [if_pos (by omega), if_pos trivial, if_neg (by simp)]

/-- The powers of two the search compares with. -/
def dPow (n : ℕ) : EReal := if n ≤ 254 then (((2 : ℝ) ^ ((n : ℤ) - 127) : ℝ) : EReal) else ⊤

theorem ofBits_dPow (n : ℕ) (h1 : 1 ≤ n) (h2 : n ≤ 255) : Ideal.ofBits .f32 ((BitVec.ofNat 32 n) <<< (23 : ℕ)) = dPow n := by
  unfold dPow
  split
  · exact ofBits_pow n h1 (by assumption)
  · exact ofBits_pow_top n (by omega)

/-- What the search knows: the exponent found is not too large, and the next candidate a step away is. -/
def Found (t : EReal) (w : ℕ) (e : BitVec 32) : Prop :=
  ∃ n : ℕ, e = BitVec.ofNat 32 n ∧ n + w ≤ 256 ∧ (n = 0 ∨ dPow n ≤ t) ∧ t < dPow (n + w)

/-- A round halves what is left. -/
theorem found_step {t : EReal} {w : ℕ} {e : BitVec 32} (hw : 1 ≤ w) (h : Found t (2 * w) e) : Found t w (sStep t (BitVec.ofNat 32 w) e) := by
  obtain ⟨n, rfl, hn, hl, hu⟩ := h
  unfold sStep
  rw [← BitVec.ofNat_add, ofBits_dPow (n + w) (by omega) (by omega)]
  split
  · rename_i h
    exact ⟨n + w, rfl, by omega, Or.inr h, by rwa [show n + w + w = n + 2 * w by omega]⟩
  · rename_i h
    exact ⟨n, rfl, by omega, hl, not_le.mp h⟩

/-- The search finds the exponent of a number below infinity. -/
theorem found_exp {t : EReal} (ht : t < ⊤) : Found t 1 (sExp t) := by
  unfold sExp
  refine found_step (w := 1) (by omega) (found_step (w := 2) (by omega) (found_step (w := 4) (by omega) (found_step (w := 8) (by omega)
    (found_step (w := 16) (by omega) (found_step (w := 32) (by omega) (found_step (w := 64) (by omega) (found_step (w := 128) (by omega) ?_)))))))
  exact ⟨0, rfl, by omega, Or.inl rfl, by unfold dPow; simpa using ht⟩

/-- The scale's exponent: nought when the number is below the normal numbers, else one more than its logarithm rounded down. -/
def xp (t : ℝ) : ℤ := if t < (2 : ℝ) ^ (-126 : ℤ) then 0 else ⌊Real.log t / Real.log 2⌋ + 1

/-- The scale's biased exponent is `xp` and the bias, for a number up to a bound. -/
theorem sBias_eq {t : ℝ} (ht : t < (2 : ℝ) ^ (120 : ℤ)) :
    ∃ n : ℕ, 1 ≤ n ∧ n ≤ 253 ∧ sBias (t : EReal) = BitVec.ofNat 32 n ∧ (n : ℤ) - 127 = xp t := by
  obtain ⟨n, he, hn, hl, hu⟩ := found_exp (EReal.coe_lt_top t)
  have hn2 : n < 247 := by
    by_contra hc
    rcases hl with rfl | hl
    · omega
    · unfold dPow at hl
      split at hl
      · have := EReal.coe_le_coe_iff.1 hl
        have h2 : (2 : ℝ) ^ (120 : ℤ) ≤ (2 : ℝ) ^ ((n : ℤ) - 127) := zpow_le_zpow_right₀ (by norm_num) (by omega)
        linarith
      · exact absurd (top_le_iff.1 hl) (EReal.coe_ne_top t)
  have hu' : t < (2 : ℝ) ^ (((n + 1 : ℕ) : ℤ) - 127) := by
    unfold dPow at hu; rw [if_pos (by omega)] at hu; exact EReal.coe_lt_coe_iff.1 hu
  unfold sBias xp
  rw [he]
  rcases Nat.eq_zero_or_pos n with rfl | hpos
  · refine ⟨127, by omega, by omega, by simp, ?_⟩
    rw [if_pos (by simpa using hu')]; norm_num
  · have hl' : (2 : ℝ) ^ ((n : ℤ) - 127) ≤ t := by
      rcases hl with rfl | hl
      · omega
      · unfold dPow at hl; rw [if_pos (by omega)] at hl; exact EReal.coe_le_coe_iff.1 hl
    refine ⟨n + 1, by omega, by omega, ?_, ?_⟩
    · rw [if_neg, BitVec.ofNat_add]
      intro h0
      have := congrArg BitVec.toNat h0
      simp at this; omega
    · have h126 : (2 : ℝ) ^ (-126 : ℤ) ≤ (2 : ℝ) ^ ((n : ℤ) - 127) := zpow_le_zpow_right₀ (by norm_num) (by omega)
      have hp : (0 : ℝ) < t := lt_of_lt_of_le (by positivity) hl'
      rw [if_neg (not_lt.mpr (h126.trans hl'))]
      have : ⌊Real.log t / Real.log 2⌋ = (n : ℤ) - 127 := by
        rw [Int.floor_eq_iff]
        constructor
        · rw [le_div_iff₀ (Real.log_pos (by norm_num)), ← Real.log_zpow]; exact Real.log_le_log (by positivity) hl'
        · rw [div_lt_iff₀ (Real.log_pos (by norm_num)), show (((n : ℤ) - 127 : ℤ) : ℝ) + 1 = ((((n + 1 : ℕ) : ℤ) - 127 : ℤ) : ℝ) by push_cast; ring, ← Real.log_zpow]; exact Real.log_lt_log hp hu'
      rw [this]; push_cast; ring

/-- The scale of a number up to a bound. -/
theorem scale_eq {t : ℝ} (ht : t < (2 : ℝ) ^ (120 : ℤ)) :
    Ideal.ofBits .f32 (sBias (t : EReal) <<< (23 : ℕ)) = (((2 : ℝ) ^ (xp t) : ℝ) : EReal) := by
  obtain ⟨n, h1, h2, hb, hx⟩ := sBias_eq ht
  rw [hb, ofBits_pow n h1 (by omega), hx]

/-- One over the scale of a number up to a bound. -/
theorem inv_eq {t : ℝ} (ht : t < (2 : ℝ) ^ (120 : ℤ)) :
    Ideal.ofBits .f32 ((254#32 - sBias (t : EReal)) <<< (23 : ℕ)) = (((2 : ℝ) ^ (-xp t) : ℝ) : EReal) := by
  obtain ⟨n, h1, h2, hb, hx⟩ := sBias_eq ht
  have : 254#32 - BitVec.ofNat 32 n = BitVec.ofNat 32 (254 - n) := by
    apply BitVec.eq_of_toNat_eq
    rw [BitVec.toNat_sub, BitVec.toNat_ofNat, BitVec.toNat_ofNat, BitVec.toNat_ofNat]; omega
  rw [hb, this, ofBits_pow (254 - n) (by omega) (by omega), ← hx]
  congr 2; omega

end Cert.KernelIdeal.Gen

end
-- ==== Proof.Value.Tile.lean ====
/- One tile of the attention as the kernel computes it — 128 query positions against the first `n` keys — as one
   definition with the number of keys a variable, and what it holds at each index. -/
module

public import proofs.«01_k».proof.Proof.Gen.KernelIdeal
public import Idealize.ShloMosaic.Lib.Pointwise
public import Idealize.ShloMosaic.Lib.MatmulPlain
public import Idealize.ShloMosaic.Lib.ValueLayout

@[expose] public section

noncomputable section

namespace Cert.KernelIdeal.Gen

open Idealize.ShloMosaic Idealize.ShloMosaic.TcCoe Idealize.ShloMosaic.Tactic

variable {F : FTy → Type} [FloatOps F] [Named F]

/-- A matrix shape. -/
abbrev Sh (a b : ℕ) : Shape := ⟨2, ![a, b]⟩

/-- The three heads' scores' accumulators, side by side: keys times queries. -/
def tAcc (n : ℕ) (q0 q1 q2 : Vec F S1x1x160x128 .fp8e4m3) (kt : Vec F (Sh n 160) .fp8e4m3) : FVec F (Sh n 384) .f32 :=
  matmul (DotDims.plain n 160 384) none kt
    (concatenate S160x384 1 [⟨S160x128, shapeCast S160x128 q0 shapeCasts_S1x1x160x128_S160x128⟩, ⟨S160x128, shapeCast S160x128 q1 shapeCasts_S1x1x160x128_S160x128⟩, ⟨S160x128, shapeCast S160x128 q2 shapeCasts_S1x1x160x128_S160x128⟩] concatenates_S160x128_S160x128_S160x128_S160x384_d1)
    (constant (Sh n 384) .f32 0x00000000#32)

/-- The mask of the last block of keys: key `row + 128·last` is before the prefix's end, or not after the query. -/
def tMask (row col : BitVec 32) (v1 : BitVec 32) : IVec S128x128 1 :=
  ori (cmpi .slt (addi (broadcast S128x128 row) (iota .tc S128x128 32 [0] iota_S128x128_d0_w32)) (broadcast S128x128 v1))
    (cmpi .sle (addi (broadcast S128x128 row) (iota .tc S128x128 32 [0] iota_S128x128_d0_w32)) (addi (broadcast S128x128 col) (iota .tc S128x128 32 [1] iota_S128x128_d1_w32)))

/-- One head's scores, scaled by the keys' scales. -/
def tY (n off : ℕ) (h : (Sh n 384).Slices ![0, off] (Sh n 128)) (acc : FVec F (Sh n 384) .f32) (ks : Vec F (Sh n 128) .f32) : FVec F (Sh n 128) .f32 :=
  mulf (extractStridedSlice (Sh n 128) ![0, off] acc h) ks

/-- The masked scores when there is one block of keys. -/
def tZ1 (y : FVec F S128x128 .f32) (mask : IVec S128x128 1) : FVec F S128x128 .f32 :=
  select mask y (broadcast S128x128 (Scalar.ofBits .f32 0xFF800000#32 : F .f32))

/-- The masked scores when there are several blocks of keys: the last 128 rows masked. -/
def tZ (n a : ℕ) (h1 : (Sh n 128).Slices ![a, 0] S128x128) (h0 : (Sh n 128).Slices ![0, 0] (Sh a 128))
    (hc : Shape.Concatenates [Sh a 128, S128x128] (Sh n 128) 0) (y : FVec F (Sh n 128) .f32) (mask : IVec S128x128 1) : FVec F (Sh n 128) .f32 :=
  concatenate (Sh n 128) 0 [⟨Sh a 128, extractStridedSlice (Sh a 128) ![0, 0] y h0⟩, ⟨S128x128, tZ1 (extractStridedSlice S128x128 ![a, 0] y h1) mask⟩] hc

/-- The exponentials. -/
def tE (n : ℕ) (hr : (Sh n 128).Reduces [0] S128) (hb : S1x128.Broadcasts (Sh n 128)) (z : FVec F (Sh n 128) .f32) (c : FVec F S1x128 .f32) : FVec F (Sh n 128) .f32 :=
  exp2 (subf (mulf z (broadcastTo (Sh n 128) c hb))
    (broadcastTo (Sh n 128) (subf (mulf (shapeCast S1x128 (multiReduction .maximumf [0] S128 z 0xFF800000#32 hr (.inl rfl) rfl) shapeCasts_S128_S1x128) c) (broadcast S1x128 (Scalar.ofBits .f32 0x41000000#32 : F .f32))) hb))

/-- One over the sum of the exponentials. -/
def tR (n : ℕ) (hr : (Sh n 128).Reduces [0] S128) (e : FVec F (Sh n 128) .f32) : FVec F S1x128 .f32 :=
  divf (broadcast S1x128 (Scalar.ofBits .f32 0x3F800000#32 : F .f32)) (shapeCast S1x128 (multiReduction .add [0] S128 e 0x00000000#32 hr (.inl rfl) rfl) shapeCasts_S128_S1x128)

/-- The clamped exponentials in the low format. -/
def tP (n : ℕ) (e : FVec F (Sh n 128) .f32) : FVec F (Sh n 128) .fp8e4m3 :=
  truncf .fp8e4m3 (minimumf e (broadcast (Sh n 128) (Scalar.ofBits .f32 0x43E00000#32 : F .f32))) bitsLt_fp8e4m3_f32

/-- The values times the three heads' weights, side by side. -/
def tAv (n : ℕ) (hc : Shape.Concatenates [Sh n 128, Sh n 128, Sh n 128] (Sh n 384) 1) (hs : (⟨4, ![1, 1, 160, n]⟩ : Shape).ShapeCasts (Sh 160 n))
    (v : Vec F ⟨4, ![1, 1, 160, n]⟩ .fp8e4m3) (p0 p1 p2 : FVec F (Sh n 128) .fp8e4m3) : FVec F S160x384 .f32 :=
  matmul (DotDims.plain 160 n 384) none (shapeCast (Sh 160 n) v hs)
    (concatenate (Sh n 384) 1 [⟨Sh n 128, p0⟩, ⟨Sh n 128, p1⟩, ⟨Sh n 128, p2⟩] hc)
    (constant S160x384 .f32 0x00000000#32)

/-- One head's output tile. -/
def tOut (off : ℕ) (h : S160x384.Slices ![0, off] S160x128) (av : FVec F S160x384 .f32) (r : FVec F S1x128 .f32) (vs : FVec F S160x1 .bf16) : FVec F S1x160x128 .bf16 :=
  shapeCast S1x160x128 (mulf (truncf .bf16 (mulf (extractStridedSlice S160x128 ![0, off] av h) (broadcastTo S160x128 r broadcasts_S1x128_S160x128)) bitsLt_bf16_f32)
    (broadcastTo S160x128 vs broadcasts_S160x1_S160x128)) shapeCasts_S160x128_S1x160x128

section AtIdeal

/-- The pattern of minus infinity. -/
theorem ofBits_neg_inf : Ideal.ofBits .f32 4286578688#32 = ⊥ := by simp [Ideal.ofBits, Ideal.ieee]
/-- The pattern of eight. -/
theorem ofBits_eight : Ideal.ofBits .f32 1090519040#32 = 8 := by
  rw [show (8 : EReal) = ((8 : ℝ) : EReal) by norm_cast]
  simp [Ideal.ofBits, Ideal.ieee, -EReal.coe_mul]; norm_num
/-- The pattern of 448. -/
theorem ofBits_448 : Ideal.ofBits .f32 1138753536#32 = 448 := by
  rw [show (448 : EReal) = ((448 : ℝ) : EReal) by norm_cast]
  simp [Ideal.ofBits, Ideal.ieee, -EReal.coe_mul]; norm_num

/-- An exponential at an index. -/
theorem tE_apply (n : ℕ) (hr) (hb) (z : FVec Ideal (Sh n 128) .f32) (c : FVec Ideal S1x128 .f32) (j : Fin n) (t : Fin 128) :
    tE n hr hb z c (ix2 j t)
      = Ideal.exp2 (z (ix2 j t) * c (ix2 0 t) - (Finset.univ.fold max ⊥ (fun x => z (ix2 x t)) * c (ix2 0 t) - 8)) := by
  pointwise [tE]
  rw [ofBits_neg_inf, ofBits_eight]; rfl

/-- One over the sum at an index. -/
theorem tR_apply (n : ℕ) (hr) (e : FVec Ideal (Sh n 128) .f32) (t : Fin 128) :
    tR n hr e (ix2 0 t) = Ideal.div 1 (∑ x, e (ix2 x t)) := by
  pointwise [tR]

/-- A clamped exponential at an index. -/
theorem tP_apply (n : ℕ) (e : FVec Ideal (Sh n 128) .f32) (j : Fin n) (t : Fin 128) :
    tP n e (ix2 j t) = min (e (ix2 j t)) 448 := by
  pointwise [tP]
  rw [ofBits_448]

/-- Which of three blocks of 128 columns a column lies in. -/
def third {α : Type} (h : Fin 3) (x0 x1 x2 : α) : α := match h with | 0 => x0 | 1 => x1 | 2 => x2

/-- A column of head `h`. -/
abbrev col (h : Fin 3) (t : Fin 128) : Fin 384 := ⟨128 * h.val + t.val, by omega⟩

/-- Three blocks of columns side by side, at a column of block `h`. -/
theorem cat3_apply {α : Type} (n : ℕ) (p0 p1 p2 : (Sh n 128).Idx → α) (hc : Shape.Concatenates [Sh n 128, Sh n 128, Sh n 128] (Sh n 384) 1)
    (j : Fin n) (h : Fin 3) (t : Fin 128) :
    concatenate (Sh n 384) 1 [⟨Sh n 128, p0⟩, ⟨Sh n 128, p1⟩, ⟨Sh n 128, p2⟩] hc (ix2 j (col h t)) = third h p0 p1 p2 (ix2 j t) := by
  pointwise []
  have ht := t.isLt
  match h with
  | 0 =>
    rw [dif_pos (show ((col 0 t : Fin 384) : ℕ) < 128 by show 128 * 0 + t.val < 128; omega)]
    refine congrArg p0 (funext fun b => ?_)
    match b with
    | ⟨0, _⟩ => rfl
    | ⟨1, _⟩ => exact Fin.ext (by show 128 * 0 + t.val = t.val; omega)
  | 1 =>
    rw [dif_neg (show ¬ ((col 1 t : Fin 384) : ℕ) < 128 by show ¬ 128 * 1 + t.val < 128; omega),
      dif_pos (show ((col 1 t : Fin 384) : ℕ) - 128 < 128 by show 128 * 1 + t.val - 128 < 128; omega)]
    refine congrArg p1 (funext fun b => ?_)
    match b with
    | ⟨0, _⟩ => rfl
    | ⟨1, _⟩ => exact Fin.ext (by show 128 * 1 + t.val - 128 = t.val; omega)
  | 2 =>
    rw [dif_neg (show ¬ ((col 2 t : Fin 384) : ℕ) < 128 by show ¬ 128 * 2 + t.val < 128; omega),
      dif_neg (show ¬ ((col 2 t : Fin 384) : ℕ) - 128 < 128 by show ¬ 128 * 2 + t.val - 128 < 128; omega)]
    refine congrArg p2 (funext fun b => ?_)
    match b with
    | ⟨0, _⟩ => rfl
    | ⟨1, _⟩ => exact Fin.ext (by show 128 * 2 + t.val - 128 - 128 = t.val; omega)

/-- A plain product from a zero accumulator, at an index. -/
theorem matmul_zero_apply (M K N : ℕ) {φ₁ φ₂ : FTy} (x : FVec Ideal (Sh M K) φ₁) (y : FVec Ideal (Sh K N) φ₂) (r : Fin M) (c : Fin N) :
    matmul (DotDims.plain M K N) none x y (constant (F := Ideal) (Sh M N) .f32 0x00000000#32) (ix2 r c) = ∑ k : Fin K, x (ix2 r k) * y (ix2 k c) := by
  refine (Ideal.matmul_plain_apply none x y _ r c).trans ?_
  rw [show constant (F := Ideal) (Sh M N) .f32 0x00000000#32 (ValueIdx.ix2 r c) = 0 from Ideal.ofBits_zero_f32, zero_add]
  simp only [ix2_eq_valueIdx]

/-- The accumulator at a key and a column of head `h`. -/
theorem tAcc_apply (n : ℕ) (q0 q1 q2 : Vec Ideal S1x1x160x128 .fp8e4m3) (kt : Vec Ideal (Sh n 160) .fp8e4m3) (j : Fin n) (h : Fin 3) (t : Fin 128) :
    tAcc n q0 q1 q2 kt (ix2 j (col h t)) = ∑ d : Fin 160, kt (ix2 j d) * third h q0 q1 q2 (ix4 0 0 d t) := by
  unfold tAcc
  refine (matmul_zero_apply n 160 384 kt _ j (col h t)).trans (Finset.sum_congr rfl fun d _ => ?_)
  refine congrArg (kt (ix2 j d) * ·) ((cat3_apply 160 _ _ _ _ d h t).trans ?_)
  match h with
  | 0 => unfold third; pointwise []
  | 1 => unfold third; pointwise []
  | 2 => unfold third; pointwise []

/-- The weighted values at a channel and a column of head `h`. -/
theorem tAv_apply (n : ℕ) (hc) (hs) (v : Vec Ideal ⟨4, ![1, 1, 160, n]⟩ .fp8e4m3) (p0 p1 p2 : FVec Ideal (Sh n 128) .fp8e4m3) (d : Fin 160) (h : Fin 3) (t : Fin 128) :
    tAv n hc hs v p0 p1 p2 (ix2 d (col h t)) = ∑ j : Fin n, v (ix4 0 0 d j) * third h p0 p1 p2 (ix2 j t) := by
  unfold tAv
  refine (matmul_zero_apply 160 n 384 _ _ d (col h t)).trans (Finset.sum_congr rfl fun j _ => ?_)
  rw [cat3_apply n p0 p1 p2 hc j h t]
  refine congrArg (· * _) ?_
  refine shapeCast_apply v hs _ _ ?_
  rw [Shape.rowMajor_val_four, Shape.rowMajor_val_two]
  show ((0 * 1 + 0) * 160 + d.val) * n + j.val = d.val * n + j.val
  rw [show (0 * 1 + 0) * 160 + d.val = d.val by omega]

/-- An output tile at an index. -/
theorem tOut_apply (h : Fin 3) (hs) (av : FVec Ideal S160x384 .f32) (r : FVec Ideal S1x128 .f32) (vs : FVec Ideal S160x1 .bf16) (d : Fin 160) (t : Fin 128) :
    tOut (128 * h.val) hs av r vs (ix3 0 d t) = av (ix2 d (col h t)) * r (ix2 0 t) * vs (ix2 d 0) := by
  pointwise [tOut]

/-- A scaled score at an index. -/
theorem tY_apply (n : ℕ) (h : Fin 3) (hs) (acc : FVec Ideal (Sh n 384) .f32) (ks : Vec Ideal (Sh n 128) .f32) (j : Fin n) (t : Fin 128) :
    tY n (128 * h.val) hs acc ks (ix2 j t) = acc (ix2 j (col h t)) * ks (ix2 j t) := by
  pointwise [tY]
  congr 2
  funext a
  match a with
  | ⟨0, _⟩ => exact Fin.ext (Nat.zero_add _)
  | ⟨1, _⟩ => rfl

/-- A masked score at an index, one block of keys. -/
theorem tZ1_apply (y : FVec Ideal S128x128 .f32) (mask : IVec S128x128 1) (j : Fin 128) (t : Fin 128) :
    tZ1 y mask (ix2 j t) = if mask (ix2 j t) = 1#1 then y (ix2 j t) else ⊥ := by
  pointwise [tZ1]
  rw [ofBits_neg_inf]; rfl

/-- A masked score at an index, several blocks of keys. -/
theorem tZ_apply (n a : ℕ) (h1) (h0) (hc) (y : FVec Ideal (Sh n 128) .f32) (mask : IVec S128x128 1) (hn : n = a + 128) (j : Fin n) (t : Fin 128) :
    tZ n a h1 h0 hc y mask (ix2 j t) = if h : j.val < a then y (ix2 j t) else if mask (ix2 ⟨j.val - a, by omega⟩ t) = 1#1 then y (ix2 j t) else ⊥ := by
  pointwise [tZ, tZ1]
  split
  · congr 1
    funext b
    match b with
    | ⟨0, _⟩ => exact Fin.ext (Nat.zero_add _)
    | ⟨1, _⟩ => exact Fin.ext (Nat.zero_add _)
  · refine (show Scalar.select _ _ _ = Scalar.select _ (y (ix2 j t)) _ from congrArg (fun u => Scalar.select _ u _) (congrArg y (funext fun b => ?_))).trans
      (congrArg (Scalar.select _ _) ofBits_neg_inf)
    match b with
    | ⟨0, _⟩ => exact Fin.ext (by show a + (j.val - a) = j.val; omega)
    | ⟨1, _⟩ => exact Fin.ext (Nat.zero_add _)

end AtIdeal

end Cert.KernelIdeal.Gen

end
-- ==== Proof.Value.QuantTile.lean ====
/- The kernel's quantiser on one head: the codes and the scales, at each index. -/
module

public import proofs.«01_k».proof.Proof.Value.Quant
public import proofs.«01_k».proof.Proof.Value.Tile

@[expose] public section

noncomputable section

namespace Cert.KernelIdeal.Gen

open Idealize.ShloMosaic Idealize.ShloMosaic.TcCoe Idealize.ShloMosaic.Tactic

variable {F : FTy → Type} [FloatOps F] [Named F]

/-- The columns' largest magnitudes, divided by 448. -/
def kT (x : FVec F S160x512 .bf16) : FVec F S1x512 .f32 :=
  mulf (extf .f32 (shapeCast S1x512 (multiReduction .maximumf [0] S512 (absf x) 0xFF80#16 reduces_S160x512_S512 (.inr rfl) rfl) shapeCasts_S512_S1x512) bitsLt_bf16_f32)
    (broadcast S1x512 (Scalar.ofBits .f32 0x3B124925#32 : F .f32))

/-- The rows' largest magnitudes, divided by 448. -/
def vT (x : FVec F S160x512 .bf16) : FVec F S160x1 .f32 :=
  mulf (extf .f32 (shapeCast S160x1 (multiReduction .maximumf [1] S160 (absf x) 0xFF80#16 reduces_S160x512_S160 (.inr rfl) rfl) shapeCasts_S160_S160x1) bitsLt_bf16_f32)
    (broadcast S160x1 (Scalar.ofBits .f32 0x3B124925#32 : F .f32))

/-- The codes of `x` where `u` holds the inverse scales. -/
def qCodes (x u : FVec F S160x512 .bf16) : FVec F S160x512 .bf16 :=
  minimumf (broadcast S160x512 (Scalar.ofBits .bf16 0x43E0#16 : F .bf16)) (maximumf (broadcast S160x512 (Scalar.ofBits .bf16 0xC3E0#16 : F .bf16)) (mulf x u))

/-- The codes with one scale per column. -/
def kC (x : FVec F S160x512 .bf16) (t : FVec F S1x512 .f32) : FVec F S160x512 .bf16 :=
  qCodes x (broadcastTo S160x512 (truncf .bf16 (qInv t) bitsLt_bf16_f32) broadcasts_S1x512_S160x512)

/-- The codes with one scale per row. -/
def vC (x : FVec F S160x512 .bf16) (t : FVec F S160x1 .f32) : FVec F S160x512 .bf16 :=
  qCodes x (broadcastTo S160x512 (truncf .bf16 (qInv t) bitsLt_bf16_f32) broadcasts_S160x1_S160x512)

/-- The largest magnitude of some numbers, divided by 448 as the programs divide. -/
def tq {ι : Type} [Fintype ι] (f : ι → EReal) : EReal :=
  Finset.univ.fold max ⊥ (fun d => max (f d) (-f d)) * Ideal.ofBits .f32 0x3B124925#32

/-- A code: a number over its scale, clamped. -/
def cq (x u : EReal) : EReal := min 448 (max (-448) (x * u))

theorem c448 : ((448 : ℝ) : EReal) = 448 := by norm_cast
theorem emax (a b : ℝ) : ((max a b : ℝ) : EReal) = max (a : EReal) (b : EReal) := EReal.coe_strictMono.monotone.map_max
theorem emin (a b : ℝ) : ((min a b : ℝ) : EReal) = min (a : EReal) (b : EReal) := EReal.coe_strictMono.monotone.map_min

theorem ofBits_neg_inf_bf16 : Ideal.ofBits .bf16 65408#16 = ⊥ := by simp [Ideal.ofBits, Ideal.ieee]
theorem ofBits_448_bf16 : Ideal.ofBits .bf16 17376#16 = 448 := by
  rw [show (448 : EReal) = ((448 : ℝ) : EReal) by norm_cast]
  simp [Ideal.ofBits, Ideal.ieee, -EReal.coe_mul]; norm_num
theorem ofBits_neg448_bf16 : Ideal.ofBits .bf16 50144#16 = -448 := by
  rw [show (-448 : EReal) = ((-448 : ℝ) : EReal) by rw [EReal.coe_neg, c448]]
  simp [Ideal.ofBits, Ideal.ieee, -EReal.coe_mul]; norm_num

theorem kT_apply (x : FVec Ideal S160x512 .bf16) (s : Fin 512) : kT x (ix2 0 s) = tq (fun d => x (ix2 d s)) := by
  pointwise [kT]
  rw [ofBits_neg_inf_bf16]; rfl

theorem vT_apply (x : FVec Ideal S160x512 .bf16) (d : Fin 160) : vT x (ix2 d 0) = tq (fun s => x (ix2 d s)) := by
  pointwise [vT]
  rw [ofBits_neg_inf_bf16]; rfl

theorem kC_apply (x : FVec Ideal S160x512 .bf16) (t : FVec Ideal S1x512 .f32) (d : Fin 160) (s : Fin 512) :
    kC x t (ix2 d s) = cq (x (ix2 d s)) (qInv t (ix2 0 s)) := by
  pointwise [kC, qCodes]
  rw [ofBits_448_bf16, ofBits_neg448_bf16]; rfl

theorem vC_apply (x : FVec Ideal S160x512 .bf16) (t : FVec Ideal S160x1 .f32) (d : Fin 160) (s : Fin 512) :
    vC x t (ix2 d s) = cq (x (ix2 d s)) (qInv t (ix2 d 0)) := by
  pointwise [vC, qCodes]
  rw [ofBits_448_bf16, ofBits_neg448_bf16]; rfl

/-- The programs' 1/448 is a number between 0 and 1. -/
theorem inv448 : ∃ k : ℝ, Ideal.ofBits .f32 0x3B124925#32 = (k : EReal) ∧ 0 ≤ k ∧ k ≤ 1 / 256 := by
  refine ⟨_, by simp [Ideal.ofBits, Ideal.ieee, -EReal.coe_mul]; rfl, ?_, ?_⟩ <;> norm_num

/-- The largest magnitude of bounded numbers is a number below the bound. -/
theorem fold_abs {ι : Type} (S : Finset ι) (hS : S.Nonempty) (a : ι → ℝ) (B : ℝ) (h : ∀ i, |a i| ≤ B) :
    ∃ M : ℝ, S.fold max ⊥ (fun d => max (a d : EReal) (-(a d : EReal))) = (M : EReal) ∧ 0 ≤ M ∧ M ≤ B := by
  classical
  induction hS using Finset.Nonempty.cons_induction with
  | singleton i =>
    refine ⟨|a i|, ?_, abs_nonneg _, h i⟩
    rw [Finset.fold_singleton, max_bot_right, ← EReal.coe_neg, ← emax]; rfl
  | cons i s hi hs ih =>
    obtain ⟨M, hM, h0, h1⟩ := ih
    refine ⟨max |a i| M, ?_, le_max_of_le_right h0, max_le (h i) h1⟩
    rw [Finset.fold_cons, hM, ← EReal.coe_neg, ← emax, ← emax]; rfl

/-- The largest bf16 number. -/
def bmax : ℝ := 3.3895313892515355e38

/-- The quantiser's magnitude is a number below the search's bound. -/
theorem tq_real {ι : Type} [Fintype ι] [Nonempty ι] (a : ι → ℝ) (h : ∀ i, |a i| ≤ bmax) :
    ∃ T : ℝ, tq (fun d => (a d : EReal)) = (T : EReal) ∧ 0 ≤ T ∧ T < (2 : ℝ) ^ (120 : ℤ) := by
  obtain ⟨M, hM, h0, h1⟩ := fold_abs Finset.univ Finset.univ_nonempty a bmax h
  obtain ⟨k, hk, k0, k1⟩ := inv448
  refine ⟨M * k, ?_, by positivity, ?_⟩
  · unfold tq; rw [hM, hk, EReal.coe_mul]
  · have : M * k ≤ bmax * (1 / 256) := mul_le_mul h1 k1 k0 (h0.trans h1)
    refine this.trans_lt ?_
    unfold bmax; norm_num

/-- A code over the reals. -/
def cR (x u : ℝ) : ℝ := min 448 (max (-448) (x * u))

theorem cq_coe (x u : ℝ) : cq (x : EReal) (u : EReal) = ((cR x u : ℝ) : EReal) := by
  unfold cq cR
  rw [emin, emax, EReal.coe_mul, EReal.coe_neg, c448]

end Cert.KernelIdeal.Gen

end
-- ==== Proof.Value.Pre.lean ====
/- What the precondition says of the arguments: they hold real numbers of bounded magnitude, and the prefix lengths are bounded. -/
module

public import proofs.«01_k».proof.Pre_in_range
public import proofs.«01_k».proof.Proof.Value.QuantTile
public import Idealize.ShloMosaic.Lib.ReduceAll

@[expose] public section

namespace Cert.Pre_in_range.Gen

open Idealize.ShloMosaic
open Cert.KernelIdeal.Gen (bmax)

/-- The shape relations the predicate states. -/
instance facts : Cert.Pre_in_range.Facts where
  bitsLt_bf16_f32 := by decide
  bcast_S_S4x512x2880 := by decide
  reducesTo_S4x512x2880_S_d0_1_2 := by decide
  h_S_ := by decide
  bcast_S_S4x512x960 := by decide
  reducesTo_S4x512x960_S_d0_1_2 := by decide
  bcast_S_S4 := by decide
  reducesTo_S4_S_d0 := by decide

/-- The bound of the predicate, as a real number. -/
theorem ofBits_max : Ideal.ofBits .f32 0x7F7F0000#32 = ((255 * 2 ^ 120 : ℝ) : EReal) := by
  simp [Ideal.ofBits, Ideal.ieee, -EReal.coe_mul]; norm_num

/-- An extended real whose magnitude passes the test is a bounded real number. -/
theorem real_of_le (y : EReal) (h : Ideal.cmp .ole (max y (-y)) (Ideal.ofBits .f32 0x7F7F0000#32) = 1#1) :
    y = ((y.toReal : ℝ) : EReal) ∧ |y.toReal| ≤ bmax := by
  have h' : max y (-y) ≤ ((255 * 2 ^ 120 : ℝ) : EReal) := by
    rw [ofBits_max] at h
    by_contra hn
    simp only [Ideal.cmp, decide_eq_false hn] at h
    exact absurd h (by decide)
  obtain ⟨h1, h2⟩ := max_le_iff.1 h'
  have ht : y ≠ ⊤ := fun e => by rw [e, top_le_iff] at h1; exact EReal.coe_ne_top _ h1
  have hb : y ≠ ⊥ := fun e => by rw [e, EReal.neg_bot, top_le_iff] at h2; exact EReal.coe_ne_top _ h2
  have hy : y = ((y.toReal : ℝ) : EReal) := (EReal.coe_toReal ht hb).symm
  refine ⟨hy, ?_⟩
  rw [hy] at h1 h2
  rw [← EReal.coe_neg, EReal.coe_le_coe_iff] at h2
  rw [EReal.coe_le_coe_iff] at h1
  refine le_trans (abs_le'.2 ⟨h1, h2⟩) ?_
  unfold bmax; norm_num

/-- The precondition, read back. -/
theorem in_range (x : FVec Ideal S4x512x2880 .bf16) (k v : FVec Ideal S4x512x960 .bf16) (p : IVec S4 32)
    (h : Cert.Pre_in_range.fn (F := Ideal) x k v p = fun _ => 1#1) :
    (∀ i, x i = ((EReal.toReal (x i) : ℝ) : EReal) ∧ |EReal.toReal (x i)| ≤ bmax)
      ∧ (∀ i, k i = ((EReal.toReal (k i) : ℝ) : EReal) ∧ |EReal.toReal (k i)| ≤ bmax)
      ∧ (∀ i, v i = ((EReal.toReal (v i) : ℝ) : EReal) ∧ |EReal.toReal (v i)| ≤ bmax)
      ∧ ∀ i, (p i).toInt ≤ 2147483520 := by
  have h0 := congrFun h (fun a => a.elim0)
  unfold Cert.Pre_in_range.fn Cert.Pre_in_range.fn_part1 at h0
  dsimp only at h0
  obtain ⟨h1, hp⟩ := IntOp.andi_eq_one.1 h0
  obtain ⟨h2, hv⟩ := IntOp.andi_eq_one.1 h1
  obtain ⟨hx, hk⟩ := IntOp.andi_eq_one.1 h2
  exact ⟨fun i => real_of_le _ (Host.reduce_andi_all _ _ _ _ _ hx i), fun i => real_of_le _ (Host.reduce_andi_all _ _ _ _ _ hk i),
    fun i => real_of_le _ (Host.reduce_andi_all _ _ _ _ _ hv i), fun i => IntOp.cmpi_sle.1 (Host.reduce_andi_all _ _ _ _ _ hp i)⟩

end Cert.Pre_in_range.Gen

end
-- ==== Proof.Value.Attend.lean ====
/- One output number of the attention: the kernel's formula over the keys it looks at and the plain formula over all
   keys are the same real number. -/
module

public import Idealize.ShloMosaic.PureOps.Ideal
public import Idealize.ShloMosaic.PureOps.Ideal.Laws

@[expose] public section

noncomputable section

namespace Cert.Att

open Idealize.ShloMosaic

/-- The kernel's output number from the scores `z` of the keys it looks at: powers of two of the scores times `c` less
    their largest, plus eight; the values weighted by these clamped at 448; over their sum; times the value's scale. -/
def attOf {n : ℕ} (z : Fin n → EReal) (c : EReal) (v : Fin n → EReal) (vs : EReal) : EReal :=
  (∑ j, v j * min (Ideal.exp2 (z j * c - (Finset.univ.fold max ⊥ z * c - 8))) 448)
    * Ideal.div 1 (∑ j, Ideal.exp2 (z j * c - (Finset.univ.fold max ⊥ z * c - 8))) * vs

/-- The plain output number from the scores `s` of all keys. -/
def refOf {n : ℕ} (s : Fin n → EReal) (v : Fin n → EReal) (vs : EReal) : EReal :=
  Ideal.div ((∑ j, v j * min (Ideal.exp (s j - Finset.univ.fold max ⊥ s) * 256) 448) * (vs * ((1 / 256 : ℝ) : EReal)))
    (∑ j, Ideal.exp (s j - Finset.univ.fold max ⊥ s))

/-- A real number if a key is visible, minus infinity if not. -/
def msk (vis : Prop) [Decidable vis] (z : ℝ) : EReal := if vis then (z : EReal) else ⊥

/-- A finite sum of reals. -/
theorem coe_sum {ι : Type} (S : Finset ι) (f : ι → ℝ) : ((∑ i ∈ S, f i : ℝ) : EReal) = ∑ i ∈ S, (f i : EReal) := by
  classical
  induction S using Finset.induction_on with
  | empty => simp
  | insert i s hi ih => rw [Finset.sum_insert hi, Finset.sum_insert hi, EReal.coe_add, ih]

theorem emin (a b : ℝ) : ((min a b : ℝ) : EReal) = min (a : EReal) (b : EReal) := EReal.coe_strictMono.monotone.map_min
theorem c448 : ((448 : ℝ) : EReal) = 448 := by norm_cast
theorem c256 : ((256 : ℝ) : EReal) = 256 := by norm_cast
theorem c8 : ((8 : ℝ) : EReal) = 8 := by norm_cast

/-- The largest of the masked scores is the largest visible one. -/
theorem fold_msk {n : ℕ} (z : ℕ → ℝ) (vis : ℕ → Prop) [DecidablePred vis] (M : ℝ) (hM : ∀ j, vis j → z j ≤ M)
    (hM' : ∃ j < n, vis j ∧ z j = M) : Finset.univ.fold max ⊥ (fun j : Fin n => msk (vis j) (z j)) = (M : EReal) := by
  apply le_antisymm
  · rw [Finset.fold_max_le]
    refine ⟨bot_le, fun j _ => ?_⟩
    unfold msk; split
    · exact EReal.coe_le_coe_iff.2 (hM _ (by assumption))
    · exact bot_le
  · obtain ⟨j, hj, hv, rfl⟩ := hM'
    rw [Finset.le_fold_max]
    exact Or.inr ⟨⟨j, hj⟩, Finset.mem_univ _, by simp [msk, hv]⟩

/-- A key's weight. -/
def wt (z : ℕ → ℝ) (vis : ℕ → Prop) [DecidablePred vis] (a M : ℝ) (j : ℕ) : ℝ := if vis j then Real.exp ((z j - M) * a) else 0

/-- A sum over the first keys is the sum over more of them when the rest contribute nothing. -/
theorem sum_first {n N : ℕ} (hn : n ≤ N) (f : ℕ → ℝ) (h : ∀ j, n ≤ j → f j = 0) : ∑ j : Fin n, f j = ∑ j : Fin N, f j := by
  rw [Fin.sum_univ_eq_sum_range f n, Fin.sum_univ_eq_sum_range f N]
  exact Finset.sum_subset (Finset.range_mono hn) fun j _ hj => h j (by simpa using hj)

/-- The kernel's exponential is 256 times the weight. -/
theorem exp2_msk (z : ℕ → ℝ) (vis : ℕ → Prop) [DecidablePred vis] (c : ℝ) (hc : 0 < c) (M : ℝ) (j : ℕ) :
    Ideal.exp2 (msk (vis j) (z j) * (c : EReal) - ((M : EReal) * (c : EReal) - 8)) = ((256 * wt z vis (c * Real.log 2) M j : ℝ) : EReal) := by
  unfold msk wt
  split
  · rw [← c8, ← EReal.coe_mul, ← EReal.coe_mul, ← EReal.coe_sub, ← EReal.coe_sub, Ideal.exp2_coe]
    congr 1
    show (2 : ℝ) ^ (z j * c - (M * c - 8)) = _
    rw [Real.rpow_def_of_pos (by norm_num), show Real.log 2 * (z j * c - (M * c - 8)) = Real.log 2 * 8 + (z j - M) * (c * Real.log 2) by ring,
      Real.exp_add, show Real.exp (Real.log 2 * 8) = 256 by
        rw [← Real.rpow_def_of_pos (by norm_num)]; norm_num]
  · rw [EReal.bot_mul_coe_of_pos hc, ← c8, ← EReal.coe_mul, ← EReal.coe_sub, EReal.bot_sub, Ideal.exp2_bot]; simp

/-- The kernel's number as a real number: over all the keys. -/
theorem att_eq {n N : ℕ} (hn : n ≤ N) (z v : ℕ → ℝ) (vis : ℕ → Prop) [DecidablePred vis] (hv : ∀ j, n ≤ j → ¬ vis j) (c : ℝ) (hc : 0 < c)
    (vs M : ℝ) (hM : ∀ j, vis j → z j ≤ M) (hM' : ∃ j < n, vis j ∧ z j = M) :
    attOf (fun j : Fin n => msk (vis j) (z j)) c (fun j => (v j : EReal)) vs
      = (((∑ j : Fin N, v j * min (256 * wt z vis (c * Real.log 2) M j) 448) * (1 / (256 * ∑ j : Fin N, wt z vis (c * Real.log 2) M j)) * vs : ℝ) : EReal) := by
  have hL : 0 < ∑ j : Fin n, 256 * wt z vis (c * Real.log 2) M j := by
    obtain ⟨j, hj, hvj, -⟩ := hM'
    refine Finset.sum_pos' (fun i _ => ?_) ⟨⟨j, hj⟩, Finset.mem_univ _, ?_⟩
    · unfold wt; split <;> positivity
    · simp only [wt, if_pos hvj]; positivity
  unfold attOf
  rw [fold_msk z vis M hM hM']
  simp only [exp2_msk z vis c hc M]
  simp only [← c448, ← emin, ← EReal.coe_mul, ← coe_sum]
  rw [Ideal.div_coe hL.ne', one_mul, ← EReal.coe_mul, ← EReal.coe_mul,
    sum_first hn (fun j => v j * min (256 * wt z vis (c * Real.log 2) M j) 448) (fun j hj => by simp [wt, hv j hj]),
    sum_first hn (fun j => 256 * wt z vis (c * Real.log 2) M j) (fun j hj => by simp [wt, hv j hj]), Finset.mul_sum]

/-- The plain exponential is the weight. -/
theorem exp_msk (z s : ℕ → ℝ) (a : ℝ) (hs : ∀ j, s j = z j * a) (vis : ℕ → Prop) [DecidablePred vis] (M : ℝ) (j : ℕ) :
    Ideal.exp (msk (vis j) (s j) - ((M * a : ℝ) : EReal)) = ((wt z vis a M j : ℝ) : EReal) := by
  unfold msk wt
  split
  · rw [← EReal.coe_sub, Ideal.exp_coe, hs j, sub_mul]
  · rw [EReal.bot_sub, Ideal.exp_bot]; simp

/-- The plain number as a real number. -/
theorem ref_eq {N : ℕ} (z s v : ℕ → ℝ) (a : ℝ) (ha : 0 < a) (hs : ∀ j, s j = z j * a) (vis : ℕ → Prop) [DecidablePred vis] (vs M : ℝ)
    (hM : ∀ j, vis j → z j ≤ M) (hM' : ∃ j < N, vis j ∧ z j = M) :
    refOf (fun j : Fin N => msk (vis j) (s j)) (fun j => (v j : EReal)) vs
      = (((∑ j : Fin N, v j * min (256 * wt z vis a M j) 448) * (1 / (256 * ∑ j : Fin N, wt z vis a M j)) * vs : ℝ) : EReal) := by
  have hL : 0 < ∑ j : Fin N, wt z vis a M j := by
    obtain ⟨j, hj, hvj, -⟩ := hM'
    refine Finset.sum_pos' (fun i _ => ?_) ⟨⟨j, hj⟩, Finset.mem_univ _, ?_⟩
    · unfold wt; split <;> positivity
    · simp only [wt, if_pos hvj]; positivity
  unfold refOf
  rw [fold_msk s vis (M * a) (fun j hj => by rw [hs j]; exact mul_le_mul_of_nonneg_right (hM j hj) ha.le)
    (by obtain ⟨j, hj, hvj, he⟩ := hM'; exact ⟨j, hj, hvj, by rw [hs j, he]⟩)]
  simp only [exp_msk z s a hs vis M, ← c448, ← c256, ← emin, ← EReal.coe_mul, ← coe_sum]
  rw [Ideal.div_coe hL.ne', ← EReal.coe_mul]
  congr 1
  simp only [mul_comm _ (256 : ℝ)]
  field_simp

/-- The kernel's number is the plain number. -/
theorem att_eq_ref {n N : ℕ} (hn : n ≤ N) (z s v : ℕ → ℝ) (vis : ℕ → Prop) [DecidablePred vis] (hv : ∀ j, n ≤ j → ¬ vis j) (h0 : ∃ j < n, vis j)
    (c : ℝ) (hc : 0 < c) (hs : ∀ j, s j = z j * (c * Real.log 2)) (vs : ℝ) :
    attOf (fun j : Fin n => msk (vis j) (z j)) c (fun j => (v j : EReal)) vs = refOf (fun j : Fin N => msk (vis j) (s j)) (fun j => (v j : EReal)) vs := by
  obtain ⟨j0, hj0, hv0⟩ := h0
  obtain ⟨j, hj, hmax⟩ := Finset.exists_max_image ((Finset.range n).filter vis) z ⟨j0, by simp [hj0, hv0]⟩
  simp only [Finset.mem_filter, Finset.mem_range] at hj hmax
  have hM : ∀ i, vis i → z i ≤ z j := fun i hi => hmax i ⟨not_le.mp fun h => hv i h hi, hi⟩
  rw [att_eq hn z v vis hv c hc vs (z j) hM ⟨j, hj.1, hj.2, rfl⟩,
    ref_eq z s v (c * Real.log 2) (mul_pos hc (Real.log_pos (by norm_num))) hs vis vs (z j) hM ⟨j, hj.1.trans_le hn, hj.2, rfl⟩]

end Cert.Att

end
-- ==== Proof.Value.TileAll.lean ====
/- A whole tile of the attention, from the blocks it loads to the output tile of one head: what it holds at each index. -/
module

public import proofs.«01_k».proof.Proof.Value.Tile
public import proofs.«01_k».proof.Proof.Value.Attend

@[expose] public section

noncomputable section

namespace Cert.KernelIdeal.Gen

open Idealize.ShloMosaic Idealize.ShloMosaic.TcCoe Idealize.ShloMosaic.Tactic
open Cert.Att (attOf)

variable {F : FTy → Type} [FloatOps F] [Named F]

/-- The shape facts of a tile over `n` keys. -/
structure TileFacts (n : ℕ) : Prop where
  hr : (Sh n 128).Reduces [0] S128
  hb : S1x128.Broadcasts (Sh n 128)
  hc : Shape.Concatenates [Sh n 128, Sh n 128, Sh n 128] (Sh n 384) 1
  hs : (⟨4, ![1, 1, 160, n]⟩ : Shape).ShapeCasts (Sh 160 n)
  hy : ∀ h : Fin 3, (Sh n 384).Slices ![0, 128 * h.val] (Sh n 128)

/-- The shape facts of splitting a tile's rows into the first `a` and the last 128. -/
structure SplitFacts (n a : ℕ) : Prop where
  h1 : (Sh n 128).Slices ![a, 0] S128x128
  h0 : (Sh n 128).Slices ![0, 0] (Sh a 128)
  hc : Shape.Concatenates [Sh a 128, S128x128] (Sh n 128) 0

theorem tf1 : TileFacts 128 := ⟨by decide, by decide, by decide, by decide, by decide⟩
theorem tf2 : TileFacts 256 := ⟨by decide, by decide, by decide, by decide, by decide⟩
theorem tf3 : TileFacts 384 := ⟨by decide, by decide, by decide, by decide, by decide⟩
theorem tf4 : TileFacts 512 := ⟨by decide, by decide, by decide, by decide, by decide⟩
theorem sf2 : SplitFacts 256 128 := ⟨by decide, by decide, by decide⟩
theorem sf3 : SplitFacts 384 256 := ⟨by decide, by decide, by decide⟩
theorem sf4 : SplitFacts 512 384 := ⟨by decide, by decide, by decide⟩
theorem so (h : Fin 3) : S160x384.Slices ![0, 128 * h.val] S160x128 := by revert h; decide

/-- Head `h`'s output tile from the three heads' masked scores. -/
def tC (n : ℕ) (f : TileFacts n) (z0 z1 z2 : FVec F (Sh n 128) .f32) (c0 c1 c2 : FVec F S1x128 .f32) (v : Vec F ⟨4, ![1, 1, 160, n]⟩ .fp8e4m3)
    (vs : FVec F S160x1 .bf16) (h : Fin 3) : FVec F S1x160x128 .bf16 :=
  tOut (128 * h.val) (so h) (tAv n f.hc f.hs v (tP n (tE n f.hr f.hb z0 c0)) (tP n (tE n f.hr f.hb z1 c1)) (tP n (tE n f.hr f.hb z2 c2)))
    (tR n f.hr (tE n f.hr f.hb (third h z0 z1 z2) (third h c0 c1 c2))) vs

/-- The tile over one block of keys. -/
def tTile1 (f : TileFacts 128) (q0 q1 q2 : Vec F S1x1x160x128 .fp8e4m3) (kt : Vec F (Sh 128 160) .fp8e4m3) (k0 k1 k2 : Vec F (Sh 128 128) .f32)
    (mask : IVec S128x128 1) (c0 c1 c2 : FVec F S1x128 .f32) (v : Vec F ⟨4, ![1, 1, 160, 128]⟩ .fp8e4m3) (vs : FVec F S160x1 .bf16) (h : Fin 3) : FVec F S1x160x128 .bf16 :=
  tC 128 f (tZ1 (tY 128 (128 * (0 : Fin 3).val) (f.hy 0) (tAcc 128 q0 q1 q2 kt) k0) mask)
    (tZ1 (tY 128 (128 * (1 : Fin 3).val) (f.hy 1) (tAcc 128 q0 q1 q2 kt) k1) mask)
    (tZ1 (tY 128 (128 * (2 : Fin 3).val) (f.hy 2) (tAcc 128 q0 q1 q2 kt) k2) mask) c0 c1 c2 v vs h

/-- The tile over several blocks of keys. -/
def tTile (n a : ℕ) (f : TileFacts n) (g : SplitFacts n a) (q0 q1 q2 : Vec F S1x1x160x128 .fp8e4m3) (kt : Vec F (Sh n 160) .fp8e4m3) (k0 k1 k2 : Vec F (Sh n 128) .f32)
    (mask : IVec S128x128 1) (c0 c1 c2 : FVec F S1x128 .f32) (v : Vec F ⟨4, ![1, 1, 160, n]⟩ .fp8e4m3) (vs : FVec F S160x1 .bf16) (h : Fin 3) : FVec F S1x160x128 .bf16 :=
  tC n f (tZ n a g.h1 g.h0 g.hc (tY n (128 * (0 : Fin 3).val) (f.hy 0) (tAcc n q0 q1 q2 kt) k0) mask)
    (tZ n a g.h1 g.h0 g.hc (tY n (128 * (1 : Fin 3).val) (f.hy 1) (tAcc n q0 q1 q2 kt) k1) mask)
    (tZ n a g.h1 g.h0 g.hc (tY n (128 * (2 : Fin 3).val) (f.hy 2) (tAcc n q0 q1 q2 kt) k2) mask) c0 c1 c2 v vs h

/-- A tile at an index, from the masked scores. -/
theorem tC_apply (n : ℕ) (f : TileFacts n) (z0 z1 z2 : FVec Ideal (Sh n 128) .f32) (c0 c1 c2 : FVec Ideal S1x128 .f32) (v : Vec Ideal ⟨4, ![1, 1, 160, n]⟩ .fp8e4m3)
    (vs : FVec Ideal S160x1 .bf16) (h : Fin 3) (d : Fin 160) (t : Fin 128) :
    tC n f z0 z1 z2 c0 c1 c2 v vs h (ix3 0 d t)
      = attOf (fun j : Fin n => third h z0 z1 z2 (ix2 j t)) (third h c0 c1 c2 (ix2 0 t)) (fun j => v (ix4 0 0 d j)) (vs (ix2 d 0)) := by
  unfold tC attOf
  rw [tOut_apply, tAv_apply, tR_apply]
  simp only [tE_apply]
  congr 2
  refine Finset.sum_congr rfl fun j _ => congrArg (v (ix4 0 0 d j) * ·) ?_
  match h with
  | 0 => exact (tP_apply n _ j t).trans (by rw [tE_apply]; rfl)
  | 1 => exact (tP_apply n _ j t).trans (by rw [tE_apply]; rfl)
  | 2 => exact (tP_apply n _ j t).trans (by rw [tE_apply]; rfl)

/-- The tile over one block of keys at an index. -/
theorem tTile1_apply (f : TileFacts 128) (q0 q1 q2 : Vec Ideal S1x1x160x128 .fp8e4m3) (kt : Vec Ideal (Sh 128 160) .fp8e4m3) (k0 k1 k2 : Vec Ideal (Sh 128 128) .f32)
    (mask : IVec S128x128 1) (c0 c1 c2 : FVec Ideal S1x128 .f32) (v : Vec Ideal ⟨4, ![1, 1, 160, 128]⟩ .fp8e4m3) (vs : FVec Ideal S160x1 .bf16)
    (h : Fin 3) (d : Fin 160) (t : Fin 128) :
    tTile1 f q0 q1 q2 kt k0 k1 k2 mask c0 c1 c2 v vs h (ix3 0 d t)
      = attOf (fun j : Fin 128 => if mask (ix2 j t) = 1#1 then (∑ e : Fin 160, kt (ix2 j e) * third h q0 q1 q2 (ix4 0 0 e t)) * third h k0 k1 k2 (ix2 j t) else ⊥)
          (third h c0 c1 c2 (ix2 0 t)) (fun j => v (ix4 0 0 d j)) (vs (ix2 d 0)) := by
  unfold tTile1
  rw [tC_apply]
  congr 1
  funext j
  match h with
  | 0 => exact (tZ1_apply _ _ j t).trans (by rw [tY_apply, tAcc_apply]; rfl)
  | 1 => exact (tZ1_apply _ _ j t).trans (by rw [tY_apply, tAcc_apply]; rfl)
  | 2 => exact (tZ1_apply _ _ j t).trans (by rw [tY_apply, tAcc_apply]; rfl)

/-- The tile over several blocks of keys at an index. -/
theorem tTile_apply (n a : ℕ) (hn : n = a + 128) (f : TileFacts n) (g : SplitFacts n a) (q0 q1 q2 : Vec Ideal S1x1x160x128 .fp8e4m3) (kt : Vec Ideal (Sh n 160) .fp8e4m3) (k0 k1 k2 : Vec Ideal (Sh n 128) .f32)
    (mask : IVec S128x128 1) (c0 c1 c2 : FVec Ideal S1x128 .f32) (v : Vec Ideal ⟨4, ![1, 1, 160, n]⟩ .fp8e4m3) (vs : FVec Ideal S160x1 .bf16)
    (h : Fin 3) (d : Fin 160) (t : Fin 128) :
    tTile n a f g q0 q1 q2 kt k0 k1 k2 mask c0 c1 c2 v vs h (ix3 0 d t)
      = attOf (fun j : Fin n => if hj : j.val < a then (∑ e : Fin 160, kt (ix2 j e) * third h q0 q1 q2 (ix4 0 0 e t)) * third h k0 k1 k2 (ix2 j t)
            else if mask (ix2 ⟨j.val - a, by omega⟩ t) = 1#1 then (∑ e : Fin 160, kt (ix2 j e) * third h q0 q1 q2 (ix4 0 0 e t)) * third h k0 k1 k2 (ix2 j t) else ⊥)
          (third h c0 c1 c2 (ix2 0 t)) (fun j => v (ix4 0 0 d j)) (vs (ix2 d 0)) := by
  unfold tTile
  rw [tC_apply]
  congr 1
  funext j
  match h with
  | 0 => exact (tZ_apply n a _ _ _ _ _ hn j t).trans (by rw [tY_apply, tAcc_apply]; rfl)
  | 1 => exact (tZ_apply n a _ _ _ _ _ hn j t).trans (by rw [tY_apply, tAcc_apply]; rfl)
  | 2 => exact (tZ_apply n a _ _ _ _ _ hn j t).trans (by rw [tY_apply, tAcc_apply]; rfl)

/-- A small number's value as a signed word. -/
theorem toInt_small (n : ℕ) (h : n < 2147483648) : (BitVec.ofNat 32 n).toInt = n := by
  rw [BitVec.toInt_eq_toNat_of_lt (by rw [BitVec.toNat_ofNat]; omega), BitVec.toNat_ofNat]
  congr 1; omega

/-- Either of two decided facts, as one bit. -/
theorem or_ofBool (p q : Prop) [Decidable p] [Decidable q] : BitVec.ofBool (decide p) ||| BitVec.ofBool (decide q) = 1#1 ↔ p ∨ q := by
  by_cases hp : p <;> by_cases hq : q <;> simp [hp, hq]

/-- Key `j` is visible to query `s`: before the prefix's end, or not after the query. -/
def vis (v1 : BitVec 32) (s j : ℕ) : Prop := (j : ℤ) < v1.toInt ∨ j ≤ s

instance (v1 : BitVec 32) (s : ℕ) : DecidablePred (vis v1 s) := fun j => by unfold vis; infer_instance

/-- The mask at an index. -/
theorem tMask_apply (R C : ℕ) (hR : R < 1024) (hC : C < 1024) (v1 : BitVec 32) (j t : Fin 128) :
    tMask (BitVec.ofNat 32 R) (BitVec.ofNat 32 C) v1 (ix2 j t) = 1#1 ↔ vis v1 (C + t.val) (R + j.val) := by
  have hj := j.isLt
  have ht := t.isLt
  pointwise [tMask]
  show BitVec.ofBool (BitVec.slt (BitVec.ofNat 32 R + BitVec.ofNat 32 j.val) v1) ||| BitVec.ofBool (BitVec.sle (BitVec.ofNat 32 R + BitVec.ofNat 32 j.val) (BitVec.ofNat 32 C + BitVec.ofNat 32 t.val)) = 1#1 ↔ _
  unfold BitVec.slt BitVec.sle vis
  rw [or_ofBool, ← BitVec.ofNat_add, ← BitVec.ofNat_add, toInt_small _ (by omega), toInt_small _ (by omega)]
  simp only [Nat.cast_le]

end Cert.KernelIdeal.Gen

end
-- ==== Proof.Value.Block.lean ====
/- What a grid point's outputs hold, as functions of the blocks that the point reads. -/
module

public import proofs.«01_k».proof.Proof.Value.TileAll
public import proofs.«01_k».proof.Proof.Value.QuantTile
public import proofs.«01_k».proof.Proof.Named.Whole

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-! ## The quantised blocks -/

/-- A block as a matrix. -/
def mX (y : Vec F S1x160x512 .bf16) : FVec F S160x512 .bf16 := shapeCast S160x512 y shapeCasts_S1x160x512_S160x512

/-- The scales of a block's columns. -/
def sK (y : Vec F S1x160x512 .bf16) : FVec F S1x512 .f32 := qScale (kT (mX y))

/-- The scales of a block's rows. -/
def sV (y : Vec F S1x160x512 .bf16) : FVec F S160x1 .f32 := qScale (vT (mX y))

/-- One head's query codes, as they are stored. -/
def pQ (y : Vec F S1x160x512 .bf16) : FVec F S1x1x160x512 .fp8e4m3 :=
  shapeCast S1x1x160x512 (truncf .fp8e4m3 (kC (mX y) (kT (mX y))) bitsLt_fp8e4m3_bf16) shapeCasts_S160x512_S1x1x160x512

/-- One head's query scales, as they are stored. -/
def pS (y : Vec F S1x160x512 .bf16) : FVec F S1x1x1x512 .f32 := shapeCast S1x1x1x512 (sK y) shapeCasts_S1x512_S1x1x1x512

/-- The query codes of three heads. -/
def oQC (y0 y1 y2 : Vec F S1x160x512 .bf16) : Vec F S1x3x160x512 .fp8e4m3 :=
  View.canon [⟨Rect.unit ![0, 2, 0, 0] S1x1x160x512.size inb_S1x3x160x512_S1x1x160x512_0_2_0_0, pQ y2⟩,
    ⟨Rect.unit ![0, 1, 0, 0] S1x1x160x512.size inb_S1x3x160x512_S1x1x160x512_0_1_0_0, pQ y1⟩,
    ⟨Rect.unit ![0, 0, 0, 0] S1x1x160x512.size inb_S1x3x160x512_S1x1x160x512_0_0_0_0, pQ y0⟩]

/-- The query scales of three heads. -/
def oQS (y0 y1 y2 : Vec F S1x160x512 .bf16) : Vec F S1x3x1x512 .f32 :=
  View.canon [⟨Rect.unit ![0, 2, 0, 0] S1x1x1x512.size inb_S1x3x1x512_S1x1x1x512_0_2_0_0, pS y2⟩,
    ⟨Rect.unit ![0, 1, 0, 0] S1x1x1x512.size inb_S1x3x1x512_S1x1x1x512_0_1_0_0, pS y1⟩,
    ⟨Rect.unit ![0, 0, 0, 0] S1x1x1x512.size inb_S1x3x1x512_S1x1x1x512_0_0_0_0, pS y0⟩]

/-- The key codes. -/
def oKC (y : Vec F S1x160x512 .bf16) : Vec F S1x1x160x512 .fp8e4m3 :=
  View.canon [⟨Rect.unit ![0, 0, 0, 0] S1x1x160x512.size inb_S1x1x160x512_S1x1x160x512_0_0_0_0, pQ y⟩]

/-- The key scales. -/
def oKS (y : Vec F S1x160x512 .bf16) : Vec F S1x1x1x512 .f32 :=
  View.canon [⟨Rect.unit ![0, 0, 0, 0] S1x1x1x512.size inb_S1x1x1x512_S1x1x1x512_0_0_0_0, pS y⟩]

/-- The value codes. -/
def oVC (y : Vec F S1x160x512 .bf16) : Vec F S1x1x160x512 .fp8e4m3 :=
  View.canon [⟨Rect.unit ![0, 0, 0, 0] S1x1x160x512.size inb_S1x1x160x512_S1x1x160x512_0_0_0_0,
    shapeCast S1x1x160x512 (truncf .fp8e4m3 (vC (mX y) (vT (mX y))) bitsLt_fp8e4m3_bf16) shapeCasts_S160x512_S1x1x160x512⟩]

/-- The value scales. -/
def oVS (y : Vec F S1x160x512 .bf16) : Vec F S1x1x160x1 .f32 :=
  View.canon [⟨Rect.unit ![0, 0, 0, 0] S1x1x160x1.size inb_S1x1x160x1_S1x1x160x1_0_0_0_0, shapeCast S1x1x160x1 (sV y) shapeCasts_S160x1_S1x1x160x1⟩]

/-- The key codes, transposed. -/
def kTr (y : Vec F S1x160x512 .bf16) : Vec F S512x160 .fp8e4m3 :=
  View.canon [⟨Rect.unit ![0, 0] S512x160.size inb_S512x160_S512x160_0_0,
    shapeCast S512x160 (truncf .fp8e4m3 (transpose S512x160 [1, 0] (kC (mX y) (kT (mX y))) transposes_S160x512_p1_0_S512x160) bitsLt_fp8e4m3_bf16) shapeCasts_S512x160_S512x160⟩]

/-- 128 of the key scales, one row each. -/
def ksB (y : Vec F S1x160x512 .bf16) (off : ℕ) (h : S1x512.Slices ![0, off] S1x128) : FVec F S128x128 .f32 :=
  shapeCast S128x128 (transpose S128x128 [1, 0] (broadcastTo S128x128 (shapeCast S1x128 (extractStridedSlice S1x128 ![0, off] (sK y) h) shapeCasts_S1x128_S1x128) broadcasts_S1x128_S128x128) transposes_S128x128_p1_0_S128x128) shapeCasts_S128x128_S128x128

/-- The key scales, one row each. -/
def kSr (y : Vec F S1x160x512 .bf16) : Vec F S512x128 .f32 :=
  View.canon [⟨Rect.unit ![384, 0] S128x128.size inb_S512x128_S128x128_384_0, ksB y 384 slices_S1x512_o0_384_S1x128⟩,
    ⟨Rect.unit ![256, 0] S128x128.size inb_S512x128_S128x128_256_0, ksB y 256 slices_S1x512_o0_256_S1x128⟩,
    ⟨Rect.unit ![128, 0] S128x128.size inb_S512x128_S128x128_128_0, ksB y 128 slices_S1x512_o0_128_S1x128⟩,
    ⟨Rect.unit ![0, 0] S128x128.size inb_S512x128_S128x128_0_0, ksB y 0 slices_S1x512_o0_0_S1x128⟩]

/-- The factor of one head's scores: the query scales times the constant. -/
def cQ (y : Vec F S1x160x512 .bf16) : FVec F S1x512 .f32 := mulf (sK y) (broadcast S1x512 (Named.named κ "score_scale_log2e" 0x3DE995B3#32 : F .f32))

/-! ## The output tiles -/

section Tiles

variable {arg7 : Memref sig .tc .vmem S1x3x160x512 .fp8e4m3} (harg7 : arg7.IsWhole) {arg11 : Memref sig .tc .vmem S1x1x160x512 .fp8e4m3} (harg11 : arg11.IsWhole)
  {arg13 : Memref sig .tc .vmem S512x160 .fp8e4m3} (harg13 : arg13.IsWhole) {arg14 : Memref sig .tc .vmem S512x128 .f32} (harg14 : arg14.IsWhole)
  (O4 : Vec F S1x3x160x512 .fp8e4m3) (O8 : Vec F S1x1x160x512 .fp8e4m3) (KT : Vec F S512x160 .fp8e4m3) (KS : Vec F S512x128 .f32)

theorem inbQ (h : Fin 3) (i : Fin 4) : ∀ d : Fin 4, (![0, h.val, 0, 128 * i.val] : Fin 4 → ℕ) d + S1x1x160x128.size d ≤ S1x3x160x512.size d := by revert h i; decide
theorem inbV (n : ℕ) (hn : n ≤ 512) : ∀ d : Fin 4, (![0, 0, 0, 0] : Fin 4 → ℕ) d + (⟨4, ![1, 1, 160, n]⟩ : Shape).size d ≤ S1x1x160x512.size d := by
  intro d; match d with | 0 => exact le_refl 1 | 1 => exact le_refl 1 | 2 => exact le_refl 160 | 3 => exact (Nat.zero_add n).trans_le hn
theorem inbT (n : ℕ) (hn : n ≤ 512) : ∀ d : Fin 2, (![0, 0] : Fin 2 → ℕ) d + (Sh n 160).size d ≤ S512x160.size d := by
  intro d; match d with | 0 => exact (Nat.zero_add n).trans_le hn | 1 => exact le_refl 160
theorem inbS (n : ℕ) (hn : n ≤ 512) : ∀ d : Fin 2, (![0, 0] : Fin 2 → ℕ) d + (Sh n 128).size d ≤ S512x128.size d := by
  intro d; match d with | 0 => exact (Nat.zero_add n).trans_le hn | 1 => exact le_refl 128
theorem inbO (h : Fin 3) (i : Fin 4) : ∀ d : Fin 3, (![0, 160 * h.val, 128 * i.val] : Fin 3 → ℕ) d + S1x160x128.size d ≤ S1x480x512.size d := by revert h i; decide
theorem slC (i : Fin 4) : S1x512.Slices ![0, 128 * i.val] S1x128 := by revert i; decide

/-- A head's query codes of 128 queries. -/
def lQ (h : Fin 3) (i : Fin 4) : Vec F S1x1x160x128 .fp8e4m3 := View.readAt (Elt F) arg7.view (Rect.unit ![0, h.val, 0, 128 * i.val] S1x1x160x128.size (inbQ h i) : Rect S1x3x160x512).toLoadRect (harg7.unread O4)
/-- The value codes of the first keys. -/
def lV (n : ℕ) (hn : n ≤ 512) : Vec F ⟨4, ![1, 1, 160, n]⟩ .fp8e4m3 := View.readAt (Elt F) arg11.view (Rect.unit ![0, 0, 0, 0] (⟨4, ![1, 1, 160, n]⟩ : Shape).size (inbV n hn) : Rect S1x1x160x512).toLoadRect (harg11.unread O8)
/-- The key codes of the first keys. -/
def lT (n : ℕ) (hn : n ≤ 512) : Vec F (Sh n 160) .fp8e4m3 := View.readAt (Elt F) arg13.view (Rect.unit ![0, 0] (Sh n 160).size (inbT n hn) : Rect S512x160).toLoadRect (harg13.unread KT)
/-- The key scales of the first keys. -/
def lS (n : ℕ) (hn : n ≤ 512) : Vec F (Sh n 128) .f32 := View.readAt (Elt F) arg14.view (Rect.unit ![0, 0] (Sh n 128).size (inbS n hn) : Rect S512x128).toLoadRect (harg14.unread KS)
/-- A head's factors of 128 queries. -/
def lC (c : FVec F S1x512 .f32) (i : Fin 4) : FVec F S1x128 .f32 := extractStridedSlice S1x128 ![0, 128 * i.val] c (slC i)

variable (v1 : BitVec 32) (c0 c1 c2 : FVec F S1x512 .f32) (vs : FVec F S160x1 .bf16)

/-- A tile over 128 keys. -/
def tOne (i : Fin 4) (h : Fin 3) : FVec F S1x160x128 .bf16 :=
  tTile1 tf1 (lQ harg7 O4 0 i) (lQ harg7 O4 1 i) (lQ harg7 O4 2 i) (lT harg13 KT 128 (by decide)) (lS harg14 KS 128 (by decide)) (lS harg14 KS 128 (by decide)) (lS harg14 KS 128 (by decide))
    (tMask 0#32 (BitVec.ofNat 32 (128 * i.val)) v1) (lC c0 i) (lC c1 i) (lC c2 i) (lV harg11 O8 128 (by decide)) vs h
/-- A tile over `n = a + 128` keys. -/
def tMany (n a : ℕ) (f : TileFacts n) (g : SplitFacts n a) (hn : n ≤ 512) (i : Fin 4) (h : Fin 3) : FVec F S1x160x128 .bf16 :=
  tTile n a f g (lQ harg7 O4 0 i) (lQ harg7 O4 1 i) (lQ harg7 O4 2 i) (lT harg13 KT n hn) (lS harg14 KS n hn) (lS harg14 KS n hn) (lS harg14 KS n hn)
    (tMask (BitVec.ofNat 32 a) (BitVec.ofNat 32 (128 * i.val)) v1) (lC c0 i) (lC c1 i) (lC c2 i) (lV harg11 O8 n hn) vs h
/-- A tile over `128 nk` keys. -/
def tNk (nk : ℕ) (i : Fin 4) (h : Fin 3) : FVec F S1x160x128 .bf16 :=
  match nk with
  | 1 => tOne harg7 harg11 harg13 harg14 O4 O8 KT KS v1 c0 c1 c2 vs i h
  | 2 => tMany harg7 harg11 harg13 harg14 O4 O8 KT KS v1 c0 c1 c2 vs 256 128 tf2 sf2 (by decide) i h
  | 3 => tMany harg7 harg11 harg13 harg14 O4 O8 KT KS v1 c0 c1 c2 vs 384 256 tf3 sf3 (by decide) i h
  | _ => tMany harg7 harg11 harg13 harg14 O4 O8 KT KS v1 c0 c1 c2 vs 512 384 tf4 sf4 (by decide) i h

end Tiles

/-- The store of one tile. -/
def pO (T : Fin 4 → Fin 3 → FVec F S1x160x128 .bf16) (i : Fin 4) (h : Fin 3) : View.Piece (Elt F) S1x480x512 .bf16 :=
  ⟨Rect.unit ![0, 160 * h.val, 128 * i.val] S1x160x128.size (inbO h i), T i h⟩

/-- The stores of the twelve tiles. -/
def pOut (T : Fin 4 → Fin 3 → FVec F S1x160x128 .bf16) : List (View.Piece (Elt F) S1x480x512 .bf16) :=
  [pO T 3 2, pO T 3 1, pO T 3 0, pO T 2 2, pO T 2 1, pO T 2 0, pO T 1 2, pO T 1 1, pO T 1 0, pO T 0 2, pO T 0 1, pO T 0 0]

/-- A block that the point reads whole. -/
def lB {a : Memref sig .tc .vmem S1x160x512 .bf16} (h : a.IsWhole) (x : Vec F S1x160x512 .bf16) : Vec F S1x160x512 .bf16 :=
  View.readAt (Elt F) a.view (Rect.unit ![0, 0, 0] S1x160x512.size inb_S1x160x512_S1x160x512_0_0_0 : Rect S1x160x512).toLoadRect (h.unread x)
theorem inbH (h : Fin 3) : ∀ d : Fin 3, (![0, 160 * h.val, 0] : Fin 3 → ℕ) d + S1x160x512.size d ≤ S1x480x512.size d := by revert h; decide
/-- One head of the query block. -/
def lH {a : Memref sig .tc .vmem S1x480x512 .bf16} (ha : a.IsWhole) (x : Vec F S1x480x512 .bf16) (h : Fin 3) : Vec F S1x160x512 .bf16 :=
  View.readAt (Elt F) a.view (Rect.unit ![0, 160 * h.val, 0] S1x160x512.size (inbH h) : Rect S1x480x512).toLoadRect (ha.unread x)

end Cert.KernelIdeal.Gen

end
-- ==== Proof.Value.Blk1.lean ====
/- The blocks that the run leaves when the prefix reaches 1 of the four key blocks. -/
module

public import proofs.«01_k».proof.Proof.Value.Block
public import proofs.«01_k».proof.Proof.Named.Run1

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- The quantised blocks. -/
theorem runQ_1 (c : Dev nD) (ic : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) :
    (kernelRun0_1 c ic arg3 harg3 arg4 harg4 arg5 harg5 arg6 harg6 arg7 harg7 arg8 harg8 arg9 harg9 arg10 harg10 arg11 harg11 arg12 harg12 arg13 harg13 arg14 harg14 x0 x1 x2 xt0).2.2.1 = oQC (lH harg3 x0 0) (lH harg3 x0 1) (lH harg3 x0 2) ∧ (kernelRun0_1 c ic arg3 harg3 arg4 harg4 arg5 harg5 arg6 harg6 arg7 harg7 arg8 harg8 arg9 harg9 arg10 harg10 arg11 harg11 arg12 harg12 arg13 harg13 arg14 harg14 x0 x1 x2 xt0).2.2.2.1 = oQS (lH harg3 x0 0) (lH harg3 x0 1) (lH harg3 x0 2) ∧ (kernelRun0_1 c ic arg3 harg3 arg4 harg4 arg5 harg5 arg6 harg6 arg7 harg7 arg8 harg8 arg9 harg9 arg10 harg10 arg11 harg11 arg12 harg12 arg13 harg13 arg14 harg14 x0 x1 x2 xt0).2.2.2.2.1 = oKC (lB harg4 x1) ∧ (kernelRun0_1 c ic arg3 harg3 arg4 harg4 arg5 harg5 arg6 harg6 arg7 harg7 arg8 harg8 arg9 harg9 arg10 harg10 arg11 harg11 arg12 harg12 arg13 harg13 arg14 harg14 x0 x1 x2 xt0).2.2.2.2.2.1 = oKS (lB harg4 x1)
      ∧ (kernelRun0_1 c ic arg3 harg3 arg4 harg4 arg5 harg5 arg6 harg6 arg7 harg7 arg8 harg8 arg9 harg9 arg10 harg10 arg11 harg11 arg12 harg12 arg13 harg13 arg14 harg14 x0 x1 x2 xt0).2.2.2.2.2.2.1 = oVC (lB harg5 x2) ∧ (kernelRun0_1 c ic arg3 harg3 arg4 harg4 arg5 harg5 arg6 harg6 arg7 harg7 arg8 harg8 arg9 harg9 arg10 harg10 arg11 harg11 arg12 harg12 arg13 harg13 arg14 harg14 x0 x1 x2 xt0).2.2.2.2.2.2.2.1 = oVS (lB harg5 x2) :=
  ⟨by sl_kernel_rfl, by sl_kernel_rfl, by sl_kernel_rfl, by sl_kernel_rfl, by sl_kernel_rfl, by sl_kernel_rfl⟩

/-- The output's stores. -/
theorem runO_1 (c : Dev nD) (ic : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) :
    (kernelRun0_1 c ic arg3 harg3 arg4 harg4 arg5 harg5 arg6 harg6 arg7 harg7 arg8 harg8 arg9 harg9 arg10 harg10 arg11 harg11 arg12 harg12 arg13 harg13 arg14 harg14 x0 x1 x2 xt0).2.1 = pOut (fun i h => (tNk harg7 harg11 harg13 harg14 (oQC (lH harg3 x0 0) (lH harg3 x0 1) (lH harg3 x0 2)) (oVC (lB harg5 x2)) (kTr (lB harg4 x1)) (kSr (lB harg4 x1)) (kernelRun0_1 c ic arg3 harg3 arg4 harg4 arg5 harg5 arg6 harg6 arg7 harg7 arg8 harg8 arg9 harg9 arg10 harg10 arg11 harg11 arg12 harg12 arg13 harg13 arg14 harg14 x0 x1 x2 xt0).1
      (cQ (lH harg3 x0 0)) (cQ (lH harg3 x0 1)) (cQ (lH harg3 x0 2)) (truncf .bf16 (sV (lB harg5 x2)) bitsLt_bf16_f32) (i.val + 1) i h)) := by sl_kernel_rfl

end Cert.KernelIdeal.Gen

end
-- ==== Proof.Value.Blk2.lean ====
/- The blocks that the run leaves when the prefix reaches 2 of the four key blocks. -/
module

public import proofs.«01_k».proof.Proof.Value.Block
public import proofs.«01_k».proof.Proof.Named.Run2

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- The quantised blocks. -/
theorem runQ_2 (c : Dev nD) (ic : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) :
    (kernelRun0_2 c ic arg3 harg3 arg4 harg4 arg5 harg5 arg6 harg6 arg7 harg7 arg8 harg8 arg9 harg9 arg10 harg10 arg11 harg11 arg12 harg12 arg13 harg13 arg14 harg14 x0 x1 x2 xt0).2.2.1 = oQC (lH harg3 x0 0) (lH harg3 x0 1) (lH harg3 x0 2) ∧ (kernelRun0_2 c ic arg3 harg3 arg4 harg4 arg5 harg5 arg6 harg6 arg7 harg7 arg8 harg8 arg9 harg9 arg10 harg10 arg11 harg11 arg12 harg12 arg13 harg13 arg14 harg14 x0 x1 x2 xt0).2.2.2.1 = oQS (lH harg3 x0 0) (lH harg3 x0 1) (lH harg3 x0 2) ∧ (kernelRun0_2 c ic arg3 harg3 arg4 harg4 arg5 harg5 arg6 harg6 arg7 harg7 arg8 harg8 arg9 harg9 arg10 harg10 arg11 harg11 arg12 harg12 arg13 harg13 arg14 harg14 x0 x1 x2 xt0).2.2.2.2.1 = oKC (lB harg4 x1) ∧ (kernelRun0_2 c ic arg3 harg3 arg4 harg4 arg5 harg5 arg6 harg6 arg7 harg7 arg8 harg8 arg9 harg9 arg10 harg10 arg11 harg11 arg12 harg12 arg13 harg13 arg14 harg14 x0 x1 x2 xt0).2.2.2.2.2.1 = oKS (lB harg4 x1)
      ∧ (kernelRun0_2 c ic arg3 harg3 arg4 harg4 arg5 harg5 arg6 harg6 arg7 harg7 arg8 harg8 arg9 harg9 arg10 harg10 arg11 harg11 arg12 harg12 arg13 harg13 arg14 harg14 x0 x1 x2 xt0).2.2.2.2.2.2.1 = oVC (lB harg5 x2) ∧ (kernelRun0_2 c ic arg3 harg3 arg4 harg4 arg5 harg5 arg6 harg6 arg7 harg7 arg8 harg8 arg9 harg9 arg10 harg10 arg11 harg11 arg12 harg12 arg13 harg13 arg14 harg14 x0 x1 x2 xt0).2.2.2.2.2.2.2.1 = oVS (lB harg5 x2) :=
  ⟨by sl_kernel_rfl, by sl_kernel_rfl, by sl_kernel_rfl, by sl_kernel_rfl, by sl_kernel_rfl, by sl_kernel_rfl⟩

/-- The output's stores. -/
theorem runO_2 (c : Dev nD) (ic : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) :
    (kernelRun0_2 c ic arg3 harg3 arg4 harg4 arg5 harg5 arg6 harg6 arg7 harg7 arg8 harg8 arg9 harg9 arg10 harg10 arg11 harg11 arg12 harg12 arg13 harg13 arg14 harg14 x0 x1 x2 xt0).2.1 = pOut (fun i h => (tNk harg7 harg11 harg13 harg14 (oQC (lH harg3 x0 0) (lH harg3 x0 1) (lH harg3 x0 2)) (oVC (lB harg5 x2)) (kTr (lB harg4 x1)) (kSr (lB harg4 x1)) (kernelRun0_2 c ic arg3 harg3 arg4 harg4 arg5 harg5 arg6 harg6 arg7 harg7 arg8 harg8 arg9 harg9 arg10 harg10 arg11 harg11 arg12 harg12 arg13 harg13 arg14 harg14 x0 x1 x2 xt0).1
      (cQ (lH harg3 x0 0)) (cQ (lH harg3 x0 1)) (cQ (lH harg3 x0 2)) (truncf .bf16 (sV (lB harg5 x2)) bitsLt_bf16_f32) (max (i.val + 1) 2) i h)) := by sl_kernel_rfl

end Cert.KernelIdeal.Gen

end
-- ==== Proof.Value.Blk3.lean ====
/- The blocks that the run leaves when the prefix reaches 3 of the four key blocks. -/
module

public import proofs.«01_k».proof.Proof.Value.Block
public import proofs.«01_k».proof.Proof.Named.Run3

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- The quantised blocks. -/
theorem runQ_3 (c : Dev nD) (ic : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) :
    (kernelRun0_3 c ic arg3 harg3 arg4 harg4 arg5 harg5 arg6 harg6 arg7 harg7 arg8 harg8 arg9 harg9 arg10 harg10 arg11 harg11 arg12 harg12 arg13 harg13 arg14 harg14 x0 x1 x2 xt0).2.2.1 = oQC (lH harg3 x0 0) (lH harg3 x0 1) (lH harg3 x0 2) ∧ (kernelRun0_3 c ic arg3 harg3 arg4 harg4 arg5 harg5 arg6 harg6 arg7 harg7 arg8 harg8 arg9 harg9 arg10 harg10 arg11 harg11 arg12 harg12 arg13 harg13 arg14 harg14 x0 x1 x2 xt0).2.2.2.1 = oQS (lH harg3 x0 0) (lH harg3 x0 1) (lH harg3 x0 2) ∧ (kernelRun0_3 c ic arg3 harg3 arg4 harg4 arg5 harg5 arg6 harg6 arg7 harg7 arg8 harg8 arg9 harg9 arg10 harg10 arg11 harg11 arg12 harg12 arg13 harg13 arg14 harg14 x0 x1 x2 xt0).2.2.2.2.1 = oKC (lB harg4 x1) ∧ (kernelRun0_3 c ic arg3 harg3 arg4 harg4 arg5 harg5 arg6 harg6 arg7 harg7 arg8 harg8 arg9 harg9 arg10 harg10 arg11 harg11 arg12 harg12 arg13 harg13 arg14 harg14 x0 x1 x2 xt0).2.2.2.2.2.1 = oKS (lB harg4 x1)
      ∧ (kernelRun0_3 c ic arg3 harg3 arg4 harg4 arg5 harg5 arg6 harg6 arg7 harg7 arg8 harg8 arg9 harg9 arg10 harg10 arg11 harg11 arg12 harg12 arg13 harg13 arg14 harg14 x0 x1 x2 xt0).2.2.2.2.2.2.1 = oVC (lB harg5 x2) ∧ (kernelRun0_3 c ic arg3 harg3 arg4 harg4 arg5 harg5 arg6 harg6 arg7 harg7 arg8 harg8 arg9 harg9 arg10 harg10 arg11 harg11 arg12 harg12 arg13 harg13 arg14 harg14 x0 x1 x2 xt0).2.2.2.2.2.2.2.1 = oVS (lB harg5 x2) :=
  ⟨by sl_kernel_rfl, by sl_kernel_rfl, by sl_kernel_rfl, by sl_kernel_rfl, by sl_kernel_rfl, by sl_kernel_rfl⟩

/-- The output's stores. -/
theorem runO_3 (c : Dev nD) (ic : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) :
    (kernelRun0_3 c ic arg3 harg3 arg4 harg4 arg5 harg5 arg6 harg6 arg7 harg7 arg8 harg8 arg9 harg9 arg10 harg10 arg11 harg11 arg12 harg12 arg13 harg13 arg14 harg14 x0 x1 x2 xt0).2.1 = pOut (fun i h => (tNk harg7 harg11 harg13 harg14 (oQC (lH harg3 x0 0) (lH harg3 x0 1) (lH harg3 x0 2)) (oVC (lB harg5 x2)) (kTr (lB harg4 x1)) (kSr (lB harg4 x1)) (kernelRun0_3 c ic arg3 harg3 arg4 harg4 arg5 harg5 arg6 harg6 arg7 harg7 arg8 harg8 arg9 harg9 arg10 harg10 arg11 harg11 arg12 harg12 arg13 harg13 arg14 harg14 x0 x1 x2 xt0).1
      (cQ (lH harg3 x0 0)) (cQ (lH harg3 x0 1)) (cQ (lH harg3 x0 2)) (truncf .bf16 (sV (lB harg5 x2)) bitsLt_bf16_f32) (max (i.val + 1) 3) i h)) := by sl_kernel_rfl

end Cert.KernelIdeal.Gen

end
-- ==== Proof.Value.Blk4.lean ====
/- The blocks that the run leaves when the prefix reaches 4 of the four key blocks. -/
module

public import proofs.«01_k».proof.Proof.Value.Block
public import proofs.«01_k».proof.Proof.Named.Run4

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- The quantised blocks. -/
theorem runQ_4 (c : Dev nD) (ic : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) :
    (kernelRun0_4 c ic arg3 harg3 arg4 harg4 arg5 harg5 arg6 harg6 arg7 harg7 arg8 harg8 arg9 harg9 arg10 harg10 arg11 harg11 arg12 harg12 arg13 harg13 arg14 harg14 x0 x1 x2 xt0).2.2.1 = oQC (lH harg3 x0 0) (lH harg3 x0 1) (lH harg3 x0 2) ∧ (kernelRun0_4 c ic arg3 harg3 arg4 harg4 arg5 harg5 arg6 harg6 arg7 harg7 arg8 harg8 arg9 harg9 arg10 harg10 arg11 harg11 arg12 harg12 arg13 harg13 arg14 harg14 x0 x1 x2 xt0).2.2.2.1 = oQS (lH harg3 x0 0) (lH harg3 x0 1) (lH harg3 x0 2) ∧ (kernelRun0_4 c ic arg3 harg3 arg4 harg4 arg5 harg5 arg6 harg6 arg7 harg7 arg8 harg8 arg9 harg9 arg10 harg10 arg11 harg11 arg12 harg12 arg13 harg13 arg14 harg14 x0 x1 x2 xt0).2.2.2.2.1 = oKC (lB harg4 x1) ∧ (kernelRun0_4 c ic arg3 harg3 arg4 harg4 arg5 harg5 arg6 harg6 arg7 harg7 arg8 harg8 arg9 harg9 arg10 harg10 arg11 harg11 arg12 harg12 arg13 harg13 arg14 harg14 x0 x1 x2 xt0).2.2.2.2.2.1 = oKS (lB harg4 x1)
      ∧ (kernelRun0_4 c ic arg3 harg3 arg4 harg4 arg5 harg5 arg6 harg6 arg7 harg7 arg8 harg8 arg9 harg9 arg10 harg10 arg11 harg11 arg12 harg12 arg13 harg13 arg14 harg14 x0 x1 x2 xt0).2.2.2.2.2.2.1 = oVC (lB harg5 x2) ∧ (kernelRun0_4 c ic arg3 harg3 arg4 harg4 arg5 harg5 arg6 harg6 arg7 harg7 arg8 harg8 arg9 harg9 arg10 harg10 arg11 harg11 arg12 harg12 arg13 harg13 arg14 harg14 x0 x1 x2 xt0).2.2.2.2.2.2.2.1 = oVS (lB harg5 x2) :=
  ⟨by sl_kernel_rfl, by sl_kernel_rfl, by sl_kernel_rfl, by sl_kernel_rfl, by sl_kernel_rfl, by sl_kernel_rfl⟩

/-- The output's stores. -/
theorem runO_4 (c : Dev nD) (ic : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec F S1x480x512 .bf16) (x1 : Vec F S1x160x512 .bf16) (x2 : Vec F S1x160x512 .bf16) (xt0 : TbBuf0 (F := F) c tbM0_0) :
    (kernelRun0_4 c ic arg3 harg3 arg4 harg4 arg5 harg5 arg6 harg6 arg7 harg7 arg8 harg8 arg9 harg9 arg10 harg10 arg11 harg11 arg12 harg12 arg13 harg13 arg14 harg14 x0 x1 x2 xt0).2.1 = pOut (fun i h => (tNk harg7 harg11 harg13 harg14 (oQC (lH harg3 x0 0) (lH harg3 x0 1) (lH harg3 x0 2)) (oVC (lB harg5 x2)) (kTr (lB harg4 x1)) (kSr (lB harg4 x1)) (kernelRun0_4 c ic arg3 harg3 arg4 harg4 arg5 harg5 arg6 harg6 arg7 harg7 arg8 harg8 arg9 harg9 arg10 harg10 arg11 harg11 arg12 harg12 arg13 harg13 arg14 harg14 x0 x1 x2 xt0).1
      (cQ (lH harg3 x0 0)) (cQ (lH harg3 x0 1)) (cQ (lH harg3 x0 2)) (truncf .bf16 (sV (lB harg5 x2)) bitsLt_bf16_f32) 4 i h)) := by sl_kernel_rfl

end Cert.KernelIdeal.Gen

end
-- ==== Proof.Value.Spec.lean ====
/- The numbers that the claim is about: the quantiser's codes and scales over the reals, and the attention over them. -/
module

public import proofs.«01_k».proof.Proof.Value.QuantTile
public import proofs.«01_k».proof.Proof.Value.Attend
public import proofs.«01_k».proof.Proof.Value.TileAll
public import Idealize.ShloMosaic.Lib.Pointwise

@[expose] public section

noncomputable section

namespace Cert.Spec

open Idealize.ShloMosaic
open Cert.KernelIdeal.Gen (tq xp cq cR bmax tq_real vis cq_coe)
open Cert.Att (msk refOf)

/-- The largest magnitude over 448. -/
def TT {ι : Type} [Fintype ι] (a : ι → ℝ) : ℝ := (tq (fun i => (a i : EReal))).toReal

/-- The scale's exponent. -/
def sc {ι : Type} [Fintype ι] (a : ι → ℝ) : ℤ := xp (TT a)

/-- The codes. -/
def cd {ι : Type} [Fintype ι] (a : ι → ℝ) (i : ι) : ℝ := cR (a i) ((2 : ℝ) ^ (-(sc a)))

theorem tq_eq {ι : Type} [Fintype ι] [Nonempty ι] (a : ι → ℝ) (h : ∀ i, |a i| ≤ bmax) :
    tq (fun i => (a i : EReal)) = ((TT a : ℝ) : EReal) ∧ TT a < (2 : ℝ) ^ (120 : ℤ) := by
  obtain ⟨T, hT, -, hT2⟩ := tq_real a h
  have : TT a = T := by unfold TT; rw [hT]; rfl
  exact ⟨by rw [hT, this], this ▸ hT2⟩

theorem cq_eq {ι : Type} [Fintype ι] (a : ι → ℝ) (i : ι) : cq (a i : EReal) (((2 : ℝ) ^ (-(sc a)) : ℝ) : EReal) = ((cd a i : ℝ) : EReal) := cq_coe _ _

/-- The score of a query and a key. -/
def score (q k : Fin 160 → ℝ) : ℝ := ((∑ e, cd k e * cd q e) * (2 : ℝ) ^ sc q * (2 : ℝ) ^ sc k) * (1 / √160)

/-- The output number. -/
def attn (v1 : BitVec 32) (s : ℕ) (q : Fin 160 → ℝ) (k : Fin 512 → Fin 160 → ℝ) (v : Fin 512 → ℝ) : EReal :=
  refOf (fun j : Fin 512 => msk (vis v1 s j) (score q (k j))) (fun j => ((cd v j : ℝ) : EReal)) (((2 : ℝ) ^ sc v : ℝ) : EReal)

/-- A query head's channels at a row, -/
def qv (x : (⟨3, ![4, 512, 2880]⟩ : Shape).Idx → ℝ) (b : Fin 4) (s : Fin 512) (h : Fin 18) : Fin 160 → ℝ := fun d => x (ix3 b s ⟨h * 160 + d, by omega⟩)
/-- a key head's, -/
def kv (x : (⟨3, ![4, 512, 960]⟩ : Shape).Idx → ℝ) (b : Fin 4) (s : Fin 512) (g : Fin 6) : Fin 160 → ℝ := fun d => x (ix3 b s ⟨g * 160 + d, by omega⟩)
/-- and a value channel down the rows. -/
def vv (x : (⟨3, ![4, 512, 960]⟩ : Shape).Idx → ℝ) (b : Fin 4) (g : Fin 6) (d : Fin 160) : Fin 512 → ℝ := fun s => x (ix3 b s ⟨g * 160 + d, by omega⟩)

end Cert.Spec

end
-- ==== Proof.Value.Codes.lean ====
/- The quantised blocks that a grid point leaves, over the reals. -/
module

public import proofs.«01_k».proof.Proof.Value.Block
public import proofs.«01_k».proof.Proof.Value.Spec
public import Idealize.ShloMosaic.Lib.Pipeline.Value
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Cert.Spec

/-- A block holds the given real numbers, of the stated size. -/
structure Blk (y : Vec Ideal S1x160x512 .bf16) (a : Fin 160 → Fin 512 → ℝ) : Prop where
  val : ∀ d s, y (ix3 0 d s) = ((a d s : ℝ) : EReal)
  bnd : ∀ d s, |a d s| ≤ bmax

variable {y : Vec Ideal S1x160x512 .bf16} {a : Fin 160 → Fin 512 → ℝ}

/-- The matrix's entries. -/
theorem mX_eq (H : Blk y a) (d : Fin 160) (s : Fin 512) : mX y (ix2 d s) = ((a d s : ℝ) : EReal) := by
  rw [← H.val d s]
  pointwise [mX]

/-- The columns' magnitudes, -/
theorem kT_eq (H : Blk y a) (s : Fin 512) : kT (mX y) (ix2 0 s) = ((TT (fun d => a d s) : ℝ) : EReal) := by
  rw [kT_apply, ← (tq_eq (fun d => a d s) fun d => H.bnd d s).1]
  exact congrArg tq (funext fun d => mX_eq H d s)
/-- and the rows'. -/
theorem vT_eq (H : Blk y a) (d : Fin 160) : vT (mX y) (ix2 d 0) = ((TT (a d) : ℝ) : EReal) := by
  rw [vT_apply, ← (tq_eq (a d) fun s => H.bnd d s).1]
  exact congrArg tq (funext fun s => mX_eq H d s)

/-- The columns' scales, -/
theorem sK_eq (H : Blk y a) (s : Fin 512) : sK y (ix2 0 s) = (((2 : ℝ) ^ sc (fun d => a d s) : ℝ) : EReal) := by
  unfold sK
  rw [qScale_apply, kT_eq H, scale_eq (tq_eq (fun d => a d s) fun d => H.bnd d s).2]; rfl
/-- and the rows'. -/
theorem sV_eq (H : Blk y a) (d : Fin 160) : sV y (ix2 d 0) = (((2 : ℝ) ^ sc (a d) : ℝ) : EReal) := by
  unfold sV
  rw [qScale_apply, vT_eq H, scale_eq (tq_eq (a d) fun s => H.bnd d s).2]; rfl

/-- The columns' codes, -/
theorem kC_eq (H : Blk y a) (d : Fin 160) (s : Fin 512) : kC (mX y) (kT (mX y)) (ix2 d s) = ((cd (fun d => a d s) d : ℝ) : EReal) := by
  rw [kC_apply, qInv_apply, kT_eq H, inv_eq (tq_eq (fun d => a d s) fun d => H.bnd d s).2, mX_eq H]
  exact cq_eq (fun d => a d s) d
/-- and the rows'. -/
theorem vC_eq (H : Blk y a) (d : Fin 160) (s : Fin 512) : vC (mX y) (vT (mX y)) (ix2 d s) = ((cd (a d) s : ℝ) : EReal) := by
  rw [vC_apply, qInv_apply, vT_eq H, inv_eq (tq_eq (a d) fun s => H.bnd d s).2, mX_eq H]
  exact cq_eq (a d) s

/-- The stored forms: the codes, -/
theorem pQ_eq (H : Blk y a) (d : Fin 160) (s : Fin 512) : pQ y (ix4 0 0 d s) = ((cd (fun d => a d s) d : ℝ) : EReal) := by
  rw [← kC_eq H d s]
  unfold pQ
  generalize kC (mX y) (kT (mX y)) = z
  pointwise
/-- the scales, -/
theorem pS_eq (H : Blk y a) (s : Fin 512) : pS y (ix4 0 0 0 s) = (((2 : ℝ) ^ sc (fun d => a d s) : ℝ) : EReal) := by
  rw [← sK_eq H s]
  unfold pS
  generalize sK y = z
  pointwise

/-- The key codes, -/
theorem oKC_eq (H : Blk y a) (d : Fin 160) (s : Fin 512) : oKC y (ix4 0 0 d s) = ((cd (fun d => a d s) d : ℝ) : EReal) := by
  unfold oKC
  rw [View.canon_unit_zero (by decide)]
  exact pQ_eq H d s
/-- the key scales, -/
theorem oKS_eq (H : Blk y a) (s : Fin 512) : oKS y (ix4 0 0 0 s) = (((2 : ℝ) ^ sc (fun d => a d s) : ℝ) : EReal) := by
  unfold oKS
  rw [View.canon_unit_zero (by decide)]
  exact pS_eq H s
/-- the value codes, -/
theorem oVC_eq (H : Blk y a) (d : Fin 160) (s : Fin 512) : oVC y (ix4 0 0 d s) = ((cd (a d) s : ℝ) : EReal) := by
  unfold oVC
  rw [View.canon_unit_zero (by decide), ← vC_eq H d s]
  generalize vC (mX y) (vT (mX y)) = z
  pointwise
/-- the value scales, -/
theorem oVS_eq (H : Blk y a) (d : Fin 160) : oVS y (ix4 0 0 d 0) = (((2 : ℝ) ^ sc (a d) : ℝ) : EReal) := by
  unfold oVS
  rw [View.canon_unit_zero (by decide), ← sV_eq H d]
  generalize sV y = z
  pointwise
/-- and the key codes transposed. -/
theorem kTr_eq (H : Blk y a) (d : Fin 160) (s : Fin 512) : kTr y (ix2 s d) = ((cd (fun d => a d s) d : ℝ) : EReal) := by
  unfold kTr
  rw [View.canon_unit_zero (by decide), ← kC_eq H d s]
  generalize kC (mX y) (kT (mX y)) = z
  pointwise
/-- 128 of the key scales. -/
theorem ksB_eq (H : Blk y a) (off : ℕ) (h : S1x512.Slices ![0, off] S1x128) (j t : Fin 128) (s : Fin 512) (hs : s.val = off + j.val) :
    ksB y off h (ix2 j t) = (((2 : ℝ) ^ sc (fun d => a d s) : ℝ) : EReal) := by
  rw [← sK_eq H s]
  unfold ksB
  generalize sK y = z
  pointwise
  exact congrArg z (congrArg (ix2 0) (Fin.ext hs.symm))

variable {ys : Fin 3 → Vec Ideal S1x160x512 .bf16} {b : Fin 3 → Fin 160 → Fin 512 → ℝ}

/-- The query codes. -/
theorem oQC_eq (H : ∀ h, Blk (ys h) (b h)) (h : Fin 3) (d : Fin 160) (s : Fin 512) :
    oQC (ys 0) (ys 1) (ys 2) (ix4 0 h d s) = ((cd (fun d => b h d s) d : ℝ) : EReal) := by
  let G : S1x3x160x512.Idx → EReal := fun i => ((cd (fun d => b (i 1) d (i 3)) (i 2) : ℝ) : EReal)
  have key : ∀ (k : Fin 3) (inb) (x : S1x1x160x512.Idx), pQ (ys k) x = G ((Rect.unit ![0, k.val, 0, 0] S1x1x160x512.size inb : Rect S1x3x160x512).emb x) := by
    intro k inb x
    obtain ⟨p, q, d, s, rfl⟩ : ∃ p q d s, x = ix4 p q d s := ⟨x 0, x 1, x 2, x 3, eq_ix4 x⟩
    obtain rfl : p = 0 := Subsingleton.elim _ _
    obtain rfl : q = 0 := Subsingleton.elim _ _
    have e1 : ((Rect.unit ![0, k.val, 0, 0] S1x1x160x512.size inb : Rect S1x3x160x512).emb (ix4 0 0 d s : S1x1x160x512.Idx)) = ix4 0 k d s := by
      funext c
      match c with
      | 0 => exact Fin.ext rfl
      | 1 => exact Fin.ext (by rw [Rect.emb_apply]; exact (Nat.add_zero k.val))
      | 2 => exact Fin.ext (by rw [Rect.emb_apply]; exact (Nat.zero_add _).trans (Nat.one_mul _))
      | 3 => exact Fin.ext (by rw [Rect.emb_apply]; exact (Nat.zero_add _).trans (Nat.one_mul _))
    rw [pQ_eq (H k), e1]; rfl
  unfold oQC
  refine View.canon_apply_of_pieces (Val := Elt Ideal) (S := S1x3x160x512) (e := .fp8e4m3) G _ ?_ _ (View.cover_of_tiledL (Val := Elt Ideal) (s := S1x3x160x512) (e := .fp8e4m3) _ S1x1x160x512.size (by sl_kernel_rfl) _)
  intro p hp
  simp only [List.mem_cons, List.not_mem_nil, or_false] at hp
  rcases hp with rfl | rfl | rfl
  · exact key 2 inb_S1x3x160x512_S1x1x160x512_0_2_0_0
  · exact key 1 inb_S1x3x160x512_S1x1x160x512_0_1_0_0
  · exact key 0 inb_S1x3x160x512_S1x1x160x512_0_0_0_0

/-- The query scales. -/
theorem oQS_eq (H : ∀ h, Blk (ys h) (b h)) (h : Fin 3) (s : Fin 512) :
    oQS (ys 0) (ys 1) (ys 2) (ix4 0 h 0 s) = (((2 : ℝ) ^ sc (fun d => b h d s) : ℝ) : EReal) := by
  let G : S1x3x1x512.Idx → EReal := fun i => (((2 : ℝ) ^ sc (fun d => b (i 1) d (i 3)) : ℝ) : EReal)
  have key : ∀ (k : Fin 3) (inb) (x : S1x1x1x512.Idx), pS (ys k) x = G ((Rect.unit ![0, k.val, 0, 0] S1x1x1x512.size inb : Rect S1x3x1x512).emb x) := by
    intro k inb x
    obtain ⟨p, q, d, s, rfl⟩ : ∃ p q d s, x = ix4 p q d s := ⟨x 0, x 1, x 2, x 3, eq_ix4 x⟩
    obtain rfl : p = 0 := Subsingleton.elim _ _
    obtain rfl : q = 0 := Subsingleton.elim _ _
    obtain rfl : d = 0 := Subsingleton.elim _ _
    have e1 : ((Rect.unit ![0, k.val, 0, 0] S1x1x1x512.size inb : Rect S1x3x1x512).emb (ix4 0 0 0 s : S1x1x1x512.Idx)) = ix4 0 k 0 s := by
      funext c
      match c with
      | 0 => exact Fin.ext rfl
      | 1 => exact Fin.ext (by rw [Rect.emb_apply]; exact (Nat.add_zero k.val))
      | 2 => exact Fin.ext rfl
      | 3 => exact Fin.ext (by rw [Rect.emb_apply]; exact (Nat.zero_add _).trans (Nat.one_mul _))
    rw [pS_eq (H k), e1]; rfl
  unfold oQS
  refine View.canon_apply_of_pieces (Val := Elt Ideal) (S := S1x3x1x512) (e := .f32) G _ ?_ _ (View.cover_of_tiledL (Val := Elt Ideal) (s := S1x3x1x512) (e := .f32) _ S1x1x1x512.size (by sl_kernel_rfl) _)
  intro p hp
  simp only [List.mem_cons, List.not_mem_nil, or_false] at hp
  rcases hp with rfl | rfl | rfl
  · exact key 2 inb_S1x3x1x512_S1x1x1x512_0_2_0_0
  · exact key 1 inb_S1x3x1x512_S1x1x1x512_0_1_0_0
  · exact key 0 inb_S1x3x1x512_S1x1x1x512_0_0_0_0

/-- The key scales, one row each. -/
theorem kSr_eq (H : Blk y a) (j : Fin 512) (t : Fin 128) : kSr y (ix2 j t) = (((2 : ℝ) ^ sc (fun d => a d j) : ℝ) : EReal) := by
  let G : S512x128.Idx → EReal := fun i => (((2 : ℝ) ^ sc (fun d => a d (i 0)) : ℝ) : EReal)
  have key : ∀ (off : ℕ) (h) (inb) (x : S128x128.Idx), ksB y off h x = G ((Rect.unit ![off, 0] S128x128.size inb : Rect S512x128).emb x) := by
    intro off h inb x
    obtain ⟨p, q, rfl⟩ : ∃ p q, x = ix2 p q := ⟨x 0, x 1, eq_ix2 x⟩
    refine ksB_eq H off h p q _ ?_
    rw [Rect.emb_apply]
    exact congrArg (off + ·) (Nat.one_mul p.val)
  unfold kSr
  refine View.canon_apply_of_pieces (Val := Elt Ideal) (S := S512x128) (e := .f32) G _ ?_ _ (View.cover_of_tiledL (Val := Elt Ideal) (s := S512x128) (e := .f32) _ S128x128.size (by sl_kernel_rfl) _)
  intro p hp
  simp only [List.mem_cons, List.not_mem_nil, or_false] at hp
  rcases hp with rfl | rfl | rfl | rfl
  · exact key 384 slices_S1x512_o0_384_S1x128 inb_S512x128_S128x128_384_0
  · exact key 256 slices_S1x512_o0_256_S1x128 inb_S512x128_S128x128_256_0
  · exact key 128 slices_S1x512_o0_128_S1x128 inb_S512x128_S128x128_128_0
  · exact key 0 slices_S1x512_o0_0_S1x128 inb_S512x128_S128x128_0_0

/-- The twelve tiles put together. -/
theorem pOut_eq (T : Fin 4 → Fin 3 → FVec Ideal S1x160x128 .bf16) (i : Fin 4) (h : Fin 3) (d : Fin 160) (t : Fin 128) :
    View.canon (pOut T) (ix3 0 ⟨160 * h.val + d.val, by omega⟩ ⟨128 * i.val + t.val, by omega⟩ : S1x480x512.Idx) = T i h (ix3 0 d t) := by
  let G : S1x480x512.Idx → EReal := fun y => T ⟨(y 2).val / 128, by have : (y 2).val < 512 := (y 2).isLt; omega⟩ ⟨(y 1).val / 160, by have : (y 1).val < 480 := (y 1).isLt; omega⟩
    (ix3 0 ⟨(y 1).val % 160, Nat.mod_lt _ (by decide)⟩ ⟨(y 2).val % 128, Nat.mod_lt _ (by decide)⟩)
  have hG : ∀ (i : Fin 4) (h : Fin 3) (d : Fin 160) (t : Fin 128) (h1 : 160 * h.val + d.val < 480) (h2 : 128 * i.val + t.val < 512), G (ix3 0 ⟨160 * h.val + d.val, h1⟩ ⟨128 * i.val + t.val, h2⟩) = T i h (ix3 0 d t) := by
    intro i h d t h1 h2
    have f1 : (⟨(128 * i.val + t.val) / 128, by omega⟩ : Fin 4) = i := Fin.ext (by simp only; omega)
    have f2 : (⟨(160 * h.val + d.val) / 160, by omega⟩ : Fin 3) = h := Fin.ext (by simp only; omega)
    have f3 : (⟨(160 * h.val + d.val) % 160, Nat.mod_lt _ (by decide)⟩ : Fin 160) = d := Fin.ext (by simp only; omega)
    have f4 : (⟨(128 * i.val + t.val) % 128, Nat.mod_lt _ (by decide)⟩ : Fin 128) = t := Fin.ext (by simp only; omega)
    show T ⟨(128 * i.val + t.val) / 128, _⟩ ⟨(160 * h.val + d.val) / 160, _⟩ (ix3 0 ⟨(160 * h.val + d.val) % 160, _⟩ ⟨(128 * i.val + t.val) % 128, _⟩) = _
    rw [f1, f2, f3, f4]
  have key : ∀ (i : Fin 4) (h : Fin 3) (x : S1x160x128.Idx), T i h x = G ((Rect.unit ![0, 160 * h.val, 128 * i.val] S1x160x128.size (inbO h i) : Rect S1x480x512).emb x) := by
    intro i h x
    obtain ⟨p, d, t, rfl⟩ : ∃ p d t, x = ix3 p d t := ⟨x 0, x 1, x 2, eq_ix3 x⟩
    obtain rfl : p = 0 := Subsingleton.elim _ _
    rw [← hG i h d t (by omega) (by omega)]
    refine congrArg G (funext fun c => ?_)
    match c with
    | 0 => exact Fin.ext rfl
    | 1 => exact Fin.ext (by rw [Rect.emb_apply]; exact congrArg (160 * h.val + ·) (Nat.one_mul d.val).symm)
    | 2 => exact Fin.ext (by rw [Rect.emb_apply]; exact congrArg (128 * i.val + ·) (Nat.one_mul t.val).symm)
  rw [← hG i h d t (by omega) (by omega)]
  refine View.canon_apply_of_pieces (Val := Elt Ideal) (S := S1x480x512) (e := .bf16) G _ ?_ _ (View.cover_of_tiledL (Val := Elt Ideal) (s := S1x480x512) (e := .bf16) _ S1x160x128.size (by sl_kernel_rfl) _)
  intro p hp
  simp only [pOut, List.mem_cons, List.not_mem_nil, or_false] at hp
  rcases hp with rfl | rfl | rfl | rfl | rfl | rfl | rfl | rfl | rfl | rfl | rfl | rfl <;> exact key _ _

/-- A block read whole is the block, -/
theorem lB_eq {r : Memref sig .tc .vmem S1x160x512 .bf16} (hr : r.IsWhole) (x : Vec Ideal S1x160x512 .bf16) : lB hr x = x := by
  funext i
  unfold lB
  rw [Memref.IsWhole.readAt_unread]
  refine congrArg x (funext fun c => Fin.ext ?_)
  match c with
  | 0 => exact (Nat.zero_add _).trans (Nat.one_mul _)
  | 1 => exact (Nat.zero_add _).trans (Nat.one_mul _)
  | 2 => exact (Nat.zero_add _).trans (Nat.one_mul _)
/-- and one head of it is its rows. -/
theorem lH_apply {r : Memref sig .tc .vmem S1x480x512 .bf16} (hr : r.IsWhole) (x : Vec Ideal S1x480x512 .bf16) (h : Fin 3) (d : Fin 160) (s : Fin 512) :
    lH hr x h (ix3 0 d s) = x (ix3 0 ⟨160 * h.val + d.val, by omega⟩ s) := by
  unfold lH
  rw [Memref.IsWhole.readAt_unread]
  refine congrArg x (funext fun c => Fin.ext ?_)
  match c with
  | 0 => rfl
  | 1 => exact congrArg (160 * h.val + ·) (Nat.one_mul d.val)
  | 2 => exact (Nat.zero_add _).trans (Nat.one_mul _)

end Cert.KernelIdeal.Gen

end
-- ==== Proof.Value.Floor.lean ====
/- The number of key blocks the prefix reaches is its length over 128, rounded up, and clipped to 1 … 4. -/
module

public import proofs.«01_k».proof.Proof.Value.Word

@[expose] public section

namespace Cert.KernelIdeal.Gen

open Idealize.ShloMosaic

/-- The kernel's floor division by 128: the truncating one, less one when the number is not positive and not a multiple. -/
theorem floor_div (w : BitVec 32) :
    (Scalar.select (Scalar.andi (Scalar.cmpi .ne (Scalar.subi (Scalar.extui (Scalar.cmpi .sgt w 0#32)) (Scalar.extui (Scalar.cmpi .slt w 0#32)) : BitVec 32)
        (Scalar.subi (Scalar.extui (Scalar.cmpi .sgt 128#32 0#32)) (Scalar.extui (Scalar.cmpi .slt 128#32 0#32)))) (Scalar.cmpi .ne (Scalar.remsi w 128#32) 0#32))
      (Scalar.subi (Scalar.divsi w 128#32) 1#32) (Scalar.divsi w 128#32)).toInt = w.toInt / 128 := by
  have hd : Scalar.divsi w 128#32 = w.sdiv 128#32 := by
    simp [Scalar.divsi, IntOp.divsi, IntOp.SDivCorner]
  have hr : Scalar.remsi w 128#32 = w.srem 128#32 := by
    simp [Scalar.remsi, IntOp.remsi, IntOp.SDivCorner]
  have h128 : (128#32).toInt = 128 := by decide
  have hq : (w.sdiv 128#32).toInt = w.toInt.tdiv 128 := by
    rw [BitVec.toInt_sdiv_of_ne_or_ne _ _ (Or.inr (by decide)), h128]
  have hm : (w.srem 128#32).toInt = w.toInt.tmod 128 := by
    rw [BitVec.toInt_srem, h128]
  have hlo := BitVec.le_toInt w
  have hhi := BitVec.toInt_lt (x := w)
  rw [hd, hr]
  have hpos : 0 < w.toInt → w.toInt.tdiv 128 = w.toInt / 128 := fun h => Int.tdiv_eq_ediv_of_nonneg (by omega)
  have hneg : w.toInt ≤ 0 → w.toInt.tdiv 128 = -((-w.toInt) / 128) ∧ w.toInt.tmod 128 = -((-w.toInt) % 128) := fun h => by
    obtain ⟨n, hn⟩ : ∃ n : ℤ, w.toInt = -n := ⟨-w.toInt, by omega⟩
    rw [hn, Int.neg_tdiv, Int.neg_tmod, Int.tdiv_eq_ediv_of_nonneg (by omega), Int.tmod_eq_emod_of_nonneg (by omega), neg_neg]
    exact ⟨rfl, rfl⟩
  generalize hQ : w.sdiv 128#32 = Q at *
  generalize hR : w.srem 128#32 = R at *
  have c1 : (Scalar.subi (Scalar.extui (Scalar.cmpi .sgt 128#32 0#32)) (Scalar.extui (Scalar.cmpi .slt 128#32 0#32)) : BitVec 32) = 1#32 := by decide
  have c2 : (Scalar.subi (Scalar.extui (Scalar.cmpi .sgt w 0#32)) (Scalar.extui (Scalar.cmpi .slt w 0#32)) : BitVec 32)
      = if 0 < w.toInt then 1#32 else if w.toInt < 0 then 4294967295#32 else 0#32 := by
    show (BitVec.zeroExtend 32 (BitVec.ofBool (decide ((0#32).toInt < w.toInt))) - BitVec.zeroExtend 32 (BitVec.ofBool (decide (w.toInt < (0#32).toInt))) : BitVec 32) = _
    have h0 : (0#32).toInt = 0 := by decide
    rw [h0]
    by_cases h1 : 0 < w.toInt
    · have h2 : ¬ w.toInt < 0 := by omega
      simp [h1, h2]
    · by_cases h2 : w.toInt < 0 <;> simp [h1, h2]
  have c3 : Scalar.cmpi .ne R 0#32 = BitVec.ofBool (decide (R ≠ 0#32)) := by
    show BitVec.ofBool (R != 0#32) = _
    by_cases h : R = 0#32
    · subst h; decide
    · rw [bne, beq_false_of_ne h]; simp [h]
  have hR0 : R = 0#32 ↔ w.toInt.tmod 128 = 0 := by
    rw [← BitVec.toInt_inj, hm]; rfl
  rw [c1, c2, c3]
  have hsub : w.toInt ≤ 0 → (Q - 1#32).toInt = Q.toInt - 1 := fun h => by
    rw [BitVec.toInt_sub]
    have h1 : (1#32).toInt = 1 := by decide
    have h2 := (hneg h).1
    rw [h1, hq, Int.bmod_def]
    split <;> omega
  by_cases h1 : 0 < w.toInt
  · rw [if_pos h1]
    have : Scalar.andi (Scalar.cmpi .ne 1#32 1#32) (BitVec.ofBool (decide (R ≠ 0#32))) = 0#1 := by
      show (BitVec.ofBool ((1#32) != 1#32)) &&& _ = 0#1
      simp
    rw [this]
    show Q.toInt = _
    rw [hq]; exact hpos h1
  · rw [if_neg h1]
    have : Scalar.andi (Scalar.cmpi .ne (if w.toInt < 0 then 4294967295#32 else 0#32) 1#32) (BitVec.ofBool (decide (R ≠ 0#32))) = BitVec.ofBool (decide (R ≠ 0#32)) := by
      show (BitVec.ofBool ((if w.toInt < 0 then 4294967295#32 else 0#32) != 1#32)) &&& _ = _
      generalize (decide (R ≠ 0#32)) = bb
      split <;> cases bb <;> decide
    rw [this]
    by_cases h2 : R = 0#32
    · have h3 := hR0.1 h2
      simp only [h2]
      show Q.toInt = _
      have h4 := hneg (by omega)
      rw [hq]; omega
    · have h3 : ¬ w.toInt.tmod 128 = 0 := fun h => h2 (hR0.2 h)
      simp only [ne_eq, h2, not_false_eq_true, decide_true]
      show (Q - 1#32).toInt = _
      have h4 := hneg (by omega)
      rw [hsub (by omega), hq]; omega

/-- The number of key blocks the prefix reaches, unclipped. -/
theorem rawReach_toInt (v1 : BitVec 32) (h : v1.toInt ≤ 2147483520) : (rawReach v1).toInt = (v1.toInt + 127) / 128 := by
  unfold rawReach
  refine (floor_div _).trans ?_
  congr 1
  have hlo := BitVec.le_toInt v1
  show (v1 + 128#32 - 1#32).toInt = _
  have h1 : (1#32).toInt = 1 := by decide
  have h2 : (128#32).toInt = 128 := by decide
  rw [BitVec.toInt_sub, BitVec.toInt_add, h1, h2, Int.bmod_def, Int.bmod_def]
  split <;> split <;> omega

/-- When the clipped number is `J`: a prefix beyond `128·J` only if `J` is 4, and beyond `128·(J - 1)` if `J` is more than 1. -/
theorem reach_bounds (v1 : BitVec 32) (h : v1.toInt ≤ 2147483520) (J : ℕ) (hJ : J ≤ 4) (hr : reach v1 = BitVec.ofNat 32 J) :
    (J < 4 → v1.toInt ≤ 128 * J) ∧ (1 < J → 128 * (J - 1 : ℤ) < v1.toInt) := by
  have h1 : (reach v1).toInt = J := by
    rw [hr, BitVec.toInt_eq_toNat_of_lt (by rw [BitVec.toNat_ofNat]; omega), BitVec.toNat_ofNat]
    congr 1; omega
  rw [reach_toInt, rawReach_toInt v1 h] at h1
  omega

end Cert.KernelIdeal.Gen
-- ==== Proof.Value.TileEq.lean ====
/- Each output tile holds the plain attention numbers of its queries. -/
module

public import proofs.«01_k».proof.Proof.Value.Codes
public import proofs.«01_k».proof.Proof.Value.Floor

@[expose] public section

set_option maxRecDepth 16384

noncomputable section

namespace Cert.KernelIdeal.Gen

open Idealize.ShloMosaic Idealize.ShloMosaic.TcCoe Idealize.ShloMosaic.Tactic
open Cert.Spec Cert.Att

/-- The constant of the scores. -/
def kap : ℝ := (√160)⁻¹ * (Real.log 2)⁻¹

/-- A key's accumulated score times its scale. -/
def zz (q : Fin 160 → ℝ) (k : Fin 512 → Fin 160 → ℝ) (j : Fin 512) : ℝ := (∑ e, cd (k j) e * cd q e) * (2 : ℝ) ^ sc (k j)

/-- The number with a bound on the keys is the number over all keys when no later key is visible. -/
theorem att_all (n : ℕ) (hn : n ≤ 512) (hp : 0 < n) (v1 : BitVec 32) (s : ℕ) (hv : ∀ j, n ≤ j → j < 512 → ¬ vis v1 s j)
    (q : Fin 160 → ℝ) (k : Fin 512 → Fin 160 → ℝ) (v : Fin 512 → ℝ) :
    attOf (fun j : Fin n => if vis v1 s j then ((zz q k ⟨j, by omega⟩ : ℝ) : EReal) else ⊥) (((2 : ℝ) ^ sc q * kap : ℝ) : EReal)
      (fun j : Fin n => ((cd v ⟨j, by omega⟩ : ℝ) : EReal)) (((2 : ℝ) ^ sc v : ℝ) : EReal) = attn v1 s q k v := by
  let K : ℕ → Fin 512 := fun j => ⟨min j 511, by omega⟩
  have hK : ∀ (j : ℕ) (hj : j < 512), K j = ⟨j, hj⟩ := fun j hj => Fin.ext (by show min j 511 = j; omega)
  have hl : Real.log 2 ≠ 0 := (Real.log_pos (by norm_num)).ne'
  have h2 : ∀ j : Fin 512, score q (k j) = zz q k j * ((2 : ℝ) ^ sc q * kap * Real.log 2) := fun j => by
    unfold score zz kap
    rw [show (2 : ℝ) ^ sc q * ((√160)⁻¹ * (Real.log 2)⁻¹) * Real.log 2 = (2 : ℝ) ^ sc q * (√160)⁻¹ by field_simp]
    ring
  have key := att_eq_ref hn (fun j => zz q k (K j)) (fun j => score q (k (K j))) (fun j => cd v (K j)) (fun j => j < 512 ∧ vis v1 s j)
    (fun j hj h => hv j hj h.1 h.2) ⟨0, hp, by omega, Or.inr (Nat.zero_le s)⟩ ((2 : ℝ) ^ sc q * kap)
    (mul_pos (by positivity) (by unfold kap; have := Real.log_pos (show (1 : ℝ) < 2 by norm_num); positivity)) (fun j => h2 (K j)) ((2 : ℝ) ^ sc v)
  unfold attn
  refine Eq.trans ?_ (key.trans ?_)
  · congr 1
    · funext j
      have hj : j.val < 512 := by omega
      simp only [msk, hK j.val hj, hj, true_and]
    · funext j
      rw [hK j.val (by omega)]
  · congr 1
    · funext j
      simp only [msk, hK j.val j.isLt, j.isLt, true_and]
    · funext j
      rw [hK j.val j.isLt]

section Tiles

variable {arg7 : Memref sig .tc .vmem S1x3x160x512 .fp8e4m3} (harg7 : arg7.IsWhole) {arg11 : Memref sig .tc .vmem S1x1x160x512 .fp8e4m3} (harg11 : arg11.IsWhole)
  {arg13 : Memref sig .tc .vmem S512x160 .fp8e4m3} (harg13 : arg13.IsWhole) {arg14 : Memref sig .tc .vmem S512x128 .f32} (harg14 : arg14.IsWhole)
  (O4 : Vec Ideal S1x3x160x512 .fp8e4m3) (O8 : Vec Ideal S1x1x160x512 .fp8e4m3) (KT : Vec Ideal S512x160 .fp8e4m3) (KS : Vec Ideal S512x128 .f32)

theorem lQ_apply (h : Fin 3) (i : Fin 4) (e : Fin 160) (t : Fin 128) : lQ harg7 O4 h i (ix4 0 0 e t) = O4 (ix4 0 h e ⟨128 * i.val + t.val, by omega⟩) := by
  unfold lQ
  rw [Memref.IsWhole.readAt_unread]
  refine congrArg O4 (funext fun c => Fin.ext ?_)
  match c with
  | 0 => rfl
  | 1 => exact Nat.add_zero h.val
  | 2 => exact (Nat.zero_add _).trans (Nat.one_mul _)
  | 3 => exact congrArg (128 * i.val + ·) (Nat.one_mul t.val)
theorem lV_apply (n : ℕ) (hn : n ≤ 512) (d : Fin 160) (j : Fin n) : lV harg11 O8 n hn (ix4 0 0 d j) = O8 (ix4 0 0 d ⟨j, by omega⟩) := by
  unfold lV
  rw [Memref.IsWhole.readAt_unread]
  refine congrArg O8 (funext fun c => Fin.ext ?_)
  match c with
  | 0 => rfl
  | 1 => rfl
  | 2 => exact (Nat.zero_add _).trans (Nat.one_mul _)
  | 3 => exact (Nat.zero_add _).trans (Nat.one_mul _)
theorem lT_apply (n : ℕ) (hn : n ≤ 512) (j : Fin n) (e : Fin 160) : lT harg13 KT n hn (ix2 j e) = KT (ix2 ⟨j, by omega⟩ e) := by
  unfold lT
  rw [Memref.IsWhole.readAt_unread]
  refine congrArg KT (funext fun c => Fin.ext ?_)
  match c with
  | 0 => exact (Nat.zero_add _).trans (Nat.one_mul _)
  | 1 => exact (Nat.zero_add _).trans (Nat.one_mul _)
theorem lS_apply (n : ℕ) (hn : n ≤ 512) (j : Fin n) (t : Fin 128) : lS harg14 KS n hn (ix2 j t) = KS (ix2 ⟨j, by omega⟩ t) := by
  unfold lS
  rw [Memref.IsWhole.readAt_unread]
  refine congrArg KS (funext fun c => Fin.ext ?_)
  match c with
  | 0 => exact (Nat.zero_add _).trans (Nat.one_mul _)
  | 1 => exact (Nat.zero_add _).trans (Nat.one_mul _)
theorem lC_apply (c : FVec Ideal S1x512 .f32) (i : Fin 4) (t : Fin 128) : lC c i (ix2 0 t) = c (ix2 0 ⟨128 * i.val + t.val, by omega⟩) := by
  unfold lC
  pointwise

variable (v1 : BitVec 32) (c0 c1 c2 : FVec Ideal S1x512 .f32) (vs : FVec Ideal S160x1 .bf16)
  {q : Fin 3 → Fin 160 → Fin 512 → ℝ} {k v : Fin 160 → Fin 512 → ℝ}

/-- What the tiles load are the codes and the scales. -/
structure Loads (q : Fin 3 → Fin 160 → Fin 512 → ℝ) (k v : Fin 160 → Fin 512 → ℝ) : Prop where
  hq : ∀ h d s, O4 (ix4 0 h d s) = ((cd (fun d => q h d s) d : ℝ) : EReal)
  hv : ∀ d s, O8 (ix4 0 0 d s) = ((cd (v d) s : ℝ) : EReal)
  hk : ∀ s d, KT (ix2 s d) = ((cd (fun d => k d s) d : ℝ) : EReal)
  hs : ∀ s t, KS (ix2 s t) = (((2 : ℝ) ^ sc (fun d => k d s) : ℝ) : EReal)
  hc : ∀ h s, third h c0 c1 c2 (ix2 0 s) = (((2 : ℝ) ^ sc (fun d => q h d s) * kap : ℝ) : EReal)
  hw : ∀ d, vs (ix2 d 0) = (((2 : ℝ) ^ sc (v d) : ℝ) : EReal)

variable {O4 O8 KT KS c0 c1 c2 vs}

theorem third_lQ (h : Fin 3) (i : Fin 4) : third h (lQ harg7 O4 0 i) (lQ harg7 O4 1 i) (lQ harg7 O4 2 i) = lQ harg7 O4 h i := by
  match h with | 0 => rfl | 1 => rfl | 2 => rfl
theorem third_same {α : Type} (h : Fin 3) (x : α) : third h x x x = x := by
  match h with | 0 => rfl | 1 => rfl | 2 => rfl
theorem third_lC (h : Fin 3) (i : Fin 4) : third h (lC c0 i) (lC c1 i) (lC c2 i) = lC (third h c0 c1 c2) i := by
  match h with | 0 => rfl | 1 => rfl | 2 => rfl

/-- A score as it is loaded. -/
theorem zz_eq (L : Loads O4 O8 KT KS c0 c1 c2 vs q k v) (n : ℕ) (hn : n ≤ 512) (i : Fin 4) (h : Fin 3) (t : Fin 128) (j : Fin n) :
    (∑ e : Fin 160, lT harg13 KT n hn (ix2 j e) * third h (lQ harg7 O4 0 i) (lQ harg7 O4 1 i) (lQ harg7 O4 2 i) (ix4 0 0 e t)) * third h (lS harg14 KS n hn) (lS harg14 KS n hn) (lS harg14 KS n hn) (ix2 j t)
      = ((zz (fun e => q h e ⟨128 * i.val + t.val, by omega⟩) (fun j e => k e j) ⟨j, by omega⟩ : ℝ) : EReal) := by
  rw [third_lQ, third_same, lS_apply, L.hs]
  simp only [lT_apply, lQ_apply, L.hk, L.hq, ← EReal.coe_mul]
  rw [← coe_sum, ← EReal.coe_mul]
  rfl

/-- The one-block tile. -/
theorem tOne_eq (L : Loads O4 O8 KT KS c0 c1 c2 vs q k v) (i : Fin 4) (h : Fin 3) (d : Fin 160) (t : Fin 128)
    (hv : ∀ j, 128 ≤ j → j < 512 → ¬ vis v1 (128 * i.val + t.val) j) :
    tOne harg7 harg11 harg13 harg14 O4 O8 KT KS v1 c0 c1 c2 vs i h (ix3 0 d t)
      = attn v1 (128 * i.val + t.val) (fun e => q h e ⟨128 * i.val + t.val, by omega⟩) (fun j e => k e j) (v d) := by
  rw [← att_all 128 (by omega) (by omega) v1 _ hv]
  unfold tOne
  rw [tTile1_apply, third_lC, lC_apply, L.hc, L.hw]
  congr 1
  · funext j
    rw [zz_eq harg7 harg13 harg14 L]
    have hm := tMask_apply 0 (128 * i.val) (by omega) (by omega) v1 j t
    rw [Nat.zero_add] at hm
    by_cases hj : vis v1 (128 * i.val + t.val) j.val
    · rw [if_pos (hm.mpr hj), if_pos hj]
    · rw [if_neg (fun hh => hj (hm.mp hh)), if_neg hj]
  · funext j
    rw [lV_apply, L.hv]

/-- The tile over several blocks. -/
theorem tMany_eq (L : Loads O4 O8 KT KS c0 c1 c2 vs q k v) (n a : ℕ) (f : TileFacts n) (g : SplitFacts n a) (hn : n ≤ 512) (hna : n = a + 128) (i : Fin 4) (h : Fin 3) (d : Fin 160) (t : Fin 128)
    (hl : ∀ j, j < a → vis v1 (128 * i.val + t.val) j) (hv : ∀ j, n ≤ j → j < 512 → ¬ vis v1 (128 * i.val + t.val) j) :
    tMany harg7 harg11 harg13 harg14 O4 O8 KT KS v1 c0 c1 c2 vs n a f g hn i h (ix3 0 d t)
      = attn v1 (128 * i.val + t.val) (fun e => q h e ⟨128 * i.val + t.val, by omega⟩) (fun j e => k e j) (v d) := by
  rw [← att_all n hn (by omega) v1 _ hv]
  unfold tMany
  rw [tTile_apply n a hna, third_lC, lC_apply, L.hc, L.hw]
  congr 1
  · funext j
    rw [zz_eq harg7 harg13 harg14 L]
    by_cases hja : j.val < a
    · rw [dif_pos hja, if_pos (hl _ hja)]
    · have hm := tMask_apply a (128 * i.val) (by omega) (by omega) v1 ⟨j.val - a, by omega⟩ t
      rw [show a + (⟨j.val - a, by omega⟩ : Fin 128).val = j.val by simp only; omega] at hm
      rw [dif_neg hja]
      by_cases hj : vis v1 (128 * i.val + t.val) j.val
      · rw [if_pos (hm.mpr hj), if_pos hj]
      · rw [if_neg (fun hh => hj (hm.mp hh)), if_neg hj]
  · funext j
    rw [lV_apply, L.hv]

/-- Every tile: the keys before the last block are visible and those after it are not. -/
theorem tNk_eq (L : Loads O4 O8 KT KS c0 c1 c2 vs q k v) (h31 : v1.toInt ≤ 2147483520) (J : ℕ) (hJ1 : 1 ≤ J) (hJ : J ≤ 4) (hr : reach v1 = BitVec.ofNat 32 J) (i : Fin 4) (h : Fin 3) (d : Fin 160) (t : Fin 128) :
    tNk harg7 harg11 harg13 harg14 O4 O8 KT KS v1 c0 c1 c2 vs (max (i.val + 1) J) i h (ix3 0 d t)
      = attn v1 (128 * i.val + t.val) (fun e => q h e ⟨128 * i.val + t.val, by omega⟩) (fun j e => k e j) (v d) := by
  obtain ⟨r1, r2⟩ := reach_bounds v1 h31 J hJ hr
  have hi := i.isLt
  have hv : ∀ j, 128 * max (i.val + 1) J ≤ j → j < 512 → ¬ vis v1 (128 * i.val + t.val) j := by
    intro j hj h5 hh
    unfold vis at hh
    rcases Nat.lt_or_ge J 4 with h4 | h4
    · have := r1 h4; omega
    · omega
  have hl : ∀ j, j < 128 * (max (i.val + 1) J - 1) → vis v1 (128 * i.val + t.val) j := by
    intro j hj
    unfold vis
    rcases Nat.lt_or_ge 1 J with h4 | h4
    · have := r2 h4; omega
    · omega
  generalize hnk : max (i.val + 1) J = nk at hv hl
  have h1 : 1 ≤ nk := by omega
  have h4 : nk ≤ 4 := by omega
  match nk with
  | 1 => exact tOne_eq harg7 harg11 harg13 harg14 v1 L i h d t hv
  | 2 => exact tMany_eq harg7 harg11 harg13 harg14 v1 L 256 128 tf2 sf2 (by decide) rfl i h d t hl hv
  | 3 => exact tMany_eq harg7 harg11 harg13 harg14 v1 L 384 256 tf3 sf3 (by decide) rfl i h d t hl hv
  | 4 => exact tMany_eq harg7 harg11 harg13 harg14 v1 L 512 384 tf4 sf4 (by decide) rfl i h d t hl hv

end Tiles

end Cert.KernelIdeal.Gen

end
-- ==== Proof.Value.Point.lean ====
/- What one grid point leaves in the seven output blocks, over the reals. -/
module

public import proofs.«01_k».proof.Proof.Named.Body
public import proofs.«01_k».proof.Proof.Value.Blk1
public import proofs.«01_k».proof.Proof.Value.Blk2
public import proofs.«01_k».proof.Proof.Value.Blk3
public import proofs.«01_k».proof.Proof.Value.Blk4
public import proofs.«01_k».proof.Proof.Value.TileEq

@[expose] public section

namespace Cert.KernelIdeal.Gen

open Idealize.ShloMosaic Idealize.ShloMosaic.TcCoe Idealize.ShloMosaic.Tactic
open Cert.Spec Cert.Att

/-- The three input blocks of a point hold real numbers of bounded magnitude: three heads of queries, one head of keys, one of values. -/
structure Ins (x0 : Vec Ideal S1x480x512 .bf16) (x1 x2 : Vec Ideal S1x160x512 .bf16) (q : Fin 3 → Fin 160 → Fin 512 → ℝ) (k v : Fin 160 → Fin 512 → ℝ) : Prop where
  q0 : ∀ (h : Fin 3) (d : Fin 160) s, x0 (ix3 0 ⟨160 * h.val + d.val, by omega⟩ s) = ((q h d s : ℝ) : EReal)
  qb : ∀ h d s, |q h d s| ≤ bmax
  k0 : Blk x1 k
  v0 : Blk x2 v

/-- What the seven output blocks of a point hold: the attention, and the codes and scales of the three inputs. -/
structure Outs (X : Vec Ideal S1x480x512 .bf16 × Vec Ideal S1x3x160x512 .fp8e4m3 × Vec Ideal S1x3x1x512 .f32 × Vec Ideal S1x1x160x512 .fp8e4m3 × Vec Ideal S1x1x1x512 .f32 × Vec Ideal S1x1x160x512 .fp8e4m3 × Vec Ideal S1x1x160x1 .f32)
    (w : BitVec 32) (q : Fin 3 → Fin 160 → Fin 512 → ℝ) (k v : Fin 160 → Fin 512 → ℝ) : Prop where
  out : ∀ (h : Fin 3) (d : Fin 160) (s : Fin 512), X.1 (ix3 0 ⟨160 * h.val + d.val, by omega⟩ s) = attn w s.val (fun e => q h e s) (fun j e => k e j) (v d)
  qc : ∀ h d s, X.2.1 (ix4 0 h d s) = ((cd (fun d => q h d s) d : ℝ) : EReal)
  qs : ∀ h s, X.2.2.1 (ix4 0 h 0 s) = (((2 : ℝ) ^ sc (fun d => q h d s) : ℝ) : EReal)
  kc : ∀ d s, X.2.2.2.1 (ix4 0 0 d s) = ((cd (fun d => k d s) d : ℝ) : EReal)
  ks : ∀ s, X.2.2.2.2.1 (ix4 0 0 0 s) = (((2 : ℝ) ^ sc (fun d => k d s) : ℝ) : EReal)
  vc : ∀ d s, X.2.2.2.2.2.1 (ix4 0 0 d s) = ((cd (v d) s : ℝ) : EReal)
  vs : ∀ d, X.2.2.2.2.2.2 (ix4 0 0 d 0) = (((2 : ℝ) ^ sc (v d) : ℝ) : EReal)

section
variable {x0 : Vec Ideal S1x480x512 .bf16} {x1 x2 : Vec Ideal S1x160x512 .bf16} {q : Fin 3 → Fin 160 → Fin 512 → ℝ} {k v : Fin 160 → Fin 512 → ℝ}

/-- One head of the query block. -/
theorem Ins.head (H : Ins x0 x1 x2 q k v) {r : Memref sig .tc .vmem S1x480x512 .bf16} (hr : r.IsWhole) (h : Fin 3) : Blk (lH hr x0 h) (q h) :=
  ⟨fun d s => (lH_apply hr x0 h d s).trans (H.q0 h d s), fun d s => H.qb h d s⟩

/-- The named constant is the score scale. -/
theorem named_kap : (Named.named κ "score_scale_log2e" 0x3DE995B3#32 : Ideal .f32) = ((kap : ℝ) : EReal) :=
  IdealRules.named_const.ideal_named_scalar _ _ _ _ rfl

/-- A narrowing of real contents changes nothing. -/
theorem truncf_at {s : Shape} (z : FVec Ideal s .f32) (h : FTy.bf16.bits < FTy.f32.bits) (i : s.Idx) : truncf .bf16 z h i = z i := rfl

/-- The query scales times the score scale. -/
theorem cQ_eq {y : Vec Ideal S1x160x512 .bf16} {a : Fin 160 → Fin 512 → ℝ} (H : Blk y a) (s : Fin 512) : cQ y (ix2 0 s) = (((2 : ℝ) ^ sc (fun d => a d s) * kap : ℝ) : EReal) := by
  rw [EReal.coe_mul, ← sK_eq H s]
  unfold cQ
  rw [← named_kap]
  generalize sK y = z
  pointwise

variable {arg3 : Memref sig .tc .vmem S1x480x512 .bf16} (harg3 : arg3.IsWhole) {arg4 : Memref sig .tc .vmem S1x160x512 .bf16} (harg4 : arg4.IsWhole) {arg5 : Memref sig .tc .vmem S1x160x512 .bf16} (harg5 : arg5.IsWhole)
  {arg7 : Memref sig .tc .vmem S1x3x160x512 .fp8e4m3} (harg7 : arg7.IsWhole) {arg11 : Memref sig .tc .vmem S1x1x160x512 .fp8e4m3} (harg11 : arg11.IsWhole)
  {arg13 : Memref sig .tc .vmem S512x160 .fp8e4m3} (harg13 : arg13.IsWhole) {arg14 : Memref sig .tc .vmem S512x128 .f32} (harg14 : arg14.IsWhole)

/-- What the tiles load: the codes and scales of the point's blocks. -/
theorem Ins.loads (H : Ins x0 x1 x2 q k v) :
    Loads (oQC (lH harg3 x0 0) (lH harg3 x0 1) (lH harg3 x0 2)) (oVC (lB harg5 x2)) (kTr (lB harg4 x1)) (kSr (lB harg4 x1))
      (cQ (lH harg3 x0 0)) (cQ (lH harg3 x0 1)) (cQ (lH harg3 x0 2)) (truncf .bf16 (sV (lB harg5 x2)) bitsLt_bf16_f32) q k v := by
  have hk := H.k0
  have hv := H.v0
  have h1 := fun h d s => oQC_eq (ys := lH harg3 x0) (fun h => H.head harg3 h) h d s
  have h2 := fun d s => oVC_eq hv d s
  have h3 := fun s d => kTr_eq hk d s
  have h4 := fun s t => kSr_eq hk s t
  have h5 := fun s => cQ_eq (H.head harg3 0) s
  have h6 := fun s => cQ_eq (H.head harg3 1) s
  have h7 := fun s => cQ_eq (H.head harg3 2) s
  have h8 := fun d => (truncf_at (sV x2) bitsLt_bf16_f32 (ix2 d 0)).trans (sV_eq hv d)
  rw [lB_eq, lB_eq]
  generalize oQC (lH harg3 x0 0) (lH harg3 x0 1) (lH harg3 x0 2) = O4 at h1 ⊢
  generalize oVC x2 = O8 at h2 ⊢
  generalize kTr x1 = KT at h3 ⊢
  generalize kSr x1 = KS at h4 ⊢
  generalize cQ (lH harg3 x0 0) = c0 at h5 ⊢
  generalize cQ (lH harg3 x0 1) = c1 at h6 ⊢
  generalize cQ (lH harg3 x0 2) = c2 at h7 ⊢
  generalize truncf .bf16 (sV x2) bitsLt_bf16_f32 = vs at h8 ⊢
  exact ⟨h1, h2, h3, h4, fun h s => match h with
      | 0 => h5 s
      | 1 => h6 s
      | 2 => h7 s, h8⟩

/-- The seven blocks, when they are the terms of the block with `J` key blocks reached. -/
theorem outs_of (H : Ins x0 x1 x2 q k v) (w : BitVec 32) (h31 : w.toInt ≤ 2147483520) (J : ℕ) (hJ1 : 1 ≤ J) (hJ : J ≤ 4) (hr : reach w = BitVec.ofNat 32 J) (nk : Fin 4 → ℕ) (hnk : ∀ i, nk i = max (i.val + 1) J)
    (X : Vec Ideal S1x480x512 .bf16 × Vec Ideal S1x3x160x512 .fp8e4m3 × Vec Ideal S1x3x1x512 .f32 × Vec Ideal S1x1x160x512 .fp8e4m3 × Vec Ideal S1x1x1x512 .f32 × Vec Ideal S1x1x160x512 .fp8e4m3 × Vec Ideal S1x1x160x1 .f32)
    (w' : BitVec 32) (hw : w' = w) (L : List (View.Piece (Elt Ideal) S1x480x512 .bf16)) (f0 : X.1 = View.canon L)
    (e0 : L = pOut (fun i h => tNk harg7 harg11 harg13 harg14 (oQC (lH harg3 x0 0) (lH harg3 x0 1) (lH harg3 x0 2)) (oVC (lB harg5 x2)) (kTr (lB harg4 x1)) (kSr (lB harg4 x1)) w'
      (cQ (lH harg3 x0 0)) (cQ (lH harg3 x0 1)) (cQ (lH harg3 x0 2)) (truncf .bf16 (sV (lB harg5 x2)) bitsLt_bf16_f32) (nk i) i h))
    (e1 : X.2.1 = oQC (lH harg3 x0 0) (lH harg3 x0 1) (lH harg3 x0 2)) (e2 : X.2.2.1 = oQS (lH harg3 x0 0) (lH harg3 x0 1) (lH harg3 x0 2))
    (e3 : X.2.2.2.1 = oKC (lB harg4 x1)) (e4 : X.2.2.2.2.1 = oKS (lB harg4 x1)) (e5 : X.2.2.2.2.2.1 = oVC (lB harg5 x2)) (e6 : X.2.2.2.2.2.2 = oVS (lB harg5 x2)) :
    Outs X w q k v := by
  subst hw
  have hL := H.loads harg3 harg4 harg5
  rw [lB_eq] at e3 e4 e5 e6
  refine ⟨fun h d s => ?_, fun h d s => ?_, fun h s => ?_, fun d s => ?_, fun s => ?_, fun d s => ?_, fun d => ?_⟩
  · obtain ⟨i, t, rfl⟩ : ∃ (i : Fin 4) (t : Fin 128), s = ⟨128 * i.val + t.val, by omega⟩ :=
      ⟨⟨s.val / 128, by have := s.isLt; omega⟩, ⟨s.val % 128, by omega⟩, Fin.ext (by simp only []; omega)⟩
    rw [f0, e0]
    revert hL
    generalize oQC (lH harg3 x0 0) (lH harg3 x0 1) (lH harg3 x0 2) = O4
    generalize oVC (lB harg5 x2) = O8
    generalize kTr (lB harg4 x1) = KT
    generalize kSr (lB harg4 x1) = KS
    generalize cQ (lH harg3 x0 0) = c0
    generalize cQ (lH harg3 x0 1) = c1
    generalize cQ (lH harg3 x0 2) = c2
    generalize truncf .bf16 (sV (lB harg5 x2)) bitsLt_bf16_f32 = vs
    intro hL
    refine (pOut_eq _ i h d t).trans ?_
    rw [hnk i]
    exact tNk_eq harg7 harg11 harg13 harg14 w' hL h31 J hJ1 hJ hr i h d t
  · rw [e1]; exact oQC_eq (ys := lH harg3 x0) (fun h => H.head harg3 h) h d s
  · rw [e2]; exact oQS_eq (ys := lH harg3 x0) (fun h => H.head harg3 h) h s
  · rw [e3]; exact oKC_eq H.k0 d s
  · rw [e4]; exact oKS_eq H.k0 s
  · rw [e5]; exact oVC_eq H.v0 d s
  · rw [e6]; exact oVS_eq H.v0 d

end

section

/-! ## The four runs -/

/-- The blocks that the run leaves when the prefix reaches 1 of the 4 key blocks. -/
theorem res_1 (c : Dev nD) (ic : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec Ideal S1x480x512 .bf16) (x1 : Vec Ideal S1x160x512 .bf16) (x2 : Vec Ideal S1x160x512 .bf16) (xt0 : TbBuf0 (F := Ideal) c tbM0_0) {q : Fin 3 → Fin 160 → Fin 512 → ℝ} {k v : Fin 160 → Fin 512 → ℝ}
    (H : Ins x0 x1 x2 q k v) (h31 : (word0 c ic arg3 harg3 arg4 harg4 arg5 harg5 arg6 harg6 arg7 harg7 arg8 harg8 arg9 harg9 arg10 harg10 arg11 harg11 arg12 harg12 arg13 harg13 arg14 harg14 x0 x1 x2 xt0).toInt ≤ 2147483520) (h : k0_cond1 (word0 c ic arg3 harg3 arg4 harg4 arg5 harg5 arg6 harg6 arg7 harg7 arg8 harg8 arg9 harg9 arg10 harg10 arg11 harg11 arg12 harg12 arg13 harg13 arg14 harg14 x0 x1 x2 xt0) = 1#1) :
    Outs (res0_1 c ic arg3 harg3 arg4 harg4 arg5 harg5 arg6 harg6 arg7 harg7 arg8 harg8 arg9 harg9 arg10 harg10 arg11 harg11 arg12 harg12 arg13 harg13 arg14 harg14 x0 x1 x2 xt0) (word0 c ic arg3 harg3 arg4 harg4 arg5 harg5 arg6 harg6 arg7 harg7 arg8 harg8 arg9 harg9 arg10 harg10 arg11 harg11 arg12 harg12 arg13 harg13 arg14 harg14 x0 x1 x2 xt0) q k v := by
  obtain ⟨e1, e2, e3, e4, e5, e6⟩ := runQ_1 c ic arg3 harg3 arg4 harg4 arg5 harg5 arg6 harg6 arg7 harg7 arg8 harg8 arg9 harg9 arg10 harg10 arg11 harg11 arg12 harg12 arg13 harg13 arg14 harg14 x0 x1 x2 xt0
  have hw : (kernelRun0_1 c ic arg3 harg3 arg4 harg4 arg5 harg5 arg6 harg6 arg7 harg7 arg8 harg8 arg9 harg9 arg10 harg10 arg11 harg11 arg12 harg12 arg13 harg13 arg14 harg14 x0 x1 x2 xt0).1 = word0 c ic arg3 harg3 arg4 harg4 arg5 harg5 arg6 harg6 arg7 harg7 arg8 harg8 arg9 harg9 arg10 harg10 arg11 harg11 arg12 harg12 arg13 harg13 arg14 harg14 x0 x1 x2 xt0 := by sl_kernel_rfl
  have hO := runO_1 c ic arg3 harg3 arg4 harg4 arg5 harg5 arg6 harg6 arg7 harg7 arg8 harg8 arg9 harg9 arg10 harg10 arg11 harg11 arg12 harg12 arg13 harg13 arg14 harg14 x0 x1 x2 xt0
  have f0 : (res0_1 c ic arg3 harg3 arg4 harg4 arg5 harg5 arg6 harg6 arg7 harg7 arg8 harg8 arg9 harg9 arg10 harg10 arg11 harg11 arg12 harg12 arg13 harg13 arg14 harg14 x0 x1 x2 xt0).1 = View.canon (kernelRun0_1 c ic arg3 harg3 arg4 harg4 arg5 harg5 arg6 harg6 arg7 harg7 arg8 harg8 arg9 harg9 arg10 harg10 arg11 harg11 arg12 harg12 arg13 harg13 arg14 harg14 x0 x1 x2 xt0).2.1 := by sl_kernel_rfl
  have f1 : (res0_1 c ic arg3 harg3 arg4 harg4 arg5 harg5 arg6 harg6 arg7 harg7 arg8 harg8 arg9 harg9 arg10 harg10 arg11 harg11 arg12 harg12 arg13 harg13 arg14 harg14 x0 x1 x2 xt0).2.1 = (kernelRun0_1 c ic arg3 harg3 arg4 harg4 arg5 harg5 arg6 harg6 arg7 harg7 arg8 harg8 arg9 harg9 arg10 harg10 arg11 harg11 arg12 harg12 arg13 harg13 arg14 harg14 x0 x1 x2 xt0).2.2.1 := by sl_kernel_rfl
  have f2 : (res0_1 c ic arg3 harg3 arg4 harg4 arg5 harg5 arg6 harg6 arg7 harg7 arg8 harg8 arg9 harg9 arg10 harg10 arg11 harg11 arg12 harg12 arg13 harg13 arg14 harg14 x0 x1 x2 xt0).2.2.1 = (kernelRun0_1 c ic arg3 harg3 arg4 harg4 arg5 harg5 arg6 harg6 arg7 harg7 arg8 harg8 arg9 harg9 arg10 harg10 arg11 harg11 arg12 harg12 arg13 harg13 arg14 harg14 x0 x1 x2 xt0).2.2.2.1 := by sl_kernel_rfl
  have f3 : (res0_1 c ic arg3 harg3 arg4 harg4 arg5 harg5 arg6 harg6 arg7 harg7 arg8 harg8 arg9 harg9 arg10 harg10 arg11 harg11 arg12 harg12 arg13 harg13 arg14 harg14 x0 x1 x2 xt0).2.2.2.1 = (kernelRun0_1 c ic arg3 harg3 arg4 harg4 arg5 harg5 arg6 harg6 arg7 harg7 arg8 harg8 arg9 harg9 arg10 harg10 arg11 harg11 arg12 harg12 arg13 harg13 arg14 harg14 x0 x1 x2 xt0).2.2.2.2.1 := by sl_kernel_rfl
  have f4 : (res0_1 c ic arg3 harg3 arg4 harg4 arg5 harg5 arg6 harg6 arg7 harg7 arg8 harg8 arg9 harg9 arg10 harg10 arg11 harg11 arg12 harg12 arg13 harg13 arg14 harg14 x0 x1 x2 xt0).2.2.2.2.1 = (kernelRun0_1 c ic arg3 harg3 arg4 harg4 arg5 harg5 arg6 harg6 arg7 harg7 arg8 harg8 arg9 harg9 arg10 harg10 arg11 harg11 arg12 harg12 arg13 harg13 arg14 harg14 x0 x1 x2 xt0).2.2.2.2.2.1 := by sl_kernel_rfl
  have f5 : (res0_1 c ic arg3 harg3 arg4 harg4 arg5 harg5 arg6 harg6 arg7 harg7 arg8 harg8 arg9 harg9 arg10 harg10 arg11 harg11 arg12 harg12 arg13 harg13 arg14 harg14 x0 x1 x2 xt0).2.2.2.2.2.1 = (kernelRun0_1 c ic arg3 harg3 arg4 harg4 arg5 harg5 arg6 harg6 arg7 harg7 arg8 harg8 arg9 harg9 arg10 harg10 arg11 harg11 arg12 harg12 arg13 harg13 arg14 harg14 x0 x1 x2 xt0).2.2.2.2.2.2.1 := by sl_kernel_rfl
  have f6 : (res0_1 c ic arg3 harg3 arg4 harg4 arg5 harg5 arg6 harg6 arg7 harg7 arg8 harg8 arg9 harg9 arg10 harg10 arg11 harg11 arg12 harg12 arg13 harg13 arg14 harg14 x0 x1 x2 xt0).2.2.2.2.2.2 = (kernelRun0_1 c ic arg3 harg3 arg4 harg4 arg5 harg5 arg6 harg6 arg7 harg7 arg8 harg8 arg9 harg9 arg10 harg10 arg11 harg11 arg12 harg12 arg13 harg13 arg14 harg14 x0 x1 x2 xt0).2.2.2.2.2.2.2.1 := by sl_kernel_rfl
  have hr := (cond1_iff _).mp h
  have hi : ∀ i : Fin 4, i.val + 1 = max (i.val + 1) 1 := fun i => by have := i.isLt; omega
  exact outs_of harg3 harg4 harg5 harg7 harg11 harg13 harg14 H (word0 c ic arg3 harg3 arg4 harg4 arg5 harg5 arg6 harg6 arg7 harg7 arg8 harg8 arg9 harg9 arg10 harg10 arg11 harg11 arg12 harg12 arg13 harg13 arg14 harg14 x0 x1 x2 xt0) h31 1 (by decide) (by decide) hr (fun i => i.val + 1) hi (res0_1 c ic arg3 harg3 arg4 harg4 arg5 harg5 arg6 harg6 arg7 harg7 arg8 harg8 arg9 harg9 arg10 harg10 arg11 harg11 arg12 harg12 arg13 harg13 arg14 harg14 x0 x1 x2 xt0)
    (kernelRun0_1 c ic arg3 harg3 arg4 harg4 arg5 harg5 arg6 harg6 arg7 harg7 arg8 harg8 arg9 harg9 arg10 harg10 arg11 harg11 arg12 harg12 arg13 harg13 arg14 harg14 x0 x1 x2 xt0).1 hw (kernelRun0_1 c ic arg3 harg3 arg4 harg4 arg5 harg5 arg6 harg6 arg7 harg7 arg8 harg8 arg9 harg9 arg10 harg10 arg11 harg11 arg12 harg12 arg13 harg13 arg14 harg14 x0 x1 x2 xt0).2.1 f0 hO (f1.trans e1) (f2.trans e2) (f3.trans e3) (f4.trans e4) (f5.trans e5) (f6.trans e6)

/-- The blocks that the run leaves when the prefix reaches 2 of the 4 key blocks. -/
theorem res_2 (c : Dev nD) (ic : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec Ideal S1x480x512 .bf16) (x1 : Vec Ideal S1x160x512 .bf16) (x2 : Vec Ideal S1x160x512 .bf16) (xt0 : TbBuf0 (F := Ideal) c tbM0_0) {q : Fin 3 → Fin 160 → Fin 512 → ℝ} {k v : Fin 160 → Fin 512 → ℝ}
    (H : Ins x0 x1 x2 q k v) (h31 : (word0 c ic arg3 harg3 arg4 harg4 arg5 harg5 arg6 harg6 arg7 harg7 arg8 harg8 arg9 harg9 arg10 harg10 arg11 harg11 arg12 harg12 arg13 harg13 arg14 harg14 x0 x1 x2 xt0).toInt ≤ 2147483520) (h : k0_cond2 (word0 c ic arg3 harg3 arg4 harg4 arg5 harg5 arg6 harg6 arg7 harg7 arg8 harg8 arg9 harg9 arg10 harg10 arg11 harg11 arg12 harg12 arg13 harg13 arg14 harg14 x0 x1 x2 xt0) = 1#1) :
    Outs (res0_2 c ic arg3 harg3 arg4 harg4 arg5 harg5 arg6 harg6 arg7 harg7 arg8 harg8 arg9 harg9 arg10 harg10 arg11 harg11 arg12 harg12 arg13 harg13 arg14 harg14 x0 x1 x2 xt0) (word0 c ic arg3 harg3 arg4 harg4 arg5 harg5 arg6 harg6 arg7 harg7 arg8 harg8 arg9 harg9 arg10 harg10 arg11 harg11 arg12 harg12 arg13 harg13 arg14 harg14 x0 x1 x2 xt0) q k v := by
  obtain ⟨e1, e2, e3, e4, e5, e6⟩ := runQ_2 c ic arg3 harg3 arg4 harg4 arg5 harg5 arg6 harg6 arg7 harg7 arg8 harg8 arg9 harg9 arg10 harg10 arg11 harg11 arg12 harg12 arg13 harg13 arg14 harg14 x0 x1 x2 xt0
  have hw : (kernelRun0_2 c ic arg3 harg3 arg4 harg4 arg5 harg5 arg6 harg6 arg7 harg7 arg8 harg8 arg9 harg9 arg10 harg10 arg11 harg11 arg12 harg12 arg13 harg13 arg14 harg14 x0 x1 x2 xt0).1 = word0 c ic arg3 harg3 arg4 harg4 arg5 harg5 arg6 harg6 arg7 harg7 arg8 harg8 arg9 harg9 arg10 harg10 arg11 harg11 arg12 harg12 arg13 harg13 arg14 harg14 x0 x1 x2 xt0 := by sl_kernel_rfl
  have hO := runO_2 c ic arg3 harg3 arg4 harg4 arg5 harg5 arg6 harg6 arg7 harg7 arg8 harg8 arg9 harg9 arg10 harg10 arg11 harg11 arg12 harg12 arg13 harg13 arg14 harg14 x0 x1 x2 xt0
  have f0 : (res0_2 c ic arg3 harg3 arg4 harg4 arg5 harg5 arg6 harg6 arg7 harg7 arg8 harg8 arg9 harg9 arg10 harg10 arg11 harg11 arg12 harg12 arg13 harg13 arg14 harg14 x0 x1 x2 xt0).1 = View.canon (kernelRun0_2 c ic arg3 harg3 arg4 harg4 arg5 harg5 arg6 harg6 arg7 harg7 arg8 harg8 arg9 harg9 arg10 harg10 arg11 harg11 arg12 harg12 arg13 harg13 arg14 harg14 x0 x1 x2 xt0).2.1 := by sl_kernel_rfl
  have f1 : (res0_2 c ic arg3 harg3 arg4 harg4 arg5 harg5 arg6 harg6 arg7 harg7 arg8 harg8 arg9 harg9 arg10 harg10 arg11 harg11 arg12 harg12 arg13 harg13 arg14 harg14 x0 x1 x2 xt0).2.1 = (kernelRun0_2 c ic arg3 harg3 arg4 harg4 arg5 harg5 arg6 harg6 arg7 harg7 arg8 harg8 arg9 harg9 arg10 harg10 arg11 harg11 arg12 harg12 arg13 harg13 arg14 harg14 x0 x1 x2 xt0).2.2.1 := by sl_kernel_rfl
  have f2 : (res0_2 c ic arg3 harg3 arg4 harg4 arg5 harg5 arg6 harg6 arg7 harg7 arg8 harg8 arg9 harg9 arg10 harg10 arg11 harg11 arg12 harg12 arg13 harg13 arg14 harg14 x0 x1 x2 xt0).2.2.1 = (kernelRun0_2 c ic arg3 harg3 arg4 harg4 arg5 harg5 arg6 harg6 arg7 harg7 arg8 harg8 arg9 harg9 arg10 harg10 arg11 harg11 arg12 harg12 arg13 harg13 arg14 harg14 x0 x1 x2 xt0).2.2.2.1 := by sl_kernel_rfl
  have f3 : (res0_2 c ic arg3 harg3 arg4 harg4 arg5 harg5 arg6 harg6 arg7 harg7 arg8 harg8 arg9 harg9 arg10 harg10 arg11 harg11 arg12 harg12 arg13 harg13 arg14 harg14 x0 x1 x2 xt0).2.2.2.1 = (kernelRun0_2 c ic arg3 harg3 arg4 harg4 arg5 harg5 arg6 harg6 arg7 harg7 arg8 harg8 arg9 harg9 arg10 harg10 arg11 harg11 arg12 harg12 arg13 harg13 arg14 harg14 x0 x1 x2 xt0).2.2.2.2.1 := by sl_kernel_rfl
  have f4 : (res0_2 c ic arg3 harg3 arg4 harg4 arg5 harg5 arg6 harg6 arg7 harg7 arg8 harg8 arg9 harg9 arg10 harg10 arg11 harg11 arg12 harg12 arg13 harg13 arg14 harg14 x0 x1 x2 xt0).2.2.2.2.1 = (kernelRun0_2 c ic arg3 harg3 arg4 harg4 arg5 harg5 arg6 harg6 arg7 harg7 arg8 harg8 arg9 harg9 arg10 harg10 arg11 harg11 arg12 harg12 arg13 harg13 arg14 harg14 x0 x1 x2 xt0).2.2.2.2.2.1 := by sl_kernel_rfl
  have f5 : (res0_2 c ic arg3 harg3 arg4 harg4 arg5 harg5 arg6 harg6 arg7 harg7 arg8 harg8 arg9 harg9 arg10 harg10 arg11 harg11 arg12 harg12 arg13 harg13 arg14 harg14 x0 x1 x2 xt0).2.2.2.2.2.1 = (kernelRun0_2 c ic arg3 harg3 arg4 harg4 arg5 harg5 arg6 harg6 arg7 harg7 arg8 harg8 arg9 harg9 arg10 harg10 arg11 harg11 arg12 harg12 arg13 harg13 arg14 harg14 x0 x1 x2 xt0).2.2.2.2.2.2.1 := by sl_kernel_rfl
  have f6 : (res0_2 c ic arg3 harg3 arg4 harg4 arg5 harg5 arg6 harg6 arg7 harg7 arg8 harg8 arg9 harg9 arg10 harg10 arg11 harg11 arg12 harg12 arg13 harg13 arg14 harg14 x0 x1 x2 xt0).2.2.2.2.2.2 = (kernelRun0_2 c ic arg3 harg3 arg4 harg4 arg5 harg5 arg6 harg6 arg7 harg7 arg8 harg8 arg9 harg9 arg10 harg10 arg11 harg11 arg12 harg12 arg13 harg13 arg14 harg14 x0 x1 x2 xt0).2.2.2.2.2.2.2.1 := by sl_kernel_rfl
  have hr := (cond2_iff _).mp h
  have hi : ∀ i : Fin 4, max (i.val + 1) 2 = max (i.val + 1) 2 := fun i => by have := i.isLt; omega
  exact outs_of harg3 harg4 harg5 harg7 harg11 harg13 harg14 H (word0 c ic arg3 harg3 arg4 harg4 arg5 harg5 arg6 harg6 arg7 harg7 arg8 harg8 arg9 harg9 arg10 harg10 arg11 harg11 arg12 harg12 arg13 harg13 arg14 harg14 x0 x1 x2 xt0) h31 2 (by decide) (by decide) hr (fun i => max (i.val + 1) 2) hi (res0_2 c ic arg3 harg3 arg4 harg4 arg5 harg5 arg6 harg6 arg7 harg7 arg8 harg8 arg9 harg9 arg10 harg10 arg11 harg11 arg12 harg12 arg13 harg13 arg14 harg14 x0 x1 x2 xt0)
    (kernelRun0_2 c ic arg3 harg3 arg4 harg4 arg5 harg5 arg6 harg6 arg7 harg7 arg8 harg8 arg9 harg9 arg10 harg10 arg11 harg11 arg12 harg12 arg13 harg13 arg14 harg14 x0 x1 x2 xt0).1 hw (kernelRun0_2 c ic arg3 harg3 arg4 harg4 arg5 harg5 arg6 harg6 arg7 harg7 arg8 harg8 arg9 harg9 arg10 harg10 arg11 harg11 arg12 harg12 arg13 harg13 arg14 harg14 x0 x1 x2 xt0).2.1 f0 hO (f1.trans e1) (f2.trans e2) (f3.trans e3) (f4.trans e4) (f5.trans e5) (f6.trans e6)

/-- The blocks that the run leaves when the prefix reaches 3 of the 4 key blocks. -/
theorem res_3 (c : Dev nD) (ic : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec Ideal S1x480x512 .bf16) (x1 : Vec Ideal S1x160x512 .bf16) (x2 : Vec Ideal S1x160x512 .bf16) (xt0 : TbBuf0 (F := Ideal) c tbM0_0) {q : Fin 3 → Fin 160 → Fin 512 → ℝ} {k v : Fin 160 → Fin 512 → ℝ}
    (H : Ins x0 x1 x2 q k v) (h31 : (word0 c ic arg3 harg3 arg4 harg4 arg5 harg5 arg6 harg6 arg7 harg7 arg8 harg8 arg9 harg9 arg10 harg10 arg11 harg11 arg12 harg12 arg13 harg13 arg14 harg14 x0 x1 x2 xt0).toInt ≤ 2147483520) (h : k0_cond3 (word0 c ic arg3 harg3 arg4 harg4 arg5 harg5 arg6 harg6 arg7 harg7 arg8 harg8 arg9 harg9 arg10 harg10 arg11 harg11 arg12 harg12 arg13 harg13 arg14 harg14 x0 x1 x2 xt0) = 1#1) :
    Outs (res0_3 c ic arg3 harg3 arg4 harg4 arg5 harg5 arg6 harg6 arg7 harg7 arg8 harg8 arg9 harg9 arg10 harg10 arg11 harg11 arg12 harg12 arg13 harg13 arg14 harg14 x0 x1 x2 xt0) (word0 c ic arg3 harg3 arg4 harg4 arg5 harg5 arg6 harg6 arg7 harg7 arg8 harg8 arg9 harg9 arg10 harg10 arg11 harg11 arg12 harg12 arg13 harg13 arg14 harg14 x0 x1 x2 xt0) q k v := by
  obtain ⟨e1, e2, e3, e4, e5, e6⟩ := runQ_3 c ic arg3 harg3 arg4 harg4 arg5 harg5 arg6 harg6 arg7 harg7 arg8 harg8 arg9 harg9 arg10 harg10 arg11 harg11 arg12 harg12 arg13 harg13 arg14 harg14 x0 x1 x2 xt0
  have hw : (kernelRun0_3 c ic arg3 harg3 arg4 harg4 arg5 harg5 arg6 harg6 arg7 harg7 arg8 harg8 arg9 harg9 arg10 harg10 arg11 harg11 arg12 harg12 arg13 harg13 arg14 harg14 x0 x1 x2 xt0).1 = word0 c ic arg3 harg3 arg4 harg4 arg5 harg5 arg6 harg6 arg7 harg7 arg8 harg8 arg9 harg9 arg10 harg10 arg11 harg11 arg12 harg12 arg13 harg13 arg14 harg14 x0 x1 x2 xt0 := by sl_kernel_rfl
  have hO := runO_3 c ic arg3 harg3 arg4 harg4 arg5 harg5 arg6 harg6 arg7 harg7 arg8 harg8 arg9 harg9 arg10 harg10 arg11 harg11 arg12 harg12 arg13 harg13 arg14 harg14 x0 x1 x2 xt0
  have f0 : (res0_3 c ic arg3 harg3 arg4 harg4 arg5 harg5 arg6 harg6 arg7 harg7 arg8 harg8 arg9 harg9 arg10 harg10 arg11 harg11 arg12 harg12 arg13 harg13 arg14 harg14 x0 x1 x2 xt0).1 = View.canon (kernelRun0_3 c ic arg3 harg3 arg4 harg4 arg5 harg5 arg6 harg6 arg7 harg7 arg8 harg8 arg9 harg9 arg10 harg10 arg11 harg11 arg12 harg12 arg13 harg13 arg14 harg14 x0 x1 x2 xt0).2.1 := by sl_kernel_rfl
  have f1 : (res0_3 c ic arg3 harg3 arg4 harg4 arg5 harg5 arg6 harg6 arg7 harg7 arg8 harg8 arg9 harg9 arg10 harg10 arg11 harg11 arg12 harg12 arg13 harg13 arg14 harg14 x0 x1 x2 xt0).2.1 = (kernelRun0_3 c ic arg3 harg3 arg4 harg4 arg5 harg5 arg6 harg6 arg7 harg7 arg8 harg8 arg9 harg9 arg10 harg10 arg11 harg11 arg12 harg12 arg13 harg13 arg14 harg14 x0 x1 x2 xt0).2.2.1 := by sl_kernel_rfl
  have f2 : (res0_3 c ic arg3 harg3 arg4 harg4 arg5 harg5 arg6 harg6 arg7 harg7 arg8 harg8 arg9 harg9 arg10 harg10 arg11 harg11 arg12 harg12 arg13 harg13 arg14 harg14 x0 x1 x2 xt0).2.2.1 = (kernelRun0_3 c ic arg3 harg3 arg4 harg4 arg5 harg5 arg6 harg6 arg7 harg7 arg8 harg8 arg9 harg9 arg10 harg10 arg11 harg11 arg12 harg12 arg13 harg13 arg14 harg14 x0 x1 x2 xt0).2.2.2.1 := by sl_kernel_rfl
  have f3 : (res0_3 c ic arg3 harg3 arg4 harg4 arg5 harg5 arg6 harg6 arg7 harg7 arg8 harg8 arg9 harg9 arg10 harg10 arg11 harg11 arg12 harg12 arg13 harg13 arg14 harg14 x0 x1 x2 xt0).2.2.2.1 = (kernelRun0_3 c ic arg3 harg3 arg4 harg4 arg5 harg5 arg6 harg6 arg7 harg7 arg8 harg8 arg9 harg9 arg10 harg10 arg11 harg11 arg12 harg12 arg13 harg13 arg14 harg14 x0 x1 x2 xt0).2.2.2.2.1 := by sl_kernel_rfl
  have f4 : (res0_3 c ic arg3 harg3 arg4 harg4 arg5 harg5 arg6 harg6 arg7 harg7 arg8 harg8 arg9 harg9 arg10 harg10 arg11 harg11 arg12 harg12 arg13 harg13 arg14 harg14 x0 x1 x2 xt0).2.2.2.2.1 = (kernelRun0_3 c ic arg3 harg3 arg4 harg4 arg5 harg5 arg6 harg6 arg7 harg7 arg8 harg8 arg9 harg9 arg10 harg10 arg11 harg11 arg12 harg12 arg13 harg13 arg14 harg14 x0 x1 x2 xt0).2.2.2.2.2.1 := by sl_kernel_rfl
  have f5 : (res0_3 c ic arg3 harg3 arg4 harg4 arg5 harg5 arg6 harg6 arg7 harg7 arg8 harg8 arg9 harg9 arg10 harg10 arg11 harg11 arg12 harg12 arg13 harg13 arg14 harg14 x0 x1 x2 xt0).2.2.2.2.2.1 = (kernelRun0_3 c ic arg3 harg3 arg4 harg4 arg5 harg5 arg6 harg6 arg7 harg7 arg8 harg8 arg9 harg9 arg10 harg10 arg11 harg11 arg12 harg12 arg13 harg13 arg14 harg14 x0 x1 x2 xt0).2.2.2.2.2.2.1 := by sl_kernel_rfl
  have f6 : (res0_3 c ic arg3 harg3 arg4 harg4 arg5 harg5 arg6 harg6 arg7 harg7 arg8 harg8 arg9 harg9 arg10 harg10 arg11 harg11 arg12 harg12 arg13 harg13 arg14 harg14 x0 x1 x2 xt0).2.2.2.2.2.2 = (kernelRun0_3 c ic arg3 harg3 arg4 harg4 arg5 harg5 arg6 harg6 arg7 harg7 arg8 harg8 arg9 harg9 arg10 harg10 arg11 harg11 arg12 harg12 arg13 harg13 arg14 harg14 x0 x1 x2 xt0).2.2.2.2.2.2.2.1 := by sl_kernel_rfl
  have hr := (cond3_iff _).mp h
  have hi : ∀ i : Fin 4, max (i.val + 1) 3 = max (i.val + 1) 3 := fun i => by have := i.isLt; omega
  exact outs_of harg3 harg4 harg5 harg7 harg11 harg13 harg14 H (word0 c ic arg3 harg3 arg4 harg4 arg5 harg5 arg6 harg6 arg7 harg7 arg8 harg8 arg9 harg9 arg10 harg10 arg11 harg11 arg12 harg12 arg13 harg13 arg14 harg14 x0 x1 x2 xt0) h31 3 (by decide) (by decide) hr (fun i => max (i.val + 1) 3) hi (res0_3 c ic arg3 harg3 arg4 harg4 arg5 harg5 arg6 harg6 arg7 harg7 arg8 harg8 arg9 harg9 arg10 harg10 arg11 harg11 arg12 harg12 arg13 harg13 arg14 harg14 x0 x1 x2 xt0)
    (kernelRun0_3 c ic arg3 harg3 arg4 harg4 arg5 harg5 arg6 harg6 arg7 harg7 arg8 harg8 arg9 harg9 arg10 harg10 arg11 harg11 arg12 harg12 arg13 harg13 arg14 harg14 x0 x1 x2 xt0).1 hw (kernelRun0_3 c ic arg3 harg3 arg4 harg4 arg5 harg5 arg6 harg6 arg7 harg7 arg8 harg8 arg9 harg9 arg10 harg10 arg11 harg11 arg12 harg12 arg13 harg13 arg14 harg14 x0 x1 x2 xt0).2.1 f0 hO (f1.trans e1) (f2.trans e2) (f3.trans e3) (f4.trans e4) (f5.trans e5) (f6.trans e6)

/-- The blocks that the run leaves when the prefix reaches 4 of the 4 key blocks. -/
theorem res_4 (c : Dev nD) (ic : grid0.Coords) (arg3 : Memref sig .tc .vmem S1x480x512 .bf16) (harg3 : arg3.IsWhole) (arg4 : Memref sig .tc .vmem S1x160x512 .bf16) (harg4 : arg4.IsWhole) (arg5 : Memref sig .tc .vmem S1x160x512 .bf16) (harg5 : arg5.IsWhole) (arg6 : Memref sig .tc .vmem S1x480x512 .bf16) (harg6 : arg6.IsWhole) (arg7 : Memref sig .tc .vmem S1x3x160x512 .fp8e4m3) (harg7 : arg7.IsWhole) (arg8 : Memref sig .tc .vmem S1x3x1x512 .f32) (harg8 : arg8.IsWhole) (arg9 : Memref sig .tc .vmem S1x1x160x512 .fp8e4m3) (harg9 : arg9.IsWhole) (arg10 : Memref sig .tc .vmem S1x1x1x512 .f32) (harg10 : arg10.IsWhole) (arg11 : Memref sig .tc .vmem S1x1x160x512 .fp8e4m3) (harg11 : arg11.IsWhole) (arg12 : Memref sig .tc .vmem S1x1x160x1 .f32) (harg12 : arg12.IsWhole) (arg13 : Memref sig .tc .vmem S512x160 .fp8e4m3) (harg13 : arg13.IsWhole) (arg14 : Memref sig .tc .vmem S512x128 .f32) (harg14 : arg14.IsWhole)
    (x0 : Vec Ideal S1x480x512 .bf16) (x1 : Vec Ideal S1x160x512 .bf16) (x2 : Vec Ideal S1x160x512 .bf16) (xt0 : TbBuf0 (F := Ideal) c tbM0_0) {q : Fin 3 → Fin 160 → Fin 512 → ℝ} {k v : Fin 160 → Fin 512 → ℝ}
    (H : Ins x0 x1 x2 q k v) (h31 : (word0 c ic arg3 harg3 arg4 harg4 arg5 harg5 arg6 harg6 arg7 harg7 arg8 harg8 arg9 harg9 arg10 harg10 arg11 harg11 arg12 harg12 arg13 harg13 arg14 harg14 x0 x1 x2 xt0).toInt ≤ 2147483520) (h : k0_cond4 (word0 c ic arg3 harg3 arg4 harg4 arg5 harg5 arg6 harg6 arg7 harg7 arg8 harg8 arg9 harg9 arg10 harg10 arg11 harg11 arg12 harg12 arg13 harg13 arg14 harg14 x0 x1 x2 xt0) = 1#1) :
    Outs (res0_4 c ic arg3 harg3 arg4 harg4 arg5 harg5 arg6 harg6 arg7 harg7 arg8 harg8 arg9 harg9 arg10 harg10 arg11 harg11 arg12 harg12 arg13 harg13 arg14 harg14 x0 x1 x2 xt0) (word0 c ic arg3 harg3 arg4 harg4 arg5 harg5 arg6 harg6 arg7 harg7 arg8 harg8 arg9 harg9 arg10 harg10 arg11 harg11 arg12 harg12 arg13 harg13 arg14 harg14 x0 x1 x2 xt0) q k v := by
  obtain ⟨e1, e2, e3, e4, e5, e6⟩ := runQ_4 c ic arg3 harg3 arg4 harg4 arg5 harg5 arg6 harg6 arg7 harg7 arg8 harg8 arg9 harg9 arg10 harg10 arg11 harg11 arg12 harg12 arg13 harg13 arg14 harg14 x0 x1 x2 xt0
  have hw : (kernelRun0_4 c ic arg3 harg3 arg4 harg4 arg5 harg5 arg6 harg6 arg7 harg7 arg8 harg8 arg9 harg9 arg10 harg10 arg11 harg11 arg12 harg12 arg13 harg13 arg14 harg14 x0 x1 x2 xt0).1 = word0 c ic arg3 harg3 arg4 harg4 arg5 harg5 arg6 harg6 arg7 harg7 arg8 harg8 arg9 harg9 arg10 harg10 arg11 harg11 arg12 harg12 arg13 harg13 arg14 harg14 x0 x1 x2 xt0 := by sl_kernel_rfl
  have hO := runO_4 c ic arg3 harg3 arg4 harg4 arg5 harg5 arg6 harg6 arg7 harg7 arg8 harg8 arg9 harg9 arg10 harg10 arg11 harg11 arg12 harg12 arg13 harg13 arg14 harg14 x0 x1 x2 xt0
  have f0 : (res0_4 c ic arg3 harg3 arg4 harg4 arg5 harg5 arg6 harg6 arg7 harg7 arg8 harg8 arg9 harg9 arg10 harg10 arg11 harg11 arg12 harg12 arg13 harg13 arg14 harg14 x0 x1 x2 xt0).1 = View.canon (kernelRun0_4 c ic arg3 harg3 arg4 harg4 arg5 harg5 arg6 harg6 arg7 harg7 arg8 harg8 arg9 harg9 arg10 harg10 arg11 harg11 arg12 harg12 arg13 harg13 arg14 harg14 x0 x1 x2 xt0).2.1 := by sl_kernel_rfl
  have f1 : (res0_4 c ic arg3 harg3 arg4 harg4 arg5 harg5 arg6 harg6 arg7 harg7 arg8 harg8 arg9 harg9 arg10 harg10 arg11 harg11 arg12 harg12 arg13 harg13 arg14 harg14 x0 x1 x2 xt0).2.1 = (kernelRun0_4 c ic arg3 harg3 arg4 harg4 arg5 harg5 arg6 harg6 arg7 harg7 arg8 harg8 arg9 harg9 arg10 harg10 arg11 harg11 arg12 harg12 arg13 harg13 arg14 harg14 x0 x1 x2 xt0).2.2.1 := by sl_kernel_rfl
  have f2 : (res0_4 c ic arg3 harg3 arg4 harg4 arg5 harg5 arg6 harg6 arg7 harg7 arg8 harg8 arg9 harg9 arg10 harg10 arg11 harg11 arg12 harg12 arg13 harg13 arg14 harg14 x0 x1 x2 xt0).2.2.1 = (kernelRun0_4 c ic arg3 harg3 arg4 harg4 arg5 harg5 arg6 harg6 arg7 harg7 arg8 harg8 arg9 harg9 arg10 harg10 arg11 harg11 arg12 harg12 arg13 harg13 arg14 harg14 x0 x1 x2 xt0).2.2.2.1 := by sl_kernel_rfl
  have f3 : (res0_4 c ic arg3 harg3 arg4 harg4 arg5 harg5 arg6 harg6 arg7 harg7 arg8 harg8 arg9 harg9 arg10 harg10 arg11 harg11 arg12 harg12 arg13 harg13 arg14 harg14 x0 x1 x2 xt0).2.2.2.1 = (kernelRun0_4 c ic arg3 harg3 arg4 harg4 arg5 harg5 arg6 harg6 arg7 harg7 arg8 harg8 arg9 harg9 arg10 harg10 arg11 harg11 arg12 harg12 arg13 harg13 arg14 harg14 x0 x1 x2 xt0).2.2.2.2.1 := by sl_kernel_rfl
  have f4 : (res0_4 c ic arg3 harg3 arg4 harg4 arg5 harg5 arg6 harg6 arg7 harg7 arg8 harg8 arg9 harg9 arg10 harg10 arg11 harg11 arg12 harg12 arg13 harg13 arg14 harg14 x0 x1 x2 xt0).2.2.2.2.1 = (kernelRun0_4 c ic arg3 harg3 arg4 harg4 arg5 harg5 arg6 harg6 arg7 harg7 arg8 harg8 arg9 harg9 arg10 harg10 arg11 harg11 arg12 harg12 arg13 harg13 arg14 harg14 x0 x1 x2 xt0).2.2.2.2.2.1 := by sl_kernel_rfl
  have f5 : (res0_4 c ic arg3 harg3 arg4 harg4 arg5 harg5 arg6 harg6 arg7 harg7 arg8 harg8 arg9 harg9 arg10 harg10 arg11 harg11 arg12 harg12 arg13 harg13 arg14 harg14 x0 x1 x2 xt0).2.2.2.2.2.1 = (kernelRun0_4 c ic arg3 harg3 arg4 harg4 arg5 harg5 arg6 harg6 arg7 harg7 arg8 harg8 arg9 harg9 arg10 harg10 arg11 harg11 arg12 harg12 arg13 harg13 arg14 harg14 x0 x1 x2 xt0).2.2.2.2.2.2.1 := by sl_kernel_rfl
  have f6 : (res0_4 c ic arg3 harg3 arg4 harg4 arg5 harg5 arg6 harg6 arg7 harg7 arg8 harg8 arg9 harg9 arg10 harg10 arg11 harg11 arg12 harg12 arg13 harg13 arg14 harg14 x0 x1 x2 xt0).2.2.2.2.2.2 = (kernelRun0_4 c ic arg3 harg3 arg4 harg4 arg5 harg5 arg6 harg6 arg7 harg7 arg8 harg8 arg9 harg9 arg10 harg10 arg11 harg11 arg12 harg12 arg13 harg13 arg14 harg14 x0 x1 x2 xt0).2.2.2.2.2.2.2.1 := by sl_kernel_rfl
  have hr := (cond4_iff _).mp h
  have hi : ∀ i : Fin 4, 4 = max (i.val + 1) 4 := fun i => by have := i.isLt; omega
  exact outs_of harg3 harg4 harg5 harg7 harg11 harg13 harg14 H (word0 c ic arg3 harg3 arg4 harg4 arg5 harg5 arg6 harg6 arg7 harg7 arg8 harg8 arg9 harg9 arg10 harg10 arg11 harg11 arg12 harg12 arg13 harg13 arg14 harg14 x0 x1 x2 xt0) h31 4 (by decide) (by decide) hr (fun i => 4) hi (res0_4 c ic arg3 harg3 arg4 harg4 arg5 harg5 arg6 harg6 arg7 harg7 arg8 harg8 arg9 harg9 arg10 harg10 arg11 harg11 arg12 harg12 arg13 harg13 arg14 harg14 x0 x1 x2 xt0)
    (kernelRun0_4 c ic arg3 harg3 arg4 harg4 arg5 harg5 arg6 harg6 arg7 harg7 arg8 harg8 arg9 harg9 arg10 harg10 arg11 harg11 arg12 harg12 arg13 harg13 arg14 harg14 x0 x1 x2 xt0).1 hw (kernelRun0_4 c ic arg3 harg3 arg4 harg4 arg5 harg5 arg6 harg6 arg7 harg7 arg8 harg8 arg9 harg9 arg10 harg10 arg11 harg11 arg12 harg12 arg13 harg13 arg14 harg14 x0 x1 x2 xt0).2.1 f0 hO (f1.trans e1) (f2.trans e2) (f3.trans e3) (f4.trans e4) (f5.trans e5) (f6.trans e6)

end

end Cert.KernelIdeal.Gen

end
-- ==== Proof.Value.Embed.lean ====
/- Where a grid point's blocks lie in their arrays: batch row, head group, and the offsets inside the block. -/
module

public import proofs.«01_k».proof.Proof.Named.Body
public import Idealize.ShloMosaic.Lib.Pipeline.ValueKit
public import Idealize.ShloMosaic.Lib.Pointwise
public import Idealize.ShloMosaic.Lib.Claim
public import Idealize.ShloMosaic.Lib.WholeRead
public import Idealize.ShloMosaic.PureOps.Ideal

@[expose] public section

namespace Cert.KernelIdeal.Gen

open Idealize.ShloMosaic Idealize.ShloMosaic.TcCoe Idealize.ShloMosaic.Tactic
open Idealize.ShloMosaic.Pipeline (Dat Cfg Window)

/-- A table of zeros: no index map reads the table, so the windows are the same for every table. -/
def a0 : (pcfg0 (F := Ideal)).Adm := ⟨fun j => match j with | ⟨0, _⟩ => (fun _ => 0#32 : S4.Idx → BitVec 32), trivial⟩

/-- The blocks of each output cover its array. -/
theorem cov3 : ((cfg0 a0).win 3).Covers := by decide +kernel
theorem cov4 : ((cfg0 a0).win 4).Covers := by decide +kernel
theorem cov5 : ((cfg0 a0).win 5).Covers := by decide +kernel
theorem cov6 : ((cfg0 a0).win 6).Covers := by decide +kernel
theorem cov7 : ((cfg0 a0).win 7).Covers := by decide +kernel
theorem cov8 : ((cfg0 a0).win 8).Covers := by decide +kernel
theorem cov9 : ((cfg0 a0).win 9).Covers := by decide +kernel

/-- The batch row of a point, -/
def bAt (t : Fin grid0.N) : Fin 4 := grid0.coords t 0
/-- and its head group. -/
def gAt (t : Fin grid0.N) : Fin 6 := grid0.coords t 1

/-- Every index map sends a point to its batch row and head group. -/
theorem maps : ∀ t : Fin grid0.N,
    cc0_transform_0 (grid0.coords t) = ![(bAt t).val, (gAt t).val, 0] ∧ cc0_transform_1 (grid0.coords t) = ![(bAt t).val, (gAt t).val, 0]
    ∧ cc0_transform_2 (grid0.coords t) = ![(bAt t).val, (gAt t).val, 0] ∧ cc0_transform_3 (grid0.coords t) = ![(bAt t).val, (gAt t).val, 0]
    ∧ cc0_transform_4 (grid0.coords t) = ![(bAt t).val, (gAt t).val, 0, 0] ∧ cc0_transform_5 (grid0.coords t) = ![(bAt t).val, (gAt t).val, 0, 0]
    ∧ cc0_transform_6 (grid0.coords t) = ![(bAt t).val, (gAt t).val, 0, 0] ∧ cc0_transform_7 (grid0.coords t) = ![(bAt t).val, (gAt t).val, 0, 0]
    ∧ cc0_transform_8 (grid0.coords t) = ![(bAt t).val, (gAt t).val, 0, 0] ∧ cc0_transform_9 (grid0.coords t) = ![(bAt t).val, (gAt t).val, 0, 0] := by
  decide +kernel

/-- The table is read at the batch row. -/
theorem word_off : ∀ t : Fin grid0.N, k0_off1 (grid0.coords t) = ![(bAt t).val] := by decide +kernel

variable (m : (ℓ : Loc nD τ sig) → Buf (Elt Ideal) ℓ) (hO : Ok m) (c : Dev nD) (t : Fin (cfgM m hO).N)

/-- The query block, -/
theorem emb0 (p : Fin 1) (d : Fin 480) (s : Fin 512) :
    (((cfgM m hO).win 0).blk t).view.emb (ix3 p d s : S1x480x512.Idx) = (ix3 (bAt t) ⟨(gAt t).val * 480 + d.val, by omega⟩ s : S4x2880x512.Idx) := by
  funext a
  apply Fin.ext
  refine (Window.rect_emb_val ((cfgM m hO).win 0) t (ix3 p d s : S1x480x512.Idx) a rfl).trans ?_
  change cc0_transform_0 (grid0.coords t) a * _ + _ = _
  rw [(maps t).1]
  match a with
  | ⟨0, _⟩ => change (bAt t).val * 1 + p.val = (bAt t).val; omega
  | ⟨1, _⟩ => change (gAt t).val * 480 + d.val = (gAt t).val * 480 + d.val; rfl
  | ⟨2, _⟩ => change 0 * 512 + s.val = s.val; omega

/-- the key block, -/
theorem emb1 (p : Fin 1) (d : Fin 160) (s : Fin 512) :
    (((cfgM m hO).win 1).blk t).view.emb (ix3 p d s : S1x160x512.Idx) = (ix3 (bAt t) ⟨(gAt t).val * 160 + d.val, by omega⟩ s : S4x960x512.Idx) := by
  funext a
  apply Fin.ext
  refine (Window.rect_emb_val ((cfgM m hO).win 1) t (ix3 p d s : S1x160x512.Idx) a rfl).trans ?_
  change cc0_transform_1 (grid0.coords t) a * _ + _ = _
  rw [(maps t).2.1]
  match a with
  | ⟨0, _⟩ => change (bAt t).val * 1 + p.val = (bAt t).val; omega
  | ⟨1, _⟩ => change (gAt t).val * 160 + d.val = (gAt t).val * 160 + d.val; rfl
  | ⟨2, _⟩ => change 0 * 512 + s.val = s.val; omega

/-- the value block, -/
theorem emb2 (p : Fin 1) (d : Fin 160) (s : Fin 512) :
    (((cfgM m hO).win 2).blk t).view.emb (ix3 p d s : S1x160x512.Idx) = (ix3 (bAt t) ⟨(gAt t).val * 160 + d.val, by omega⟩ s : S4x960x512.Idx) := by
  funext a
  apply Fin.ext
  refine (Window.rect_emb_val ((cfgM m hO).win 2) t (ix3 p d s : S1x160x512.Idx) a rfl).trans ?_
  change cc0_transform_2 (grid0.coords t) a * _ + _ = _
  rw [(maps t).2.2.1]
  match a with
  | ⟨0, _⟩ => change (bAt t).val * 1 + p.val = (bAt t).val; omega
  | ⟨1, _⟩ => change (gAt t).val * 160 + d.val = (gAt t).val * 160 + d.val; rfl
  | ⟨2, _⟩ => change 0 * 512 + s.val = s.val; omega

/-- the output block, -/
theorem emb3 (p : Fin 1) (d : Fin 480) (s : Fin 512) :
    (((cfgM m hO).win 3).blk t).view.emb (ix3 p d s : S1x480x512.Idx) = (ix3 (bAt t) ⟨(gAt t).val * 480 + d.val, by omega⟩ s : S4x2880x512.Idx) := by
  funext a
  apply Fin.ext
  refine (Window.rect_emb_val ((cfgM m hO).win 3) t (ix3 p d s : S1x480x512.Idx) a rfl).trans ?_
  change cc0_transform_3 (grid0.coords t) a * _ + _ = _
  rw [(maps t).2.2.2.1]
  match a with
  | ⟨0, _⟩ => change (bAt t).val * 1 + p.val = (bAt t).val; omega
  | ⟨1, _⟩ => change (gAt t).val * 480 + d.val = (gAt t).val * 480 + d.val; rfl
  | ⟨2, _⟩ => change 0 * 512 + s.val = s.val; omega

/-- the query codes, -/
theorem emb4 (p : Fin 1) (h : Fin 3) (d : Fin 160) (s : Fin 512) :
    (((cfgM m hO).win 4).blk t).view.emb (ix4 p h d s : S1x3x160x512.Idx) = (ix4 (bAt t) ⟨(gAt t).val * 3 + h.val, by omega⟩ d s : S4x18x160x512.Idx) := by
  funext a
  apply Fin.ext
  refine (Window.rect_emb_val ((cfgM m hO).win 4) t (ix4 p h d s : S1x3x160x512.Idx) a rfl).trans ?_
  change cc0_transform_4 (grid0.coords t) a * _ + _ = _
  rw [(maps t).2.2.2.2.1]
  match a with
  | ⟨0, _⟩ => change (bAt t).val * 1 + p.val = (bAt t).val; omega
  | ⟨1, _⟩ => change (gAt t).val * 3 + h.val = (gAt t).val * 3 + h.val; rfl
  | ⟨2, _⟩ => change 0 * 160 + d.val = d.val; omega
  | ⟨3, _⟩ => change 0 * 512 + s.val = s.val; omega

/-- the query scales, -/
theorem emb5 (p : Fin 1) (h : Fin 3) (d : Fin 1) (s : Fin 512) :
    (((cfgM m hO).win 5).blk t).view.emb (ix4 p h d s : S1x3x1x512.Idx) = (ix4 (bAt t) ⟨(gAt t).val * 3 + h.val, by omega⟩ d s : S4x18x1x512.Idx) := by
  funext a
  apply Fin.ext
  refine (Window.rect_emb_val ((cfgM m hO).win 5) t (ix4 p h d s : S1x3x1x512.Idx) a rfl).trans ?_
  change cc0_transform_5 (grid0.coords t) a * _ + _ = _
  rw [(maps t).2.2.2.2.2.1]
  match a with
  | ⟨0, _⟩ => change (bAt t).val * 1 + p.val = (bAt t).val; omega
  | ⟨1, _⟩ => change (gAt t).val * 3 + h.val = (gAt t).val * 3 + h.val; rfl
  | ⟨2, _⟩ => change 0 * 1 + d.val = d.val; omega
  | ⟨3, _⟩ => change 0 * 512 + s.val = s.val; omega

/-- the key codes, -/
theorem emb6 (p : Fin 1) (h : Fin 1) (d : Fin 160) (s : Fin 512) :
    (((cfgM m hO).win 6).blk t).view.emb (ix4 p h d s : S1x1x160x512.Idx) = (ix4 (bAt t) (gAt t) d s : S4x6x160x512.Idx) := by
  funext a
  apply Fin.ext
  refine (Window.rect_emb_val ((cfgM m hO).win 6) t (ix4 p h d s : S1x1x160x512.Idx) a rfl).trans ?_
  change cc0_transform_6 (grid0.coords t) a * _ + _ = _
  rw [(maps t).2.2.2.2.2.2.1]
  match a with
  | ⟨0, _⟩ => change (bAt t).val * 1 + p.val = (bAt t).val; omega
  | ⟨1, _⟩ => change (gAt t).val * 1 + h.val = (gAt t).val; omega
  | ⟨2, _⟩ => change 0 * 160 + d.val = d.val; omega
  | ⟨3, _⟩ => change 0 * 512 + s.val = s.val; omega

/-- the key scales, -/
theorem emb7 (p : Fin 1) (h : Fin 1) (d : Fin 1) (s : Fin 512) :
    (((cfgM m hO).win 7).blk t).view.emb (ix4 p h d s : S1x1x1x512.Idx) = (ix4 (bAt t) (gAt t) d s : S4x6x1x512.Idx) := by
  funext a
  apply Fin.ext
  refine (Window.rect_emb_val ((cfgM m hO).win 7) t (ix4 p h d s : S1x1x1x512.Idx) a rfl).trans ?_
  change cc0_transform_7 (grid0.coords t) a * _ + _ = _
  rw [(maps t).2.2.2.2.2.2.2.1]
  match a with
  | ⟨0, _⟩ => change (bAt t).val * 1 + p.val = (bAt t).val; omega
  | ⟨1, _⟩ => change (gAt t).val * 1 + h.val = (gAt t).val; omega
  | ⟨2, _⟩ => change 0 * 1 + d.val = d.val; omega
  | ⟨3, _⟩ => change 0 * 512 + s.val = s.val; omega

/-- the value codes, -/
theorem emb8 (p : Fin 1) (h : Fin 1) (d : Fin 160) (s : Fin 512) :
    (((cfgM m hO).win 8).blk t).view.emb (ix4 p h d s : S1x1x160x512.Idx) = (ix4 (bAt t) (gAt t) d s : S4x6x160x512.Idx) := by
  funext a
  apply Fin.ext
  refine (Window.rect_emb_val ((cfgM m hO).win 8) t (ix4 p h d s : S1x1x160x512.Idx) a rfl).trans ?_
  change cc0_transform_8 (grid0.coords t) a * _ + _ = _
  rw [(maps t).2.2.2.2.2.2.2.2.1]
  match a with
  | ⟨0, _⟩ => change (bAt t).val * 1 + p.val = (bAt t).val; omega
  | ⟨1, _⟩ => change (gAt t).val * 1 + h.val = (gAt t).val; omega
  | ⟨2, _⟩ => change 0 * 160 + d.val = d.val; omega
  | ⟨3, _⟩ => change 0 * 512 + s.val = s.val; omega

/-- and the value scales. -/
theorem emb9 (p : Fin 1) (h : Fin 1) (d : Fin 160) (s : Fin 1) :
    (((cfgM m hO).win 9).blk t).view.emb (ix4 p h d s : S1x1x160x1.Idx) = (ix4 (bAt t) (gAt t) d s : S4x6x160x1.Idx) := by
  funext a
  apply Fin.ext
  refine (Window.rect_emb_val ((cfgM m hO).win 9) t (ix4 p h d s : S1x1x160x1.Idx) a rfl).trans ?_
  change cc0_transform_9 (grid0.coords t) a * _ + _ = _
  rw [(maps t).2.2.2.2.2.2.2.2.2]
  match a with
  | ⟨0, _⟩ => change (bAt t).val * 1 + p.val = (bAt t).val; omega
  | ⟨1, _⟩ => change (gAt t).val * 1 + h.val = (gAt t).val; omega
  | ⟨2, _⟩ => change 0 * 160 + d.val = d.val; omega
  | ⟨3, _⟩ => change 0 * 1 + s.val = s.val; omega

/-- The prefix length of a point is the table's word of its batch row. -/
theorem wordAt_eq : wordAt m hO c t = (m (((0 : Dev nD) : Thread nD τ).loc main_arg3) : S4.Idx → BitVec 32) (ix1 (bAt t)) := by
  rw [← V_main_arg3 m 0]
  change kernelRun0_1.sl.r c (grid0.coords t) (tbl m 0) = (tbl m 0 : S4.Idx → BitVec 32) (ix1 (bAt t))
  unfold kernelRun0_1.sl.r
  generalize tbl m 0 = z
  change (z : S4.Idx → BitVec 32) _ = _
  refine congrArg (z : S4.Idx → BitVec 32) (funext fun a => Fin.ext ?_)
  match a with
  | ⟨0, _⟩ =>
    change k0_off1 (grid0.coords t) 0 + 1 * 0 = (bAt t).val
    rw [word_off]
    rfl

/-- The region finds the queries transposed, -/
theorem V_v0 (b : Fin 4) (d : Fin 2880) (s : Fin 512) : (V m c main_v0 : S4x2880x512.Idx → EReal) (ix3 b d s) = (m ((c : Thread nD τ).loc main_arg0) : S4x512x2880.Idx → EReal) (ix3 b s d) := by
  have h : (V m c main_v0 : FVec Ideal S4x2880x512 .bf16) = transpose S4x2880x512 [0, 2, 1] (m ((c : Thread nD τ).loc main_arg0) : FVec Ideal S4x512x2880 .bf16) transposes_S4x512x2880_S4x2880x512_0_2_1 := by sl_kernel_rfl
  rw [h]
  pointwise
/-- the keys, -/
theorem V_v1 (b : Fin 4) (d : Fin 960) (s : Fin 512) : (V m c main_v1 : S4x960x512.Idx → EReal) (ix3 b d s) = (m ((c : Thread nD τ).loc main_arg1) : S4x512x960.Idx → EReal) (ix3 b s d) := by
  have h : (V m c main_v1 : FVec Ideal S4x960x512 .bf16) = transpose S4x960x512 [0, 2, 1] (m ((c : Thread nD τ).loc main_arg1) : FVec Ideal S4x512x960 .bf16) transposes_S4x512x960_S4x960x512_0_2_1 := by sl_kernel_rfl
  rw [h]
  pointwise
/-- and the values. -/
theorem V_v2 (b : Fin 4) (d : Fin 960) (s : Fin 512) : (V m c main_v2 : S4x960x512.Idx → EReal) (ix3 b d s) = (m ((c : Thread nD τ).loc main_arg2) : S4x512x960.Idx → EReal) (ix3 b s d) := by
  have h : (V m c main_v2 : FVec Ideal S4x960x512 .bf16) = transpose S4x960x512 [0, 2, 1] (m ((c : Thread nD τ).loc main_arg2) : FVec Ideal S4x512x960 .bf16) transposes_S4x512x960_S4x960x512_0_2_1 := by sl_kernel_rfl
  rw [h]
  pointwise

/-- So an element of the query block is an element of the queries, -/
theorem iblk0 (p : Fin 1) (d : Fin 480) (s : Fin 512) : (iblk m hO c 0 t : S1x480x512.Idx → EReal) (ix3 p d s) = (m ((c : Thread nD τ).loc main_arg0) : S4x512x2880.Idx → EReal) (ix3 (bAt t) s ⟨(gAt t).val * 480 + d.val, by omega⟩) := by
  unfold iblk
  exact (congrArg (V m c main_v0 : S4x2880x512.Idx → EReal) (emb0 m hO t p d s)).trans (V_v0 m c _ _ s)
/-- of the key block of the keys, -/
theorem iblk1 (p : Fin 1) (d : Fin 160) (s : Fin 512) : (iblk m hO c 1 t : S1x160x512.Idx → EReal) (ix3 p d s) = (m ((c : Thread nD τ).loc main_arg1) : S4x512x960.Idx → EReal) (ix3 (bAt t) s ⟨(gAt t).val * 160 + d.val, by omega⟩) := by
  unfold iblk
  exact (congrArg (V m c main_v1 : S4x960x512.Idx → EReal) (emb1 m hO t p d s)).trans (V_v1 m c _ _ s)
/-- and of the value block of the values. -/
theorem iblk2 (p : Fin 1) (d : Fin 160) (s : Fin 512) : (iblk m hO c 2 t : S1x160x512.Idx → EReal) (ix3 p d s) = (m ((c : Thread nD τ).loc main_arg2) : S4x512x960.Idx → EReal) (ix3 (bAt t) s ⟨(gAt t).val * 160 + d.val, by omega⟩) := by
  unfold iblk
  exact (congrArg (V m c main_v2 : S4x960x512.Idx → EReal) (emb2 m hO t p d s)).trans (V_v2 m c _ _ s)

end Cert.KernelIdeal.Gen

end
-- ==== Proof.Value.Arrays.lean ====
/- What the seven output arrays hold after the run, over the reals, and what the host lines after the call make of them. -/
module

public import proofs.«01_k».proof.Proof.Value.Point
public import proofs.«01_k».proof.Proof.Value.Embed

@[expose] public section

namespace Cert.KernelIdeal.Gen

open Idealize.ShloMosaic Idealize.ShloMosaic.TcCoe Idealize.ShloMosaic.Tactic
open Idealize.ShloMosaic.Pipeline (Dat Cfg Window)
open Cert.Spec Cert.Att

variable (m : (ℓ : Loc nD τ sig) → Buf (Elt Ideal) ℓ) (hO : Ok m) (c : Dev nD)

/-- The prefix length of a batch row. -/
def pk (b : Fin 4) : BitVec 32 := (m (((0 : Dev nD) : Thread nD τ).loc main_arg3) : S4.Idx → BitVec 32) (ix1 b)

/-- The arguments hold real numbers of bounded magnitude, and the prefix lengths are bounded. -/
structure Inputs (x0 : (⟨3, ![4, 512, 2880]⟩ : Shape).Idx → ℝ) (x1 x2 : (⟨3, ![4, 512, 960]⟩ : Shape).Idx → ℝ) : Prop where
  a0 : ∀ i, (m ((c : Thread nD τ).loc main_arg0) : S4x512x2880.Idx → EReal) i = ((x0 i : ℝ) : EReal)
  a1 : ∀ i, (m ((c : Thread nD τ).loc main_arg1) : S4x512x960.Idx → EReal) i = ((x1 i : ℝ) : EReal)
  a2 : ∀ i, (m ((c : Thread nD τ).loc main_arg2) : S4x512x960.Idx → EReal) i = ((x2 i : ℝ) : EReal)
  b0 : ∀ i, |x0 i| ≤ bmax
  b1 : ∀ i, |x1 i| ≤ bmax
  b2 : ∀ i, |x2 i| ≤ bmax
  p3 : ∀ b, (pk m b).toInt ≤ 2147483520

variable {m hO c}
variable {x0 : (⟨3, ![4, 512, 2880]⟩ : Shape).Idx → ℝ} {x1 x2 : (⟨3, ![4, 512, 960]⟩ : Shape).Idx → ℝ} (H : Inputs m c x0 x1 x2)

/-- A query head of a group. -/
def hd (g : Fin 6) (r : Fin 3) : Fin 18 := ⟨g * 3 + r, by omega⟩

include H in
/-- The blocks a point reads. -/
theorem Inputs.ins (t : Fin (cfgM m hO).N) : Ins (iblk m hO c 0 t) (iblk m hO c 1 t) (iblk m hO c 2 t)
    (fun h d s => qv x0 (bAt t) s (hd (gAt t) h) d) (fun d s => kv x1 (bAt t) s (gAt t) d) (fun d s => vv x2 (bAt t) (gAt t) d s) where
  q0 h d s := by
    refine (iblk0 m hO c t 0 _ s).trans ((H.a0 _).trans (congrArg (fun r : ℝ => (r : EReal)) ?_))
    refine congrArg x0 (congrArg (ix3 (bAt t) s) (Fin.ext ?_))
    simp only [hd]; omega
  qb h d s := H.b0 _
  k0 := ⟨fun d s => (iblk1 m hO c t 0 d s).trans (H.a1 _), fun d s => H.b1 _⟩
  v0 := ⟨fun d s => (iblk2 m hO c t 0 d s).trans (H.a2 _), fun d s => H.b2 _⟩

include H in
/-- The blocks a point leaves. -/
theorem Inputs.outs (t : Fin (cfgM m hO).N) : Outs (outsAt0 m hO c t) (pk m (bAt t))
    (fun h d s => qv x0 (bAt t) s (hd (gAt t) h) d) (fun d s => kv x1 (bAt t) s (gAt t) d) (fun d s => vv x2 (bAt t) (gAt t) d s) := by
  have h31 : (wordAt m hO c t).toInt ≤ 2147483520 := by rw [wordAt_eq]; exact H.p3 (bAt t)
  rw [show pk m (bAt t) = wordAt m hO c t from (wordAt_eq m hO c t).symm]
  rcases cond_cases (wordAt m hO c t) with h | h | h | h
  · rw [outsAt0_1 m hO c t h.1]; exact res_1 (H := H.ins t) (h31 := h31) (h := h.1)
  · rw [outsAt0_2 m hO c t h.2.1]; exact res_2 (H := H.ins t) (h31 := h31) (h := h.2.1)
  · rw [outsAt0_3 m hO c t h.2.2.1]; exact res_3 (H := H.ins t) (h31 := h31) (h := h.2.2.1)
  · rw [outsAt0_4 m hO c t h.2.2.2]; exact res_4 (H := H.ins t) (h31 := h31) (h := h.2.2.2)

/-- Every index is one of its coordinates. -/
theorem ex3 {n0 n1 n2 : ℕ} (y : (⟨3, ![n0, n1, n2]⟩ : Shape).Idx) : ∃ p d s, y = ix3 p d s := ⟨y 0, y 1, y 2, eq_ix3 y⟩
theorem ex4 {n0 n1 n2 n3 : ℕ} (y : (⟨4, ![n0, n1, n2, n3]⟩ : Shape).Idx) : ∃ p h d s, y = ix4 p h d s := ⟨y 0, y 1, y 2, y 3, eq_ix4 y⟩

/-! ## The seven arrays -/

/-- The attention of every position, -/
noncomputable def G3 (m : (ℓ : Loc nD τ sig) → Buf (Elt Ideal) ℓ) (x0 : (⟨3, ![4, 512, 2880]⟩ : Shape).Idx → ℝ) (x1 x2 : (⟨3, ![4, 512, 960]⟩ : Shape).Idx → ℝ) : S4x2880x512.Idx → EReal := fun i =>
  have h1 : (i 1).val < 2880 := (i 1).isLt
  attn (pk m (i 0)) (i 2).val (qv x0 (i 0) (i 2) ⟨(i 1).val / 160, by omega⟩) (fun j => kv x1 (i 0) j ⟨(i 1).val / 480, by omega⟩)
    (vv x2 (i 0) ⟨(i 1).val / 480, by omega⟩ ⟨(i 1).val % 160, by omega⟩)

theorem G3_apply (b : Fin 4) (s : Fin 512) (g : Fin 6) (r : Fin 3) (d : Fin 160) (j : Fin 2880) (hj : j.val = (g.val * 3 + r.val) * 160 + d.val) :
    G3 m x0 x1 x2 (ix3 b j s) = attn (pk m b) s.val (qv x0 b s (hd g r)) (fun k => kv x1 b k g) (vv x2 b g d) := by
  have e1 : (⟨j.val / 160, by omega⟩ : Fin 18) = hd g r := Fin.ext (by simp only [hd]; omega)
  have e2 : (⟨j.val / 480, by omega⟩ : Fin 6) = g := Fin.ext (by simp only []; omega)
  have e3 : (⟨j.val % 160, by omega⟩ : Fin 160) = d := Fin.ext (by simp only []; omega)
  change attn (pk m b) s.val (qv x0 b s ⟨j.val / 160, _⟩) (fun k => kv x1 b k ⟨j.val / 480, _⟩) (vv x2 b ⟨j.val / 480, _⟩ ⟨j.val % 160, _⟩) = _
  rw [e1, e2, e3]

include H in
theorem final3 : (dats m hO 0 c).arrAt 3 (cfgM m hO).N = G3 m x0 x1 x2 := by
  refine (dats m hO 0 c).arrAt_eq_of_covers 3 (G3 m x0 x1 x2) cov3 fun t _ y => ?_
  obtain ⟨p, d, s, rfl⟩ : ∃ p d s, y = (ix3 p d s : S1x480x512.Idx) := ex3 (n0 := 1) (n1 := 480) (n2 := 512) y
  obtain rfl : p = 0 := Subsingleton.elim _ _
  obtain ⟨h, e, rfl⟩ : ∃ (h : Fin 3) (e : Fin 160), d = ⟨160 * h.val + e.val, by omega⟩ :=
    ⟨⟨d.val / 160, by have := d.isLt; omega⟩, ⟨d.val % 160, by omega⟩, Fin.ext (by simp only []; omega)⟩
  rw [after0_3]
  refine ((H.outs t).out h e s).trans ?_
  refine Eq.trans ?_ (congrArg (G3 m x0 x1 x2) (emb3 m hO t 0 _ s).symm)
  exact (G3_apply (bAt t) s (gAt t) h e _ (by simp only []; omega)).symm

/-- the query codes, -/
noncomputable def G4 (x0 : (⟨3, ![4, 512, 2880]⟩ : Shape).Idx → ℝ) : S4x18x160x512.Idx → EReal := fun i => ((cd (qv x0 (i 0) (i 3) (i 1)) (i 2) : ℝ) : EReal)
theorem G4_at (b : Fin 4) (h : Fin 18) (d : Fin 160) (s : Fin 512) : G4 x0 (ix4 b h d s) = ((cd (qv x0 b s h) d : ℝ) : EReal) := by
  unfold G4; rfl
include H in
theorem final4 : (dats m hO 0 c).arrAt 4 (cfgM m hO).N = G4 x0 := by
  refine (dats m hO 0 c).arrAt_eq_of_covers 4 (G4 x0) cov4 fun t _ y => ?_
  obtain ⟨p, h, d, s, rfl⟩ : ∃ p h d s, y = (ix4 p h d s : S1x3x160x512.Idx) := ex4 (n0 := 1) (n1 := 3) (n2 := 160) (n3 := 512) y
  obtain rfl : p = 0 := Subsingleton.elim _ _
  rw [after0_4]
  refine ((H.outs t).qc h d s).trans ?_
  refine Eq.trans ?_ (congrArg (G4 x0) (emb4 m hO t 0 h d s).symm)
  rw [G4_at]
  rfl

/-- the query scales, -/
noncomputable def G5 (x0 : (⟨3, ![4, 512, 2880]⟩ : Shape).Idx → ℝ) : S4x18x1x512.Idx → EReal := fun i => (((2 : ℝ) ^ sc (qv x0 (i 0) (i 3) (i 1)) : ℝ) : EReal)
theorem G5_at (b : Fin 4) (h : Fin 18) (d : Fin 1) (s : Fin 512) : G5 x0 (ix4 b h d s) = (((2 : ℝ) ^ sc (qv x0 b s h) : ℝ) : EReal) := by
  unfold G5; rfl
include H in
theorem final5 : (dats m hO 0 c).arrAt 5 (cfgM m hO).N = G5 x0 := by
  refine (dats m hO 0 c).arrAt_eq_of_covers 5 (G5 x0) cov5 fun t _ y => ?_
  obtain ⟨p, h, d, s, rfl⟩ : ∃ p h d s, y = (ix4 p h d s : S1x3x1x512.Idx) := ex4 (n0 := 1) (n1 := 3) (n2 := 1) (n3 := 512) y
  obtain rfl : p = 0 := Subsingleton.elim _ _
  obtain rfl : d = 0 := Subsingleton.elim _ _
  rw [after0_5]
  refine ((H.outs t).qs h s).trans ?_
  refine Eq.trans ?_ (congrArg (G5 x0) (emb5 m hO t 0 h 0 s).symm)
  rw [G5_at]
  rfl

/-- the key codes, -/
noncomputable def G6 (x1 : (⟨3, ![4, 512, 960]⟩ : Shape).Idx → ℝ) : S4x6x160x512.Idx → EReal := fun i => ((cd (kv x1 (i 0) (i 3) (i 1)) (i 2) : ℝ) : EReal)
theorem G6_at (b : Fin 4) (h : Fin 6) (d : Fin 160) (s : Fin 512) : G6 x1 (ix4 b h d s) = ((cd (kv x1 b s h) d : ℝ) : EReal) := by
  unfold G6; rfl
include H in
theorem final6 : (dats m hO 0 c).arrAt 6 (cfgM m hO).N = G6 x1 := by
  refine (dats m hO 0 c).arrAt_eq_of_covers 6 (G6 x1) cov6 fun t _ y => ?_
  obtain ⟨p, h, d, s, rfl⟩ : ∃ p h d s, y = (ix4 p h d s : S1x1x160x512.Idx) := ex4 (n0 := 1) (n1 := 1) (n2 := 160) (n3 := 512) y
  obtain rfl : p = 0 := Subsingleton.elim _ _
  obtain rfl : h = 0 := Subsingleton.elim _ _
  rw [after0_6]
  refine ((H.outs t).kc d s).trans ?_
  refine Eq.trans ?_ (congrArg (G6 x1) (emb6 m hO t 0 0 d s).symm)
  rw [G6_at]

/-- the key scales, -/
noncomputable def G7 (x1 : (⟨3, ![4, 512, 960]⟩ : Shape).Idx → ℝ) : S4x6x1x512.Idx → EReal := fun i => (((2 : ℝ) ^ sc (kv x1 (i 0) (i 3) (i 1)) : ℝ) : EReal)
theorem G7_at (b : Fin 4) (h : Fin 6) (d : Fin 1) (s : Fin 512) : G7 x1 (ix4 b h d s) = (((2 : ℝ) ^ sc (kv x1 b s h) : ℝ) : EReal) := by
  unfold G7; rfl
include H in
theorem final7 : (dats m hO 0 c).arrAt 7 (cfgM m hO).N = G7 x1 := by
  refine (dats m hO 0 c).arrAt_eq_of_covers 7 (G7 x1) cov7 fun t _ y => ?_
  obtain ⟨p, h, d, s, rfl⟩ : ∃ p h d s, y = (ix4 p h d s : S1x1x1x512.Idx) := ex4 (n0 := 1) (n1 := 1) (n2 := 1) (n3 := 512) y
  obtain rfl : p = 0 := Subsingleton.elim _ _
  obtain rfl : h = 0 := Subsingleton.elim _ _
  obtain rfl : d = 0 := Subsingleton.elim _ _
  rw [after0_7]
  refine ((H.outs t).ks s).trans ?_
  refine Eq.trans ?_ (congrArg (G7 x1) (emb7 m hO t 0 0 0 s).symm)
  rw [G7_at]

/-- the value codes, -/
noncomputable def G8 (x2 : (⟨3, ![4, 512, 960]⟩ : Shape).Idx → ℝ) : S4x6x160x512.Idx → EReal := fun i => ((cd (vv x2 (i 0) (i 1) (i 2)) (i 3) : ℝ) : EReal)
theorem G8_at (b : Fin 4) (h : Fin 6) (d : Fin 160) (s : Fin 512) : G8 x2 (ix4 b h d s) = ((cd (vv x2 b h d) s : ℝ) : EReal) := by
  unfold G8; rfl
include H in
theorem final8 : (dats m hO 0 c).arrAt 8 (cfgM m hO).N = G8 x2 := by
  refine (dats m hO 0 c).arrAt_eq_of_covers 8 (G8 x2) cov8 fun t _ y => ?_
  obtain ⟨p, h, d, s, rfl⟩ : ∃ p h d s, y = (ix4 p h d s : S1x1x160x512.Idx) := ex4 (n0 := 1) (n1 := 1) (n2 := 160) (n3 := 512) y
  obtain rfl : p = 0 := Subsingleton.elim _ _
  obtain rfl : h = 0 := Subsingleton.elim _ _
  rw [after0_8]
  refine ((H.outs t).vc d s).trans ?_
  refine Eq.trans ?_ (congrArg (G8 x2) (emb8 m hO t 0 0 d s).symm)
  rw [G8_at]

/-- and the value scales. -/
noncomputable def G9 (x2 : (⟨3, ![4, 512, 960]⟩ : Shape).Idx → ℝ) : S4x6x160x1.Idx → EReal := fun i => (((2 : ℝ) ^ sc (vv x2 (i 0) (i 1) (i 2)) : ℝ) : EReal)
theorem G9_at (b : Fin 4) (h : Fin 6) (d : Fin 160) (s : Fin 1) : G9 x2 (ix4 b h d s) = (((2 : ℝ) ^ sc (vv x2 b h d) : ℝ) : EReal) := by
  unfold G9; rfl
include H in
theorem final9 : (dats m hO 0 c).arrAt 9 (cfgM m hO).N = G9 x2 := by
  refine (dats m hO 0 c).arrAt_eq_of_covers 9 (G9 x2) cov9 fun t _ y => ?_
  obtain ⟨p, h, d, s, rfl⟩ : ∃ p h d s, y = (ix4 p h d s : S1x1x160x1.Idx) := ex4 (n0 := 1) (n1 := 1) (n2 := 160) (n3 := 1) y
  obtain rfl : p = 0 := Subsingleton.elim _ _
  obtain rfl : h = 0 := Subsingleton.elim _ _
  obtain rfl : s = 0 := Subsingleton.elim _ _
  rw [after0_9]
  refine ((H.outs t).vs d).trans ?_
  refine Eq.trans ?_ (congrArg (G9 x2) (emb9 m hO t 0 0 d 0).symm)
  rw [G9_at]

end Cert.KernelIdeal.Gen

end
-- ==== Proof.Value.Results.lean ====
/- The seven results of the program, read off the arrays by the host lines after the call. -/
module

public import proofs.«01_k».proof.Proof.Value.Arrays
public import proofs.«01_k».proof.Proof.Named.Frame

@[expose] public section

namespace Cert.KernelIdeal.Gen

open Idealize.ShloMosaic Idealize.ShloMosaic.TcCoe Idealize.ShloMosaic.Tactic
open Idealize.ShloMosaic.Pipeline (Dat Cfg Window)
open Cert.Spec Cert.Att

/-- No two windows have one array. -/
theorem arr_inj : Function.Injective (Pipeline.arrRef spec0) := by decide

/-! ## The host lines after the call, over any contents -/

theorem tail_v4 (σ : Valuation τ sig (Elt Ideal)) :
    (StableHlo.after [hostOps1].flatten σ (Proc.devRef .tc main_v4) : FVec Ideal S4x512x2880 .bf16)
      = transpose S4x512x2880 [0, 2, 1] (σ (Proc.devRef .tc main_v3_0) : FVec Ideal S4x2880x512 .bf16) transposes_S4x2880x512_S4x512x2880_0_2_1 := by sl_kernel_rfl
theorem tail_v5 (σ : Valuation τ sig (Elt Ideal)) :
    (StableHlo.after [hostOps1].flatten σ (Proc.devRef .tc main_v5) : FVec Ideal S4x512x18x160 .fp8e4m3)
      = transpose S4x512x18x160 [0, 3, 1, 2] (σ (Proc.devRef .tc main_v3_1) : FVec Ideal S4x18x160x512 .fp8e4m3) transposes_S4x18x160x512_S4x512x18x160_0_3_1_2 := by sl_kernel_rfl
theorem tail_v7 (σ : Valuation τ sig (Elt Ideal)) :
    (StableHlo.after [hostOps1].flatten σ (Proc.devRef .tc main_v7) : FVec Ideal S4x512x18 .f32)
      = transpose S4x512x18 [0, 2, 1] (shapeCast S4x18x512 (σ (Proc.devRef .tc main_v3_2) : FVec Ideal S4x18x1x512 .f32) shapeCasts_S4x18x1x512_S4x18x512) transposes_S4x18x512_S4x512x18_0_2_1 := by sl_kernel_rfl
theorem tail_v8 (σ : Valuation τ sig (Elt Ideal)) :
    (StableHlo.after [hostOps1].flatten σ (Proc.devRef .tc main_v8) : FVec Ideal S4x512x6x160 .fp8e4m3)
      = transpose S4x512x6x160 [0, 3, 1, 2] (σ (Proc.devRef .tc main_v3_3) : FVec Ideal S4x6x160x512 .fp8e4m3) transposes_S4x6x160x512_S4x512x6x160_0_3_1_2 := by sl_kernel_rfl
theorem tail_v10 (σ : Valuation τ sig (Elt Ideal)) :
    (StableHlo.after [hostOps1].flatten σ (Proc.devRef .tc main_v10) : FVec Ideal S4x512x6 .f32)
      = transpose S4x512x6 [0, 2, 1] (shapeCast S4x6x512 (σ (Proc.devRef .tc main_v3_4) : FVec Ideal S4x6x1x512 .f32) shapeCasts_S4x6x1x512_S4x6x512) transposes_S4x6x512_S4x512x6_0_2_1 := by sl_kernel_rfl
theorem tail_v11 (σ : Valuation τ sig (Elt Ideal)) :
    (StableHlo.after [hostOps1].flatten σ (Proc.devRef .tc main_v11) : FVec Ideal S4x512x6x160 .fp8e4m3)
      = transpose S4x512x6x160 [0, 3, 1, 2] (σ (Proc.devRef .tc main_v3_5) : FVec Ideal S4x6x160x512 .fp8e4m3) transposes_S4x6x160x512_S4x512x6x160_0_3_1_2 := by sl_kernel_rfl
theorem tail_v12 (σ : Valuation τ sig (Elt Ideal)) :
    (StableHlo.after [hostOps1].flatten σ (Proc.devRef .tc main_v12) : FVec Ideal S4x6x160 .f32)
      = shapeCast S4x6x160 (σ (Proc.devRef .tc main_v3_6) : FVec Ideal S4x6x160x1 .f32) shapeCasts_S4x6x160x1_S4x6x160 := by sl_kernel_rfl

variable (m : (ℓ : Loc nD τ sig) → Buf (Elt Ideal) ℓ) (hO : Ok m) (c : Dev nD)

/-- What a buffer holds when the program ends. -/
noncomputable abbrev endAt (b : Ref sig .tc) : Buf (Elt Ideal) ((c : Thread nD τ).loc b) :=
  Pipeline.afterTail pcfgs (fun _ => adm m hO) (dats m hO) 0 (V0 m) [hostOps1] c b

/-! ## The results, from the arrays -/

/-- Output array 0 after the call. -/
noncomputable def arr3 : FVec Ideal S4x2880x512 .bf16 := (dats m hO 0 c).arrAt 3 (cfgM m hO).N
theorem end_v4 : (endAt m hO c main_v4 : FVec Ideal S4x512x2880 .bf16)
    = transpose S4x512x2880 [0, 2, 1] (arr3 m hO c) transposes_S4x2880x512_S4x512x2880_0_2_1 :=
  (tail_v4 _).trans (congrArg (fun z : FVec Ideal S4x2880x512 .bf16 => transpose S4x512x2880 [0, 2, 1] z transposes_S4x2880x512_S4x512x2880_0_2_1)
    (Pipeline.withArrays_arr (cfgM m hO).spec arr_inj c (V0 m c) (fun w => (dats m hO 0 c).arrAt w (cfgM m hO).N) 3))
/-- Output array 1 after the call. -/
noncomputable def arr4 : FVec Ideal S4x18x160x512 .fp8e4m3 := (dats m hO 0 c).arrAt 4 (cfgM m hO).N
theorem end_v5 : (endAt m hO c main_v5 : FVec Ideal S4x512x18x160 .fp8e4m3)
    = transpose S4x512x18x160 [0, 3, 1, 2] (arr4 m hO c) transposes_S4x18x160x512_S4x512x18x160_0_3_1_2 :=
  (tail_v5 _).trans (congrArg (fun z : FVec Ideal S4x18x160x512 .fp8e4m3 => transpose S4x512x18x160 [0, 3, 1, 2] z transposes_S4x18x160x512_S4x512x18x160_0_3_1_2)
    (Pipeline.withArrays_arr (cfgM m hO).spec arr_inj c (V0 m c) (fun w => (dats m hO 0 c).arrAt w (cfgM m hO).N) 4))
/-- Output array 2 after the call. -/
noncomputable def arr5 : FVec Ideal S4x18x1x512 .f32 := (dats m hO 0 c).arrAt 5 (cfgM m hO).N
theorem end_v7 : (endAt m hO c main_v7 : FVec Ideal S4x512x18 .f32)
    = transpose S4x512x18 [0, 2, 1] (shapeCast S4x18x512 (arr5 m hO c) shapeCasts_S4x18x1x512_S4x18x512) transposes_S4x18x512_S4x512x18_0_2_1 :=
  (tail_v7 _).trans (congrArg (fun z : FVec Ideal S4x18x1x512 .f32 => transpose S4x512x18 [0, 2, 1] (shapeCast S4x18x512 z shapeCasts_S4x18x1x512_S4x18x512) transposes_S4x18x512_S4x512x18_0_2_1)
    (Pipeline.withArrays_arr (cfgM m hO).spec arr_inj c (V0 m c) (fun w => (dats m hO 0 c).arrAt w (cfgM m hO).N) 5))
/-- Output array 3 after the call. -/
noncomputable def arr6 : FVec Ideal S4x6x160x512 .fp8e4m3 := (dats m hO 0 c).arrAt 6 (cfgM m hO).N
theorem end_v8 : (endAt m hO c main_v8 : FVec Ideal S4x512x6x160 .fp8e4m3)
    = transpose S4x512x6x160 [0, 3, 1, 2] (arr6 m hO c) transposes_S4x6x160x512_S4x512x6x160_0_3_1_2 :=
  (tail_v8 _).trans (congrArg (fun z : FVec Ideal S4x6x160x512 .fp8e4m3 => transpose S4x512x6x160 [0, 3, 1, 2] z transposes_S4x6x160x512_S4x512x6x160_0_3_1_2)
    (Pipeline.withArrays_arr (cfgM m hO).spec arr_inj c (V0 m c) (fun w => (dats m hO 0 c).arrAt w (cfgM m hO).N) 6))
/-- Output array 4 after the call. -/
noncomputable def arr7 : FVec Ideal S4x6x1x512 .f32 := (dats m hO 0 c).arrAt 7 (cfgM m hO).N
theorem end_v10 : (endAt m hO c main_v10 : FVec Ideal S4x512x6 .f32)
    = transpose S4x512x6 [0, 2, 1] (shapeCast S4x6x512 (arr7 m hO c) shapeCasts_S4x6x1x512_S4x6x512) transposes_S4x6x512_S4x512x6_0_2_1 :=
  (tail_v10 _).trans (congrArg (fun z : FVec Ideal S4x6x1x512 .f32 => transpose S4x512x6 [0, 2, 1] (shapeCast S4x6x512 z shapeCasts_S4x6x1x512_S4x6x512) transposes_S4x6x512_S4x512x6_0_2_1)
    (Pipeline.withArrays_arr (cfgM m hO).spec arr_inj c (V0 m c) (fun w => (dats m hO 0 c).arrAt w (cfgM m hO).N) 7))
/-- Output array 5 after the call. -/
noncomputable def arr8 : FVec Ideal S4x6x160x512 .fp8e4m3 := (dats m hO 0 c).arrAt 8 (cfgM m hO).N
theorem end_v11 : (endAt m hO c main_v11 : FVec Ideal S4x512x6x160 .fp8e4m3)
    = transpose S4x512x6x160 [0, 3, 1, 2] (arr8 m hO c) transposes_S4x6x160x512_S4x512x6x160_0_3_1_2 :=
  (tail_v11 _).trans (congrArg (fun z : FVec Ideal S4x6x160x512 .fp8e4m3 => transpose S4x512x6x160 [0, 3, 1, 2] z transposes_S4x6x160x512_S4x512x6x160_0_3_1_2)
    (Pipeline.withArrays_arr (cfgM m hO).spec arr_inj c (V0 m c) (fun w => (dats m hO 0 c).arrAt w (cfgM m hO).N) 8))
/-- Output array 6 after the call. -/
noncomputable def arr9 : FVec Ideal S4x6x160x1 .f32 := (dats m hO 0 c).arrAt 9 (cfgM m hO).N
theorem end_v12 : (endAt m hO c main_v12 : FVec Ideal S4x6x160 .f32)
    = shapeCast S4x6x160 (arr9 m hO c) shapeCasts_S4x6x160x1_S4x6x160 :=
  (tail_v12 _).trans (congrArg (fun z : FVec Ideal S4x6x160x1 .f32 => shapeCast S4x6x160 z shapeCasts_S4x6x160x1_S4x6x160)
    (Pipeline.withArrays_arr (cfgM m hO).spec arr_inj c (V0 m c) (fun w => (dats m hO 0 c).arrAt w (cfgM m hO).N) 9))

variable {m hO c}
variable {x0 : (⟨3, ![4, 512, 2880]⟩ : Shape).Idx → ℝ} {x1 x2 : (⟨3, ![4, 512, 960]⟩ : Shape).Idx → ℝ} (H : Inputs m c x0 x1 x2)

/-! ## The results over the reals -/

include H in
/-- The attention, -/
theorem res_out (b : Fin 4) (s : Fin 512) (g : Fin 6) (r : Fin 3) (d : Fin 160) :
    (endAt m hO c main_v4 : FVec Ideal S4x512x2880 .bf16) (ix3 b s ⟨(g * 3 + r) * 160 + d, by omega⟩)
      = attn (pk m b) s.val (qv x0 b s (hd g r)) (fun k => kv x1 b k g) (vv x2 b g d) := by
  rw [end_v4, show arr3 m hO c = G3 m x0 x1 x2 from final3 H, ← G3_apply b s g r d ⟨(g * 3 + r) * 160 + d, by omega⟩ rfl]
  generalize G3 m x0 x1 x2 = z
  pointwise
include H in
/-- the query codes -/
theorem res_qc (b : Fin 4) (s : Fin 512) (h : Fin 18) (d : Fin 160) : (endAt m hO c main_v5 : FVec Ideal S4x512x18x160 .fp8e4m3) (ix4 b s h d) = ((cd (qv x0 b s h) d : ℝ) : EReal) := by
  rw [end_v5, show arr4 m hO c = G4 x0 from final4 H]
  refine Eq.trans ?_ (G4_at (x0 := x0) b h d s)
  generalize G4 x0 = z
  pointwise
include H in
/-- and scales, -/
theorem res_qs (b : Fin 4) (s : Fin 512) (h : Fin 18) : (endAt m hO c main_v7 : FVec Ideal S4x512x18 .f32) (ix3 b s h) = (((2 : ℝ) ^ sc (qv x0 b s h) : ℝ) : EReal) := by
  rw [end_v7, show arr5 m hO c = G5 x0 from final5 H]
  refine Eq.trans ?_ (G5_at (x0 := x0) b h 0 s)
  generalize G5 x0 = z
  pointwise
include H in
/-- the key codes -/
theorem res_kc (b : Fin 4) (s : Fin 512) (g : Fin 6) (d : Fin 160) : (endAt m hO c main_v8 : FVec Ideal S4x512x6x160 .fp8e4m3) (ix4 b s g d) = ((cd (kv x1 b s g) d : ℝ) : EReal) := by
  rw [end_v8, show arr6 m hO c = G6 x1 from final6 H]
  refine Eq.trans ?_ (G6_at (x1 := x1) b g d s)
  generalize G6 x1 = z
  pointwise
include H in
/-- and scales, -/
theorem res_ks (b : Fin 4) (s : Fin 512) (g : Fin 6) : (endAt m hO c main_v10 : FVec Ideal S4x512x6 .f32) (ix3 b s g) = (((2 : ℝ) ^ sc (kv x1 b s g) : ℝ) : EReal) := by
  rw [end_v10, show arr7 m hO c = G7 x1 from final7 H]
  refine Eq.trans ?_ (G7_at (x1 := x1) b g 0 s)
  generalize G7 x1 = z
  pointwise
include H in
/-- the value codes -/
theorem res_vc (b : Fin 4) (s : Fin 512) (g : Fin 6) (d : Fin 160) : (endAt m hO c main_v11 : FVec Ideal S4x512x6x160 .fp8e4m3) (ix4 b s g d) = ((cd (vv x2 b g d) s : ℝ) : EReal) := by
  rw [end_v11, show arr8 m hO c = G8 x2 from final8 H]
  refine Eq.trans ?_ (G8_at (x2 := x2) b g d s)
  generalize G8 x2 = z
  pointwise
include H in
/-- and scales. -/
theorem res_vs (b : Fin 4) (g : Fin 6) (d : Fin 160) : (endAt m hO c main_v12 : FVec Ideal S4x6x160 .f32) (ix3 b g d) = (((2 : ℝ) ^ sc (vv x2 b g d) : ℝ) : EReal) := by
  rw [end_v12, show arr9 m hO c = G9 x2 from final9 H]
  refine Eq.trans ?_ (G9_at (x2 := x2) b g d 0)
  generalize G9 x2 = z
  pointwise

end Cert.KernelIdeal.Gen

end
-- ==== Proof.Value.RefCast.lean ====
/- The plain program's reshapes, index by index. -/
module

public import proofs.«01_k».proof.Proof.Gen.ReferenceIdeal
public import Idealize.ShloMosaic.Lib.Pointwise
public import Idealize.ShloMosaic.Lib.IdealHost

@[expose] public section

noncomputable section

namespace Cert.RefCast

open Cert.ReferenceIdeal Cert.ReferenceIdeal.Gen Idealize.ShloMosaic Idealize.ShloMosaic.TcCoe

theorem cQ (y : FVec Ideal S4x512x2880 .bf16) (b : Fin 4) (s : Fin 512) (h : Fin 18) (d : Fin 160) :
    shapeCast S4x512x18x160 y shapeCasts_S4x512x2880_S4x512x18x160 (ix4 b s h d) = y (ix3 b s ⟨h * 160 + d, by omega⟩) := by
  pointwise
theorem cK (y : FVec Ideal S4x512x960 .bf16) (b : Fin 4) (s : Fin 512) (h : Fin 6) (d : Fin 160) :
    shapeCast S4x512x6x160 y shapeCasts_S4x512x960_S4x512x6x160 (ix4 b s h d) = y (ix3 b s ⟨h * 160 + d, by omega⟩) := by
  pointwise
theorem cS18 (y : FVec Ideal S4x512x18x1 .f32) (b : Fin 4) (s : Fin 512) (h : Fin 18) :
    shapeCast S4x512x18 y shapeCasts_S4x512x18x1_S4x512x18 (ix3 b s h) = y (ix4 b s h 0) := by
  pointwise
theorem cS6 (y : FVec Ideal S4x512x6x1 .f32) (b : Fin 4) (s : Fin 512) (h : Fin 6) :
    shapeCast S4x512x6 y shapeCasts_S4x512x6x1_S4x512x6 (ix3 b s h) = y (ix4 b s h 0) := by
  pointwise
theorem cSV (y : FVec Ideal S4x1x6x160 .f32) (b : Fin 4) (h : Fin 6) (d : Fin 160) :
    shapeCast S4x6x160 y shapeCasts_S4x1x6x160_S4x6x160 (ix3 b h d) = y (ix4 b 0 h d) := by
  pointwise
theorem cQ5 (y : FVec Ideal S4x512x18x160 .f32) (b : Fin 4) (s : Fin 512) (g : Fin 6) (r : Fin 3) (d : Fin 160) :
    shapeCast S4x512x6x3x160 y shapeCasts_S4x512x18x160_S4x512x6x3x160 (ix5 b s g r d) = y (ix4 b s ⟨g * 3 + r, by omega⟩ d) := by
  pointwise
theorem cS4 (y : FVec Ideal S4x512x18 .f32) (b : Fin 4) (s : Fin 512) (g : Fin 6) (r : Fin 3) :
    shapeCast S4x512x6x3 y shapeCasts_S4x512x18_S4x512x6x3 (ix4 b s g r) = y (ix3 b s ⟨g * 3 + r, by omega⟩) := by
  pointwise
theorem cO (y : FVec Ideal S4x512x6x3x160 .f32) (b : Fin 4) (s : Fin 512) (g : Fin 6) (r : Fin 3) (d : Fin 160) :
    shapeCast S4x512x2880 y shapeCasts_S4x512x6x3x160_S4x512x2880 (ix3 b s ⟨(g * 3 + r) * 160 + d, by omega⟩) = y (ix5 b s g r d) :=
  shapeCast_apply y _ _ _ (by
    rw [rowMajor_val3 _ (512 * 2880) 2880 rfl rfl, rowMajor_val5 _ (512 * (6 * (3 * 160))) (6 * (3 * 160)) (3 * 160) 160 rfl rfl rfl rfl]
    show _ = _
    simp only [ix3, ix5]
    omega)

end Cert.RefCast

end
-- ==== Proof.Value.RefGen.lean ====
/- The plain program's chains of operations, index by index, at any extents. -/
module

public import proofs.«01_k».proof.ReferenceIdeal
public import proofs.«01_k».proof.Proof.Value.QuantTile
public import Idealize.ShloMosaic.Lib.Pointwise
public import Idealize.ShloMosaic.Lib.IdealHost

@[expose] public section

noncomputable section

namespace Cert.RefGen

open Cert.ReferenceIdeal (S_)
open Idealize.ShloMosaic Idealize.ShloMosaic.TcCoe Idealize.ShloMosaic.StableHlo
open Cert.KernelIdeal.Gen (tq xp cq cR ofBits_neg_inf)

theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee, -EReal.coe_mul]
theorem ofBits_tiny : Ideal.ofBits .f32 0x00800000#32 = (((2 : ℝ) ^ (-126 : ℤ) : ℝ) : EReal) := by
  simp [Ideal.ofBits, Ideal.ieee, -EReal.coe_mul]; norm_num
theorem ofBits_448f : Ideal.ofBits .f32 0x43E00000#32 = 448 := by
  rw [show (448 : EReal) = ((448 : ℝ) : EReal) by norm_cast]
  simp [Ideal.ofBits, Ideal.ieee, -EReal.coe_mul]; norm_num
theorem ofBits_neg448f : Ideal.ofBits .f32 0xC3E00000#32 = -448 := by
  rw [show (-448 : EReal) = ((-448 : ℝ) : EReal) by rw [EReal.coe_neg, Cert.KernelIdeal.Gen.c448]]
  simp [Ideal.ofBits, Ideal.ieee, -EReal.coe_mul]; norm_num

/-- The exponent that the plain program takes of magnitudes. -/
def eRef {s : Shape} (hb : S_.BroadcastsInDim s (![] : Fin 0 → Fin s.rank)) (t : FVec Ideal s .f32) : FVec Ideal s .f32 :=
  select (cmpf .olt t (broadcastInDim s ![] hb (constant S_ .f32 0x00800000#32))) (broadcastInDim s ![] hb (id (constant S_ .f32 0x00000000#32))) (addf (Host.floor (Host.divf (Host.log t) (broadcastInDim s ![] hb (Host.log (constant S_ .f32 0x40000000#32))))) (broadcastInDim s ![] hb (constant S_ .f32 0x3F800000#32)))

/-- The exponent at an index. -/
theorem eRef_apply {s : Shape} (hb : S_.BroadcastsInDim s (![] : Fin 0 → Fin s.rank)) (t : FVec Ideal s .f32) (i : s.Idx) (T : ℝ)
    (h : t i = (T : EReal)) : eRef hb t i = (((xp T : ℤ) : ℝ) : EReal) := by
  unfold eRef; dsimp only [id]
  pointwise
  rw [h, ofBits_tiny, ofBits_two]
  unfold xp
  by_cases hT : T < (2 : ℝ) ^ (-126 : ℤ)
  · rw [if_pos (EReal.coe_lt_coe_iff.2 hT), if_pos hT]; simp
  · have h0 : 0 < T := lt_of_lt_of_le (by positivity) (not_lt.1 hT)
    have h2 : Real.log 2 ≠ 0 := (Real.log_pos (by norm_num)).ne'
    rw [if_neg (fun h => hT (EReal.coe_lt_coe_iff.1 h)), if_neg hT, Ideal.log_coe, Ideal.log_coe, if_neg (not_le.2 h0), if_neg (by norm_num),
      Ideal.div_coe h2, ← EReal.coe_mul, Ideal.liftRound_coe, ← EReal.coe_one, ← EReal.coe_add, mul_one_div]
    push_cast; rfl

/-- Magnitudes along the last axis. -/
theorem tRef_apply {a b c d : ℕ} (x : FVec Ideal ⟨4, ![a + 2, b + 2, c + 2, d + 2]⟩ .f32) (hr : (⟨4, ![a + 2, b + 2, c + 2, d + 2]⟩ : Shape).ReducesTo [3] ⟨3, ![a + 2, b + 2, c + 2]⟩)
    (hu : 0 < S_.numel) (hb : (⟨3, ![a + 2, b + 2, c + 2]⟩ : Shape).BroadcastsInDim ⟨4, ![a + 2, b + 2, c + 2, 1]⟩ ![0, 1, 2])
    (hs : S_.BroadcastsInDim ⟨4, ![a + 2, b + 2, c + 2, 1]⟩ ![]) (i : Fin (a + 2)) (j : Fin (b + 2)) (k : Fin (c + 2)) :
    mulf (broadcastInDim ⟨4, ![a + 2, b + 2, c + 2, 1]⟩ ![0, 1, 2] hb (Host.reduce FloatOps.maximumf (Host.absf x) (constant S_ .f32 0xFF800000#32) hr hu))
      (broadcastInDim ⟨4, ![a + 2, b + 2, c + 2, 1]⟩ ![] hs (constant S_ .f32 0x3B124925#32)) (ix4 i j k 0) = tq (fun l => x (ix4 i j k l)) := by
  pointwise
  rw [ofBits_neg_inf]; rfl

/-- Magnitudes along the second axis. -/
theorem tRefV_apply {a b c d : ℕ} (x : FVec Ideal ⟨4, ![a + 2, b + 2, c + 2, d + 2]⟩ .f32) (hr : (⟨4, ![a + 2, b + 2, c + 2, d + 2]⟩ : Shape).ReducesTo [1] ⟨3, ![a + 2, c + 2, d + 2]⟩)
    (hu : 0 < S_.numel) (hb : (⟨3, ![a + 2, c + 2, d + 2]⟩ : Shape).BroadcastsInDim ⟨4, ![a + 2, 1, c + 2, d + 2]⟩ ![0, 2, 3])
    (hs : S_.BroadcastsInDim ⟨4, ![a + 2, 1, c + 2, d + 2]⟩ ![]) (i : Fin (a + 2)) (k : Fin (c + 2)) (l : Fin (d + 2)) :
    mulf (broadcastInDim ⟨4, ![a + 2, 1, c + 2, d + 2]⟩ ![0, 2, 3] hb (Host.reduce FloatOps.maximumf (Host.absf x) (constant S_ .f32 0xFF800000#32) hr hu))
      (broadcastInDim ⟨4, ![a + 2, 1, c + 2, d + 2]⟩ ![] hs (constant S_ .f32 0x3B124925#32)) (ix4 i 0 k l) = tq (fun j => x (ix4 i j k l)) := by
  pointwise
  rw [ofBits_neg_inf]; rfl

/-- A vector of one entry on the last axis, spread over it. -/
theorem bc4 {a b c d : ℕ} (y : FVec Ideal ⟨4, ![a + 2, b + 2, c + 2, 1]⟩ .f32)
    (hb : (⟨4, ![a + 2, b + 2, c + 2, 1]⟩ : Shape).BroadcastsInDim ⟨4, ![a + 2, b + 2, c + 2, d + 2]⟩ ![0, 1, 2, 3]) (i : Fin (a + 2)) (j : Fin (b + 2)) (k : Fin (c + 2)) (l : Fin (d + 2)) :
    broadcastInDim ⟨4, ![a + 2, b + 2, c + 2, d + 2]⟩ ![0, 1, 2, 3] hb y (ix4 i j k l) = y (ix4 i j k 0) := by
  pointwise
  refine congrArg y (funext fun q => ?_)
  match q with
  | ⟨0, _⟩ => rfl
  | ⟨1, _⟩ => rfl
  | ⟨2, _⟩ => rfl
  | ⟨3, _⟩ => rfl

/-- A vector of one entry on the second axis, spread over it. -/
theorem bc4v {a b c d : ℕ} (y : FVec Ideal ⟨4, ![a + 2, 1, c + 2, d + 2]⟩ .f32)
    (hb : (⟨4, ![a + 2, 1, c + 2, d + 2]⟩ : Shape).BroadcastsInDim ⟨4, ![a + 2, b + 2, c + 2, d + 2]⟩ ![0, 1, 2, 3]) (i : Fin (a + 2)) (j : Fin (b + 2)) (k : Fin (c + 2)) (l : Fin (d + 2)) :
    broadcastInDim ⟨4, ![a + 2, b + 2, c + 2, d + 2]⟩ ![0, 1, 2, 3] hb y (ix4 i j k l) = y (ix4 i 0 k l) := by
  pointwise
  refine congrArg y (funext fun q => ?_)
  match q with
  | ⟨0, _⟩ => rfl
  | ⟨1, _⟩ => rfl
  | ⟨2, _⟩ => rfl
  | ⟨3, _⟩ => rfl

/-- A vector of one entry on the last axis of five, spread over it. -/
theorem bc5 {a b c d e : ℕ} (y : FVec Ideal ⟨5, ![a + 2, b + 2, c + 2, d + 2, 1]⟩ .f32)
    (hb : (⟨5, ![a + 2, b + 2, c + 2, d + 2, 1]⟩ : Shape).BroadcastsInDim ⟨5, ![a + 2, b + 2, c + 2, d + 2, e + 2]⟩ ![0, 1, 2, 3, 4]) (i : Fin (a + 2)) (j : Fin (b + 2)) (k : Fin (c + 2)) (l : Fin (d + 2)) (n : Fin (e + 2)) :
    broadcastInDim ⟨5, ![a + 2, b + 2, c + 2, d + 2, e + 2]⟩ ![0, 1, 2, 3, 4] hb y (ix5 i j k l n) = y (ix5 i j k l 0) := by
  pointwise
  refine congrArg y (funext fun q => ?_)
  match q with
  | ⟨0, _⟩ => rfl
  | ⟨1, _⟩ => rfl
  | ⟨2, _⟩ => rfl
  | ⟨3, _⟩ => rfl
  | ⟨4, _⟩ => rfl

/-- Codes with one scale per vector of the last axis. -/
theorem cRef_apply {a b c d : ℕ} (x : FVec Ideal ⟨4, ![a + 2, b + 2, c + 2, d + 2]⟩ .f32) (e : FVec Ideal ⟨4, ![a + 2, b + 2, c + 2, 1]⟩ .f32)
    (hb : (⟨4, ![a + 2, b + 2, c + 2, 1]⟩ : Shape).BroadcastsInDim ⟨4, ![a + 2, b + 2, c + 2, d + 2]⟩ ![0, 1, 2, 3])
    (hs : S_.BroadcastsInDim ⟨4, ![a + 2, b + 2, c + 2, 1]⟩ ![]) (hl : S_.BroadcastsInDim ⟨4, ![a + 2, b + 2, c + 2, d + 2]⟩ ![]) (i : Fin (a + 2)) (j : Fin (b + 2)) (k : Fin (c + 2)) (l : Fin (d + 2))
    (E : ℤ) (he : e (ix4 i j k 0) = ((E : ℝ) : EReal)) :
    minimumf (broadcastInDim ⟨4, ![a + 2, b + 2, c + 2, d + 2]⟩ ![] hl (id (constant S_ .f32 0x43E00000#32))) (maximumf (broadcastInDim ⟨4, ![a + 2, b + 2, c + 2, d + 2]⟩ ![] hl (id (constant S_ .f32 0xC3E00000#32)))
      (mulf x (broadcastInDim ⟨4, ![a + 2, b + 2, c + 2, d + 2]⟩ ![0, 1, 2, 3] hb (Host.powf (broadcastInDim ⟨4, ![a + 2, b + 2, c + 2, 1]⟩ ![] hs (constant S_ .f32 0x40000000#32)) (Host.negf e)))))
      (ix4 i j k l) = cq (x (ix4 i j k l)) (((2 : ℝ) ^ (-E) : ℝ) : EReal) := by
  show min _ (max _ (x (ix4 i j k l) * _)) = _
  rw [bc4]
  dsimp only [id]
  pointwise
  rw [he, ofBits_two, ← EReal.coe_neg, Ideal.pow_coe_coe, ofBits_448f, ofBits_neg448f, ← Int.cast_neg, show Real.rpow 2 ((-E : ℤ) : ℝ) = (2 : ℝ) ^ (-E) from Real.rpow_intCast 2 (-E)]; rfl

/-- Codes with one scale per vector of the second axis. -/
theorem cRefV_apply {a b c d : ℕ} (x : FVec Ideal ⟨4, ![a + 2, b + 2, c + 2, d + 2]⟩ .f32) (e : FVec Ideal ⟨4, ![a + 2, 1, c + 2, d + 2]⟩ .f32)
    (hb : (⟨4, ![a + 2, 1, c + 2, d + 2]⟩ : Shape).BroadcastsInDim ⟨4, ![a + 2, b + 2, c + 2, d + 2]⟩ ![0, 1, 2, 3])
    (hs : S_.BroadcastsInDim ⟨4, ![a + 2, 1, c + 2, d + 2]⟩ ![]) (hl : S_.BroadcastsInDim ⟨4, ![a + 2, b + 2, c + 2, d + 2]⟩ ![]) (i : Fin (a + 2)) (j : Fin (b + 2)) (k : Fin (c + 2)) (l : Fin (d + 2))
    (E : ℤ) (he : e (ix4 i 0 k l) = ((E : ℝ) : EReal)) :
    minimumf (broadcastInDim ⟨4, ![a + 2, b + 2, c + 2, d + 2]⟩ ![] hl (id (constant S_ .f32 0x43E00000#32))) (maximumf (broadcastInDim ⟨4, ![a + 2, b + 2, c + 2, d + 2]⟩ ![] hl (id (constant S_ .f32 0xC3E00000#32)))
      (mulf x (broadcastInDim ⟨4, ![a + 2, b + 2, c + 2, d + 2]⟩ ![0, 1, 2, 3] hb (Host.powf (broadcastInDim ⟨4, ![a + 2, 1, c + 2, d + 2]⟩ ![] hs (constant S_ .f32 0x40000000#32)) (Host.negf e)))))
      (ix4 i j k l) = cq (x (ix4 i j k l)) (((2 : ℝ) ^ (-E) : ℝ) : EReal) := by
  show min _ (max _ (x (ix4 i j k l) * _)) = _
  rw [bc4v]
  dsimp only [id]
  pointwise
  rw [he, ofBits_two, ← EReal.coe_neg, Ideal.pow_coe_coe, ofBits_448f, ofBits_neg448f, ← Int.cast_neg, show Real.rpow 2 ((-E : ℤ) : ℝ) = (2 : ℝ) ^ (-E) from Real.rpow_intCast 2 (-E)]; rfl

/-- The scale at an index. -/
theorem pRef_apply {s : Shape} (hb : S_.BroadcastsInDim s (![] : Fin 0 → Fin s.rank)) (e : FVec Ideal s .f32) (i : s.Idx) (E : ℤ)
    (he : e i = ((E : ℝ) : EReal)) : Host.powf (broadcastInDim s ![] hb (constant S_ .f32 0x40000000#32)) e i = (((2 : ℝ) ^ E : ℝ) : EReal) := by
  pointwise
  rw [he, ofBits_two, Ideal.pow_coe_coe]
  exact congrArg _ (Real.rpow_intCast 2 E)

/-- The weights, before they are divided by their sum. -/
theorem xRef_apply {a b c d e : ℕ} (x : FVec Ideal ⟨5, ![a + 2, b + 2, c + 2, d + 2, e + 2]⟩ .f32) (hr : (⟨5, ![a + 2, b + 2, c + 2, d + 2, e + 2]⟩ : Shape).ReducesTo [4] ⟨4, ![a + 2, b + 2, c + 2, d + 2]⟩)
    (hu : 0 < S_.numel) (hb : (⟨4, ![a + 2, b + 2, c + 2, d + 2]⟩ : Shape).BroadcastsInDim ⟨5, ![a + 2, b + 2, c + 2, d + 2, 1]⟩ ![0, 1, 2, 3])
    (hs : (⟨5, ![a + 2, b + 2, c + 2, d + 2, 1]⟩ : Shape).BroadcastsInDim ⟨5, ![a + 2, b + 2, c + 2, d + 2, e + 2]⟩ ![0, 1, 2, 3, 4]) (i : Fin (a + 2)) (j : Fin (b + 2)) (k : Fin (c + 2)) (l : Fin (d + 2)) (n : Fin (e + 2)) :
    Host.exp (subf x (broadcastInDim ⟨5, ![a + 2, b + 2, c + 2, d + 2, e + 2]⟩ ![0, 1, 2, 3, 4] hs (broadcastInDim ⟨5, ![a + 2, b + 2, c + 2, d + 2, 1]⟩ ![0, 1, 2, 3] hb
      (Host.reduce FloatOps.maximumf x (constant S_ .f32 0xFF800000#32) hr hu)))) (ix5 i j k l n)
      = Ideal.exp (x (ix5 i j k l n) - Finset.univ.fold max ⊥ (fun p => x (ix5 i j k l p))) := by
  show Ideal.exp (x (ix5 i j k l n) - _) = _
  rw [bc5]
  pointwise
  rw [ofBits_neg_inf]; rfl

/-- The weights' sums. -/
theorem lRef_apply {a b c d e : ℕ} (x : FVec Ideal ⟨5, ![a + 2, b + 2, c + 2, d + 2, e + 2]⟩ .f32) (hr : (⟨5, ![a + 2, b + 2, c + 2, d + 2, e + 2]⟩ : Shape).ReducesTo [4] ⟨4, ![a + 2, b + 2, c + 2, d + 2]⟩)
    (hu : 0 < S_.numel) (i : Fin (a + 2)) (j : Fin (b + 2)) (k : Fin (c + 2)) (l : Fin (d + 2)) :
    Host.reduceAdd x (constant S_ .f32 0x00000000#32) hr hu (ix4 i j k l) = ∑ p, x (ix5 i j k l p) := by
  pointwise

end Cert.RefGen
-- ==== Proof.Value.RefAtt.lean ====
/- The plain program's attention, index by index. -/
module

public import proofs.«01_k».proof.Proof.Gen.ReferenceIdeal
public import proofs.«01_k».proof.Proof.Value.RefGen

@[expose] public section

noncomputable section

namespace Cert.RefGen

open Cert.ReferenceIdeal Cert.ReferenceIdeal.Gen
open Idealize.ShloMosaic Idealize.ShloMosaic.TcCoe Idealize.ShloMosaic.StableHlo
open Cert.KernelIdeal.Gen (tq xp cq cR ofBits_neg_inf)

/-- The masked scores of codes and scales. -/
def sVec (qc : FVec Ideal S4x512x6x3x160 .f32) (kc : FVec Ideal S4x512x6x160 .f32) (qs : FVec Ideal S4x512x6x3 .f32) (ks : FVec Ideal S4x512x6 .f32)
    (pl : IVec S4 32) : FVec Ideal S4x6x3x512x512 .f32 :=
  select (broadcastInDim S4x6x3x512x512 ![0, 1, 2, 3, 4] bcast_S4x1x1x512x512_S4x6x3x512x512_0_1_2_3_4 (broadcastInDim S4x1x1x512x512 ![0, 3, 4] bcast_S4x512x512_S4x1x1x512x512_0_3_4 (ori (broadcastInDim S4x512x512 ![0, 1, 2] bcast_S4x1x512_S4x512x512_0_1_2 (cmpi .slt (broadcastInDim S4x1x512 ![0, 1, 2] bcast_S1x1x512_S4x1x512_0_1_2 (broadcastInDim S1x1x512 ![2] bcast_S512_S1x1x512_2 (iotaInDim S512 32 0))) (broadcastInDim S4x1x512 ![0, 1, 2] bcast_S4x1x1_S4x1x512_0_1_2 (broadcastInDim S4x1x1 ![0] bcast_S4_S4x1x1_0 pl)))) (broadcastInDim S4x512x512 ![0, 1, 2] bcast_S1x512x512_S4x512x512_0_1_2 (cmpi .sle (broadcastInDim S1x512x512 ![0, 1, 2] bcast_S1x1x512_S1x512x512_0_1_2 (broadcastInDim S1x1x512 ![2] bcast_S512_S1x1x512_2 (iotaInDim S512 32 0))) (broadcastInDim S1x512x512 ![0, 1, 2] bcast_S1x512x1_S1x512x512_0_1_2 (broadcastInDim S1x512x1 ![1] bcast_S512_S1x512x1_1 (iotaInDim S512 32 0)))))))) (Host.divf (mulf (mulf (transpose S4x6x3x512x512 [0, 1, 4, 3, 2] (Host.dotGeneral dot_S4x512x6x160_S4x512x6x3x160_S4x6x512x512x3_3_4_1_13_02_02 none kc qc) transposes_S4x6x512x512x3_S4x6x3x512x512_0_1_4_3_2) (broadcastInDim S4x6x3x512x512 ![0, 1, 2, 3, 4] bcast_S4x6x3x512x1_S4x6x3x512x512_0_1_2_3_4 (broadcastInDim S4x6x3x512x1 ![0, 1, 2, 3] bcast_S4x6x3x512_S4x6x3x512x1_0_1_2_3 (transpose S4x6x3x512 [0, 2, 3, 1] qs transposes_S4x512x6x3_S4x6x3x512_0_2_3_1)))) (broadcastInDim S4x6x3x512x512 ![0, 1, 2, 3, 4] bcast_S4x6x1x1x512_S4x6x3x512x512_0_1_2_3_4 (broadcastInDim S4x6x1x1x512 ![0, 1, 4] bcast_S4x6x512_S4x6x1x1x512_0_1_4 (transpose S4x6x512 [0, 2, 1] ks transposes_S4x512x6_S4x6x512_0_2_1)))) (broadcastInDim S4x6x3x512x512 ![] bcast_S_S4x6x3x512x512 (Host.sqrt (constant S_ .f32 0x43200000#32)))) (broadcastInDim S4x6x3x512x512 ![] bcast_S_S4x6x3x512x512 (id (constant S_ .f32 0xFF800000#32)))

/-- The output of weights, value codes and value scales. -/
def oVec (e : FVec Ideal S4x6x3x512x512 .f32) (vc : FVec Ideal S4x512x6x160 .f32) (vs : FVec Ideal S4x6x160 .f32) : FVec Ideal S4x512x6x3x160 .f32 :=
  (Host.divf (mulf (transpose S4x512x6x3x160 [0, 4, 1, 3, 2] (Host.dotGeneral dot_S4x512x6x160_S4x6x3x512x512_S4x6x160x3x512_1_4_3_23_02_01 none vc (minimumf (mulf e (broadcastInDim S4x6x3x512x512 ![] bcast_S_S4x6x3x512x512 (constant S_ .f32 0x43800000#32))) (broadcastInDim S4x6x3x512x512 ![] bcast_S_S4x6x3x512x512 (constant S_ .f32 0x43E00000#32)))) transposes_S4x6x160x3x512_S4x512x6x3x160_0_4_1_3_2) (broadcastInDim S4x512x6x3x160 ![0, 1, 2, 3, 4] bcast_S4x1x6x1x160_S4x512x6x3x160_0_1_2_3_4 (mulf (broadcastInDim S4x1x6x1x160 ![0, 2, 4] bcast_S4x6x160_S4x1x6x1x160_0_2_4 vs) (broadcastInDim S4x1x6x1x160 ![] bcast_S_S4x1x6x1x160 (constant S_ .f32 0x3B800000#32))))) (broadcastInDim S4x512x6x3x160 ![0, 1, 2, 3, 4] bcast_S4x512x6x3x1_S4x512x6x3x160_0_1_2_3_4 (broadcastInDim S4x512x6x3x1 ![0, 1, 2, 3] bcast_S4x512x6x3_S4x512x6x3x1_0_1_2_3 (transpose S4x512x6x3 [0, 3, 1, 2] (Host.reduceAdd e (constant S_ .f32 0x00000000#32) reducesTo_S4x6x3x512x512_S4x6x3x512_d4 h_S_) transposes_S4x6x3x512_S4x512x6x3_0_3_1_2))))

/-- The masked score of a query and a key. -/
theorem sVec_apply (qc : FVec Ideal S4x512x6x3x160 .f32) (kc : FVec Ideal S4x512x6x160 .f32) (qs : FVec Ideal S4x512x6x3 .f32) (ks : FVec Ideal S4x512x6 .f32)
    (pl : IVec S4 32) (b : Fin 4) (g : Fin 6) (r : Fin 3) (q k : Fin 512) :
    sVec qc kc qs ks pl (ix5 b g r q k) = Scalar.select (IntOp.ori (IntOp.cmpi .slt (BitVec.ofNat 32 k) (pl (ix1 b))) (IntOp.cmpi .sle (BitVec.ofNat 32 k) (BitVec.ofNat 32 q)))
      (Ideal.div ((∑ x : Fin 160, kc (ix4 b k g x) * qc (ix5 b q g r x)) * qs (ix4 b q g r) * ks (ix3 b k g)) (Ideal.sqrt (Ideal.ofBits .f32 0x43200000#32))) ⊥ := by
  unfold sVec; dsimp only [id]
  pointwise
  rw [ofBits_neg_inf]

/-- The output at a query, head and channel. -/
theorem oVec_apply (e : FVec Ideal S4x6x3x512x512 .f32) (vc : FVec Ideal S4x512x6x160 .f32) (vs : FVec Ideal S4x6x160 .f32) (b : Fin 4) (q : Fin 512) (g : Fin 6) (r : Fin 3) (d : Fin 160) :
    oVec e vc vs (ix5 b q g r d) = Ideal.div ((∑ k : Fin 512, vc (ix4 b k g d) * min (e (ix5 b g r q k) * Ideal.ofBits .f32 0x43800000#32) (Ideal.ofBits .f32 0x43E00000#32)) * (vs (ix3 b g d) * Ideal.ofBits .f32 0x3B800000#32))
      (∑ k : Fin 512, e (ix5 b g r q k)) := by
  unfold oVec
  pointwise

end Cert.RefGen
-- ==== Proof.Value.Ref.lean ====
/- What the plain program computes, index by index. -/
module

public import proofs.«01_k».proof.Proof.Gen.ReferenceIdeal.Run
public import proofs.«01_k».proof.Proof.Value.Spec
public import proofs.«01_k».proof.Proof.Value.RefCast
public import proofs.«01_k».proof.Proof.Value.RefAtt
public import Idealize.ShloMosaic.Lib.Pointwise
public import Idealize.ShloMosaic.Lib.IdealHost
public import Idealize.ShloMosaic.Lib.Tactic.CleanTypes

@[expose] public section

noncomputable section

namespace Cert.ReferenceIdeal.Value

open Cert.ReferenceIdeal Cert.ReferenceIdeal.Gen Idealize.ShloMosaic Idealize.ShloMosaic.TcCoe Idealize.ShloMosaic.StableHlo
open Cert.KernelIdeal.Gen (tq xp cq cR bmax vis)
open Cert.RefGen Cert.RefCast Cert.Spec

variable (V0 : Valuation τ sig (Elt Ideal))

variable (x0 : (⟨3, ![4, 512, 2880]⟩ : Shape).Idx → ℝ) (x1 x2 : (⟨3, ![4, 512, 960]⟩ : Shape).Idx → ℝ)

/-- The inputs are the given real numbers, of the stated size. -/
structure Inputs : Prop where
  a0 : ∀ i, (V0 (Proc.devRef .tc main_arg0) : FVec Ideal S4x512x2880 .bf16) i = ((x0 i : ℝ) : EReal)
  a1 : ∀ i, (V0 (Proc.devRef .tc main_arg1) : FVec Ideal S4x512x960 .bf16) i = ((x1 i : ℝ) : EReal)
  a2 : ∀ i, (V0 (Proc.devRef .tc main_arg2) : FVec Ideal S4x512x960 .bf16) i = ((x2 i : ℝ) : EReal)
  b0 : ∀ i, |x0 i| ≤ bmax
  b1 : ∀ i, |x1 i| ≤ bmax
  b2 : ∀ i, |x2 i| ≤ bmax

variable {V0 x0 x1 x2} (H : Inputs V0 x0 x1 x2)

/-- The query heads as reals, -/
theorem qx (H : Inputs V0 x0 x1 x2) (b : Fin 4) (s : Fin 512) (h : Fin 18) (d : Fin 160) : res_main_v1 V0 (ix4 b s h d) = (((qv x0 b s h) d : ℝ) : EReal) := by
  unfold res_main_v1; clean_types
  exact (cQ _ b s h d).trans (H.a0 _)
/-- their largest magnitudes over 448, -/
theorem qt (H : Inputs V0 x0 x1 x2) (b : Fin 4) (s : Fin 512) (h : Fin 18) : res_main_v6 V0 (ix4 b s h 0) = ((TT (qv x0 b s h) : ℝ) : EReal) := by
  refine (tRef_apply (a := 2) (b := 510) (c := 16) (d := 158) (res_main_v1 V0) _ _ _ _ b s h).trans ?_
  rw [← (tq_eq (qv x0 b s h) fun _ => H.b0 _).1]
  exact congrArg tq (funext fun l => qx H b s h l)
/-- their scales' exponents, -/
theorem qe (H : Inputs V0 x0 x1 x2) (b : Fin 4) (s : Fin 512) (h : Fin 18) : res_main_v16 V0 (ix4 b s h 0) = (((sc (qv x0 b s h) : ℤ) : ℝ) : EReal) :=
  eRef_apply _ _ _ _ (qt H b s h)
/-- their codes, -/
theorem qc (H : Inputs V0 x0 x1 x2) (b : Fin 4) (s : Fin 512) (h : Fin 18) (d : Fin 160) : res_main_v22 V0 (ix4 b s h d) = ((cd (qv x0 b s h) d : ℝ) : EReal) := by
  refine (cRef_apply (a := 2) (b := 510) (c := 16) (d := 158) (res_main_v1 V0) (res_main_v16 V0) _ _ _ b s h d _ (qe H b s h)).trans ?_
  rw [qx H b s h d]
  exact cq_eq (qv x0 b s h) d
/-- and their scales. -/
theorem qs (H : Inputs V0 x0 x1 x2) (b : Fin 4) (s : Fin 512) (h : Fin 18) :
    shapeCast S4x512x18 (Host.powf (broadcastInDim S4x512x18x1 ![] bcast_S_S4x512x18x1 (constant S_ .f32 0x40000000#32)) (res_main_v16 V0)) shapeCasts_S4x512x18x1_S4x512x18 (ix3 b s h)
      = (((2 : ℝ) ^ sc (qv x0 b s h) : ℝ) : EReal) :=
  (cS18 _ b s h).trans (pRef_apply _ _ _ _ (qe H b s h))

/-- The key heads as reals, -/
theorem kx (H : Inputs V0 x0 x1 x2) (b : Fin 4) (s : Fin 512) (h : Fin 6) (d : Fin 160) : res_main_v27 V0 (ix4 b s h d) = (((kv x1 b s h) d : ℝ) : EReal) := by
  unfold res_main_v27; clean_types
  exact (cK _ b s h d).trans (H.a1 _)
/-- their largest magnitudes over 448, -/
theorem kt (H : Inputs V0 x0 x1 x2) (b : Fin 4) (s : Fin 512) (h : Fin 6) : res_main_v32 V0 (ix4 b s h 0) = ((TT (kv x1 b s h) : ℝ) : EReal) := by
  refine (tRef_apply (a := 2) (b := 510) (c := 4) (d := 158) (res_main_v27 V0) _ _ _ _ b s h).trans ?_
  rw [← (tq_eq (kv x1 b s h) fun _ => H.b1 _).1]
  exact congrArg tq (funext fun l => kx H b s h l)
/-- their scales' exponents, -/
theorem ke (H : Inputs V0 x0 x1 x2) (b : Fin 4) (s : Fin 512) (h : Fin 6) : res_main_v42 V0 (ix4 b s h 0) = (((sc (kv x1 b s h) : ℤ) : ℝ) : EReal) :=
  eRef_apply _ _ _ _ (kt H b s h)
/-- their codes, -/
theorem kc (H : Inputs V0 x0 x1 x2) (b : Fin 4) (s : Fin 512) (h : Fin 6) (d : Fin 160) : res_main_v48 V0 (ix4 b s h d) = ((cd (kv x1 b s h) d : ℝ) : EReal) := by
  refine (cRef_apply (a := 2) (b := 510) (c := 4) (d := 158) (res_main_v27 V0) (res_main_v42 V0) _ _ _ b s h d _ (ke H b s h)).trans ?_
  rw [kx H b s h d]
  exact cq_eq (kv x1 b s h) d
/-- and their scales. -/
theorem ks (H : Inputs V0 x0 x1 x2) (b : Fin 4) (s : Fin 512) (h : Fin 6) :
    shapeCast S4x512x6 (Host.powf (broadcastInDim S4x512x6x1 ![] bcast_S_S4x512x6x1 (constant S_ .f32 0x40000000#32)) (res_main_v42 V0)) shapeCasts_S4x512x6x1_S4x512x6 (ix3 b s h)
      = (((2 : ℝ) ^ sc (kv x1 b s h) : ℝ) : EReal) :=
  (cS6 _ b s h).trans (pRef_apply _ _ _ _ (ke H b s h))

/-- The value channels as reals, -/
theorem vx (H : Inputs V0 x0 x1 x2) (b : Fin 4) (s : Fin 512) (h : Fin 6) (d : Fin 160) : res_main_v53 V0 (ix4 b s h d) = (((vv x2 b h d) s : ℝ) : EReal) := by
  unfold res_main_v53; clean_types
  exact (cK _ b s h d).trans (H.a2 _)
/-- their largest magnitudes over 448, -/
theorem vt (H : Inputs V0 x0 x1 x2) (b : Fin 4) (h : Fin 6) (d : Fin 160) : res_main_v58 V0 (ix4 b 0 h d) = ((TT (vv x2 b h d) : ℝ) : EReal) := by
  refine (tRefV_apply (a := 2) (b := 510) (c := 4) (d := 158) (res_main_v53 V0) _ _ _ _ b h d).trans ?_
  rw [← (tq_eq (vv x2 b h d) fun _ => H.b2 _).1]
  exact congrArg tq (funext fun l => vx H b l h d)
/-- their scales' exponents, -/
theorem ve (H : Inputs V0 x0 x1 x2) (b : Fin 4) (h : Fin 6) (d : Fin 160) : res_main_v68 V0 (ix4 b 0 h d) = (((sc (vv x2 b h d) : ℤ) : ℝ) : EReal) :=
  eRef_apply _ _ _ _ (vt H b h d)
/-- their codes, -/
theorem vc (H : Inputs V0 x0 x1 x2) (b : Fin 4) (s : Fin 512) (h : Fin 6) (d : Fin 160) : res_main_v74 V0 (ix4 b s h d) = ((cd (vv x2 b h d) s : ℝ) : EReal) := by
  refine (cRefV_apply (a := 2) (b := 510) (c := 4) (d := 158) (res_main_v53 V0) (res_main_v68 V0) _ _ _ b s h d _ (ve H b h d)).trans ?_
  rw [vx H b s h d]
  exact cq_eq (vv x2 b h d) s
/-- and their scales. -/
theorem vs (H : Inputs V0 x0 x1 x2) (b : Fin 4) (h : Fin 6) (d : Fin 160) :
    shapeCast S4x6x160 (Host.powf (broadcastInDim S4x1x6x160 ![] bcast_S_S4x1x6x160 (constant S_ .f32 0x40000000#32)) (res_main_v68 V0)) shapeCasts_S4x1x6x160_S4x6x160 (ix3 b h d)
      = (((2 : ℝ) ^ sc (vv x2 b h d) : ℝ) : EReal) :=
  (cSV _ b h d).trans (pRef_apply _ _ _ _ (ve H b h d))

/-- The prefix length of a batch. -/
def pl (V0 : Valuation τ sig (Elt Ideal)) (b : Fin 4) : BitVec 32 := (V0 (Proc.devRef .tc main_arg3) : IVec S4 32) (ix1 b)

theorem ofBits_160 : Ideal.sqrt (Ideal.ofBits .f32 0x43200000#32) = ((√160 : ℝ) : EReal) := by
  rw [show Ideal.ofBits .f32 0x43200000#32 = ((160 : ℝ) : EReal) by simp [Ideal.ofBits, Ideal.ieee, -EReal.coe_mul]; norm_num, Ideal.sqrt_coe, if_neg (by norm_num)]
theorem ofBits_256 : Ideal.ofBits .f32 0x43800000#32 = 256 := by
  rw [show (256 : EReal) = ((256 : ℝ) : EReal) by norm_cast]
  simp [Ideal.ofBits, Ideal.ieee, -EReal.coe_mul]; norm_num
theorem ofBits_256th : Ideal.ofBits .f32 0x3B800000#32 = ((1 / 256 : ℝ) : EReal) := by
  simp [Ideal.ofBits, Ideal.ieee, -EReal.coe_mul]; norm_num

/-- The program's visibility test is visibility. -/
theorem vis_iff (v : BitVec 32) (s j : Fin 512) (a : ℝ) :
    Scalar.select (IntOp.ori (IntOp.cmpi .slt (BitVec.ofNat 32 j) v) (IntOp.cmpi .sle (BitVec.ofNat 32 j) (BitVec.ofNat 32 s))) ((a : ℝ) : EReal) ⊥ = Cert.Att.msk (vis v s j) a := by
  have hk := j.isLt
  have hq := s.isLt
  have tj : (BitVec.ofNat 32 j.val).toInt = (j.val : ℤ) := Cert.KernelIdeal.Gen.toInt_small _ (by omega)
  have ts : (BitVec.ofNat 32 s.val).toInt = (s.val : ℤ) := Cert.KernelIdeal.Gen.toInt_small _ (by omega)
  unfold Cert.Att.msk vis
  simp only [IntOp.ori, IntOp.cmpi, Scalar.select, BitVec.slt, BitVec.sle, tj, ts]
  by_cases h1 : (j.val : ℤ) < v.toInt <;> by_cases h2 : j.val ≤ s.val <;> simp [h1, h2]

/-- The masked score of a query and a key. -/
theorem score_apply (H : Inputs V0 x0 x1 x2) (b : Fin 4) (g : Fin 6) (r : Fin 3) (q k : Fin 512) :
    res_main_v108 V0 (ix5 b g r q k) = Cert.Att.msk (vis (pl V0 b) q k) (score (qv x0 b q ⟨g * 3 + r, by omega⟩) (kv x1 b k g)) := by
  refine (sVec_apply (shapeCast _ (res_main_v22 V0) shapeCasts_S4x512x18x160_S4x512x6x3x160) (res_main_v48 V0) (shapeCast _ (shapeCast _ (Host.powf (broadcastInDim S4x512x18x1 ![] bcast_S_S4x512x18x1 (constant S_ .f32 0x40000000#32)) (res_main_v16 V0)) shapeCasts_S4x512x18x1_S4x512x18) shapeCasts_S4x512x18_S4x512x6x3) (shapeCast _ (Host.powf (broadcastInDim S4x512x6x1 ![] bcast_S_S4x512x6x1 (constant S_ .f32 0x40000000#32)) (res_main_v42 V0)) shapeCasts_S4x512x6x1_S4x512x6) (V0 (Proc.devRef .tc main_arg3)) b g r q k).trans ?_
  rw [← vis_iff, ofBits_160, cS4, qs H, ks H]
  have hsum : ∀ x : Fin 160, (HMul.hMul (α := EReal) (β := EReal) (γ := EReal) (res_main_v48 V0 (ix4 b k g x)) (shapeCast S4x512x6x3x160 (res_main_v22 V0) shapeCasts_S4x512x18x160_S4x512x6x3x160 (ix5 b q g r x)))
      = ((cd (kv x1 b k g) x * cd (qv x0 b q ⟨g * 3 + r, by omega⟩) x : ℝ) : EReal) := fun x => by
    rw [kc H, cQ5, qc H, EReal.coe_mul]
  rw [Finset.sum_congr rfl fun x _ => hsum x, ← Cert.Att.coe_sum, ← EReal.coe_mul, ← EReal.coe_mul, Ideal.div_coe (by positivity), ← EReal.coe_mul]
  rfl

/-- The plain program's output number. -/
theorem out_apply (H : Inputs V0 x0 x1 x2) (b : Fin 4) (q : Fin 512) (g : Fin 6) (r : Fin 3) (d : Fin 160) :
    oVec (res_main_v113 V0) (res_main_v74 V0) (shapeCast S4x6x160 (Host.powf (broadcastInDim S4x1x6x160 ![] bcast_S_S4x1x6x160 (constant S_ .f32 0x40000000#32)) (res_main_v68 V0)) shapeCasts_S4x1x6x160_S4x6x160) (ix5 b q g r d)
      = attn (pl V0 b) q (qv x0 b q ⟨g * 3 + r, by omega⟩) (fun k => kv x1 b k g) (vv x2 b g d) := by
  have he : ∀ k : Fin 512, res_main_v113 V0 (ix5 b g r q k) = Ideal.exp (Cert.Att.msk (vis (pl V0 b) q k) (score (qv x0 b q ⟨g * 3 + r, by omega⟩) (kv x1 b k g))
      - Finset.univ.fold max ⊥ fun j : Fin 512 => Cert.Att.msk (vis (pl V0 b) q j) (score (qv x0 b q ⟨g * 3 + r, by omega⟩) (kv x1 b j g))) := fun k => by
    refine (xRef_apply (a := 2) (b := 4) (c := 1) (d := 510) (e := 510) (res_main_v108 V0) _ _ _ _ b g r q k).trans ?_
    rw [score_apply H b g r q k]
    exact congrArg (fun f => Ideal.exp (_ - Finset.univ.fold max ⊥ f)) (funext fun j => score_apply H b g r q j)
  rw [oVec_apply, vs H, ofBits_256, ofBits_256th, ofBits_448f]
  simp only [he, vc H]
  rfl

end Cert.ReferenceIdeal.Value

end
-- ==== Proof.Value.Equal.lean ====
/- The kernel and the plain program end with equal results over the reals. -/
module

public import proofs.«01_k».proof.Proof.Value.Results
public import proofs.«01_k».proof.Proof.Value.Ref

@[expose] public section

noncomputable section

namespace Cert.Equal

open Idealize.ShloMosaic Idealize.ShloMosaic.TcCoe Idealize.ShloMosaic.StableHlo
open Cert.KernelIdeal.Gen (endAt pk)
open Cert.ReferenceIdeal Cert.ReferenceIdeal.Gen Cert.ReferenceIdeal.Value
open Cert.RefGen Cert.RefCast Cert.Spec

variable {m : (ℓ : Loc Cert.KernelIdeal.nD Cert.KernelIdeal.τ Cert.KernelIdeal.sig) → Buf (Elt Ideal) ℓ} {hO : Cert.KernelIdeal.Gen.Ok m} {c : Dev Cert.KernelIdeal.nD}
variable {V0 : Valuation τ sig (Elt Ideal)}
variable {x0 : (⟨3, ![4, 512, 2880]⟩ : Shape).Idx → ℝ} {x1 x2 : (⟨3, ![4, 512, 960]⟩ : Shape).Idx → ℝ}
variable (H : Cert.KernelIdeal.Gen.Inputs m c x0 x1 x2) (H' : Inputs V0 x0 x1 x2)

/-- Arrays that agree at every index are equal. -/
theorem ext3 {a b c : ℕ} {f g : (⟨3, ![a, b, c]⟩ : Shape).Idx → EReal} (h : ∀ x y z, f (ix3 x y z) = g (ix3 x y z)) : f = g :=
  funext fun i => by rw [eq_ix3 i]; exact h _ _ _
theorem ext4 {a b c d : ℕ} {f g : (⟨4, ![a, b, c, d]⟩ : Shape).Idx → EReal} (h : ∀ x y z w, f (ix4 x y z w) = g (ix4 x y z w)) : f = g :=
  funext fun i => by rw [eq_ix4 i]; exact h _ _ _ _

/-- The model index of a group, a head of it and a channel. -/
theorem exists_head (j : Fin 2880) : ∃ (g : Fin 6) (r : Fin 3) (d : Fin 160), j = ⟨(g * 3 + r) * 160 + d, by omega⟩ :=
  ⟨⟨j / 480, by omega⟩, ⟨j / 160 % 3, by omega⟩, ⟨j % 160, by omega⟩, Fin.ext (by show j.val = (j.val / 480 * 3 + j.val / 160 % 3) * 160 + j.val % 160; omega)⟩

include H H' in
/-- The attention output. -/
theorem out (hp : ∀ b, pk m b = pl V0 b) :
    (endAt m hO c Cert.KernelIdeal.main_v4 : FVec Ideal S4x512x2880 .bf16)
      = truncf .bf16 (shapeCast S4x512x2880 (oVec (res_main_v113 V0) (res_main_v74 V0) (shapeCast S4x6x160 (Host.powf (broadcastInDim S4x1x6x160 ![] bcast_S_S4x1x6x160 (constant S_ .f32 0x40000000#32)) (res_main_v68 V0)) shapeCasts_S4x1x6x160_S4x6x160)) shapeCasts_S4x512x6x3x160_S4x512x2880) bitsLt_bf16_f32 := by
  refine ext3 fun b s j => ?_
  obtain ⟨g, r, d, rfl⟩ := exists_head j
  refine (Cert.KernelIdeal.Gen.res_out (hO := hO) H b s g r d).trans ?_
  rw [hp]
  exact ((cO _ b s g r d).trans (out_apply H' b s g r d)).symm

include H H' in
/-- The query codes, -/
theorem qcodes : (endAt m hO c Cert.KernelIdeal.main_v5 : FVec Ideal S4x512x18x160 .fp8e4m3) = Host.convertf .fp8e4m3 (res_main_v22 V0) := by
  refine ext4 fun _ _ _ _ => ?_
  exact (Cert.KernelIdeal.Gen.res_qc (hO := hO) H _ _ _ _).trans (qc H' _ _ _ _).symm
include H H' in
/-- the query scales, -/
theorem qscales : (endAt m hO c Cert.KernelIdeal.main_v7 : FVec Ideal S4x512x18 .f32)
    = shapeCast S4x512x18 (Host.powf (broadcastInDim S4x512x18x1 ![] bcast_S_S4x512x18x1 (constant S_ .f32 0x40000000#32)) (res_main_v16 V0)) shapeCasts_S4x512x18x1_S4x512x18 := by
  refine ext3 fun _ _ _ => ?_
  exact (Cert.KernelIdeal.Gen.res_qs (hO := hO) H _ _ _).trans (qs H' _ _ _).symm
include H H' in
/-- the key codes, -/
theorem kcodes : (endAt m hO c Cert.KernelIdeal.main_v8 : FVec Ideal S4x512x6x160 .fp8e4m3) = Host.convertf .fp8e4m3 (res_main_v48 V0) := by
  refine ext4 fun _ _ _ _ => ?_
  exact (Cert.KernelIdeal.Gen.res_kc (hO := hO) H _ _ _ _).trans (kc H' _ _ _ _).symm
include H H' in
/-- the key scales, -/
theorem kscales : (endAt m hO c Cert.KernelIdeal.main_v10 : FVec Ideal S4x512x6 .f32)
    = shapeCast S4x512x6 (Host.powf (broadcastInDim S4x512x6x1 ![] bcast_S_S4x512x6x1 (constant S_ .f32 0x40000000#32)) (res_main_v42 V0)) shapeCasts_S4x512x6x1_S4x512x6 := by
  refine ext3 fun _ _ _ => ?_
  exact (Cert.KernelIdeal.Gen.res_ks (hO := hO) H _ _ _).trans (ks H' _ _ _).symm
include H H' in
/-- the value codes -/
theorem vcodes : (endAt m hO c Cert.KernelIdeal.main_v11 : FVec Ideal S4x512x6x160 .fp8e4m3) = Host.convertf .fp8e4m3 (res_main_v74 V0) := by
  refine ext4 fun _ _ _ _ => ?_
  exact (Cert.KernelIdeal.Gen.res_vc (hO := hO) H _ _ _ _).trans (vc H' _ _ _ _).symm
include H H' in
/-- and the value scales. -/
theorem vscales : (endAt m hO c Cert.KernelIdeal.main_v12 : FVec Ideal S4x6x160 .f32)
    = shapeCast S4x6x160 (Host.powf (broadcastInDim S4x1x6x160 ![] bcast_S_S4x1x6x160 (constant S_ .f32 0x40000000#32)) (res_main_v68 V0)) shapeCasts_S4x1x6x160_S4x6x160 := by
  refine ext3 fun _ _ _ => ?_
  exact (Cert.KernelIdeal.Gen.res_vs (hO := hO) H _ _ _).trans (vs H' _ _ _).symm

end Cert.Equal

end
-- ==== Proof.Value.Claim.lean ====
/- The value claim: from equal arguments in range, the kernel and the plain program end with equal results over the reals. -/
module

public import proofs.«01_k».proof.Defs
public import proofs.«01_k».proof.Proof.Value.Pre
public import proofs.«01_k».proof.Proof.Value.Equal

@[expose] public section

noncomputable section

namespace Cert.KernelIdeal.Gen

open Idealize.ShloMosaic Idealize.ShloMosaic.TcCoe Idealize.SL.Sem

/-- The kernel runs and ends with its results at `endAt` and its arguments unchanged. -/
theorem run_values (m : (ℓ : Loc nD τ sig) → Buf (Elt Ideal) ℓ) (ρ : Dev nD → PrngReg) (hO : Ok m) :
    θ_run defs (onTc (τ := τ) (main (F := Ideal))) ⟨m, fun _ => 0, ρ⟩ (fun r => ∀ c : Dev nD,
      r.2.mem ((c.tc : Thread nD τ).loc main_v4) = endAt m hO c main_v4
      ∧ r.2.mem ((c.tc : Thread nD τ).loc main_v5) = endAt m hO c main_v5
      ∧ r.2.mem ((c.tc : Thread nD τ).loc main_v7) = endAt m hO c main_v7
      ∧ r.2.mem ((c.tc : Thread nD τ).loc main_v8) = endAt m hO c main_v8
      ∧ r.2.mem ((c.tc : Thread nD τ).loc main_v10) = endAt m hO c main_v10
      ∧ r.2.mem ((c.tc : Thread nD τ).loc main_v11) = endAt m hO c main_v11
      ∧ r.2.mem ((c.tc : Thread nD τ).loc main_v12) = endAt m hO c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2 main_v4 (by decide : main_v4 ∈ Pipeline.restRefs sig spec0),
    (h c).2 main_v5 (by decide : main_v5 ∈ Pipeline.restRefs sig spec0),
    (h c).2 main_v7 (by decide : main_v7 ∈ Pipeline.restRefs sig spec0),
    (h c).2 main_v8 (by decide : main_v8 ∈ Pipeline.restRefs sig spec0),
    (h c).2 main_v10 (by decide : main_v10 ∈ Pipeline.restRefs sig spec0),
    (h c).2 main_v11 (by decide : main_v11 ∈ Pipeline.restRefs sig spec0),
    (h c).2 main_v12 (by decide : main_v12 ∈ Pipeline.restRefs sig spec0),
    ((h c).2 main_arg0 (by decide : main_arg0 ∈ Pipeline.restRefs sig spec0)).trans (W_main_arg0 m hO (dats m hO) c),
    ((h c).2 main_arg1 (by decide : main_arg1 ∈ Pipeline.restRefs sig spec0)).trans (W_main_arg1 m hO (dats m hO) c),
    ((h c).2 main_arg2 (by decide : main_arg2 ∈ Pipeline.restRefs sig spec0)).trans (W_main_arg2 m hO (dats m hO) c),
    ((h c).2 main_arg3 (by decide : main_arg3 ∈ Pipeline.restRefs sig spec0)).trans (W_main_arg3 m hO (dats m hO) c)⟩) (run_main m ρ hO)

end Cert.KernelIdeal.Gen

namespace Cert.Value

open Idealize.ShloMosaic Idealize.ShloMosaic.TcCoe Idealize.SL.Sem
open Cert.KernelIdeal.Gen (endAt pk bmax)
open Cert.ReferenceIdeal.Value (pl)

/-- The value claim. -/
theorem algebraic : Cert.algebraic_KernelIdeal_ReferenceIdeal_pre_in_range := by
  intro m g m' g' hpre hag
  have hO : Cert.KernelIdeal.Gen.Ok m := trivial
  have hin := fun c => Cert.Pre_in_range.Gen.in_range _ _ _ _ (hpre c)
  have H : ∀ c : Dev Cert.KernelIdeal.nD, Cert.KernelIdeal.Gen.Inputs m c
      (fun i => EReal.toReal ((m ((c.tc : Thread Cert.KernelIdeal.nD Cert.KernelIdeal.τ).loc Cert.KernelIdeal.main_arg0) : Cert.KernelIdeal.S4x512x2880.Idx → EReal) i))
      (fun i => EReal.toReal ((m ((c.tc : Thread Cert.KernelIdeal.nD Cert.KernelIdeal.τ).loc Cert.KernelIdeal.main_arg1) : Cert.KernelIdeal.S4x512x960.Idx → EReal) i))
      (fun i => EReal.toReal ((m ((c.tc : Thread Cert.KernelIdeal.nD Cert.KernelIdeal.τ).loc Cert.KernelIdeal.main_arg2) : Cert.KernelIdeal.S4x512x960.Idx → EReal) i)) := fun c =>
    { a0 := fun i => ((hin c).1 i).1
      a1 := fun i => ((hin c).2.1 i).1
      a2 := fun i => ((hin c).2.2.1 i).1
      b0 := fun i => ((hin c).1 i).2
      b1 := fun i => ((hin c).2.1 i).2
      b2 := fun i => ((hin c).2.2.1 i).2
      p3 := fun b => (hin 0).2.2.2 _ }
  have H' : ∀ c : Dev Cert.KernelIdeal.nD, Cert.ReferenceIdeal.Value.Inputs (StableHlo.launchContents m' c) _ _ _ := fun c =>
    { a0 := fun i => (congrFun (hag c).1 i).trans ((H c).a0 i)
      a1 := fun i => (congrFun (hag c).2.1 i).trans ((H c).a1 i)
      a2 := fun i => (congrFun (hag c).2.2.1 i).trans ((H c).a2 i)
      b0 := (H c).b0
      b1 := (H c).b1
      b2 := (H c).b2 }
  have hp : ∀ (c : Dev Cert.KernelIdeal.nD) b, pk m b = pl (StableHlo.launchContents m' c) b := fun c b => by
    obtain rfl : c = 0 := Subsingleton.elim _ _
    exact (congrFun (hag 0).2.2.2 (ix1 b)).symm
  refine ⟨fun c => endAt m hO c _, fun c => endAt m hO c _, fun c => endAt m hO c _, fun c => endAt m hO c _, fun c => endAt m hO c _,
    fun c => endAt m hO c _, fun c => endAt m hO c _, Cert.KernelIdeal.Gen.run_values m g hO, ?_⟩
  refine (θ_run Cert.ReferenceIdeal.defs _ _).mono (fun r h c => ?_) (Cert.ReferenceIdeal.Value.run (F := Ideal) m' g')
  obtain ⟨h1, h2, h3, h4, h5, h6, h7, ha⟩ := h c
  exact ⟨h1.trans (Cert.Equal.out (hO := hO) (H c) (H' c) (hp c)).symm, h2.trans (Cert.Equal.qcodes (hO := hO) (H c) (H' c)).symm,
    h3.trans (Cert.Equal.qscales (hO := hO) (H c) (H' c)).symm, h4.trans (Cert.Equal.kcodes (hO := hO) (H c) (H' c)).symm,
    h5.trans (Cert.Equal.kscales (hO := hO) (H c) (H' c)).symm, h6.trans (Cert.Equal.vcodes (hO := hO) (H c) (H' c)).symm,
    h7.trans (Cert.Equal.vscales (hO := hO) (H c) (H' c)).symm, ha⟩

end Cert.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Bits.Frame
public import proofs.«01_k».proof.Proof.Named.Frame
public import proofs.«01_k».proof.Proof.RefFrames
public import proofs.«01_k».proof.Proof.Value.Claim
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Reference.Gen.facts, Cert.Pre_in_range.Gen.facts,
    fun m ρ _ => Cert.Kernel.Gen.frame m ρ trivial,
    fun m ρ _ => Cert.KernelIdeal.Gen.frame m ρ trivial,
    fun m ρ _ => Cert.KernelIdeal.Gen.frame m ρ trivial,
    Cert.RefFrames.frame_ri, fun m ρ _ => Cert.RefFrames.frame_ri m ρ trivial, Cert.RefFrames.frame_r,
    Cert.RefFrames.preserves, trivial, Cert.Value.algebraic⟩

end Cert.Proof

end
